-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def preserves_Kernel_KernelIdeal : Prop :=
  IdealRules.named_const.Statement Cert.KernelIdeal.κ "seventh" .f32 0x3E124925#32 ((1 / 7 : ℝ) : EReal)
  ∧ IdealRules.named_const.Statement Cert.KernelIdeal.κ "root_half" .bf16 0x3F35#16 (((Real.sqrt 2)⁻¹ : ℝ) : EReal)
  ∧ IdealRules.named_const.Statement Cert.KernelIdeal.κ "root_half" .f32 0x3F3504F3#32 (((Real.sqrt 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v387) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x512x256 : Shape := ⟨3, ![4, 512, 256]⟩
abbrev S512x256 : Shape := ⟨2, ![512, 256]⟩
abbrev S512 : Shape := ⟨1, ![512]⟩
abbrev S512x512 : Shape := ⟨2, ![512, 512]⟩
abbrev S2x1536x512 : Shape := ⟨3, ![2, 1536, 512]⟩
abbrev S2x1536 : Shape := ⟨2, ![2, 1536]⟩
abbrev S2x512x512 : Shape := ⟨3, ![2, 512, 512]⟩
abbrev S2x512 : Shape := ⟨2, ![2, 512]⟩
abbrev S2x2048x512 : Shape := ⟨3, ![2, 2048, 512]⟩
abbrev S2x2048 : Shape := ⟨2, ![2, 2048]⟩
abbrev S2x512x2048 : Shape := ⟨3, ![2, 512, 2048]⟩
abbrev S4x512 : Shape := ⟨2, ![4, 512]⟩
abbrev S4 : Shape := ⟨1, ![4]⟩
abbrev S4x1024x512 : Shape := ⟨3, ![4, 1024, 512]⟩
abbrev S4x1024 : Shape := ⟨2, ![4, 1024]⟩
abbrev S4x512x1024 : Shape := ⟨3, ![4, 512, 1024]⟩
abbrev S256x512 : Shape := ⟨2, ![256, 512]⟩
abbrev S256 : Shape := ⟨1, ![256]⟩
abbrev S_ : Shape := ⟨0, ![]⟩

class Facts : Prop where
  bcast_S_S4x512x256 : S_.BroadcastsInDim S4x512x256 (![] : Fin 0 → Fin S4x512x256.rank)
  reducesTo_S4x512x256_S_d0_1_2 : S4x512x256.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S2x1536x512 : S_.BroadcastsInDim S2x1536x512 (![] : Fin 0 → Fin S2x1536x512.rank)
  reducesTo_S2x1536x512_S_d0_1_2 : S2x1536x512.ReducesTo [0, 1, 2] S_
  bcast_S_S2x1536 : S_.BroadcastsInDim S2x1536 (![] : Fin 0 → Fin S2x1536.rank)
  reducesTo_S2x1536_S_d0_1 : S2x1536.ReducesTo [0, 1] S_
  bcast_S_S2x512x512 : S_.BroadcastsInDim S2x512x512 (![] : Fin 0 → Fin S2x512x512.rank)
  reducesTo_S2x512x512_S_d0_1_2 : S2x512x512.ReducesTo [0, 1, 2] S_
  bcast_S_S2x512 : S_.BroadcastsInDim S2x512 (![] : Fin 0 → Fin S2x512.rank)
  reducesTo_S2x512_S_d0_1 : S2x512.ReducesTo [0, 1] S_
  bcast_S_S2x2048x512 : S_.BroadcastsInDim S2x2048x512 (![] : Fin 0 → Fin S2x2048x512.rank)
  reducesTo_S2x2048x512_S_d0_1_2 : S2x2048x512.ReducesTo [0, 1, 2] S_
  bcast_S_S2x2048 : S_.BroadcastsInDim S2x2048 (![] : Fin 0 → Fin S2x2048.rank)
  reducesTo_S2x2048_S_d0_1 : S2x2048.ReducesTo [0, 1] S_
  bcast_S_S2x512x2048 : S_.BroadcastsInDim S2x512x2048 (![] : Fin 0 → Fin S2x512x2048.rank)
  reducesTo_S2x512x2048_S_d0_1_2 : S2x512x2048.ReducesTo [0, 1, 2] S_
  bcast_S_S4x512 : S_.BroadcastsInDim S4x512 (![] : Fin 0 → Fin S4x512.rank)
  reducesTo_S4x512_S_d0_1 : S4x512.ReducesTo [0, 1] S_
  bcast_S_S4 : S_.BroadcastsInDim S4 (![] : Fin 0 → Fin S4.rank)
  reducesTo_S4_S_d0 : S4.ReducesTo [0] S_

variable [Facts]

def fn_part5 {F : FTy → Type} [FloatOps F] (main_arg18 : FVec F S4x512 .f32) (main_arg19 : FVec F S4 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S4x512 .f32 := Host.absf main_arg18
  let main_cst_34 : FVec F S_ .f32 := constant S_ .f32 0x7F800000#32
  let main_v90 : FVec F S4x512 .f32 := broadcastInDim S4x512 ![] bcast_S_S4x512 main_cst_34
  let main_v91 : IVec S4x512 1 := cmpf .olt main_v89 main_v90
  let main_c_35 : IVec S_ 1 := constantI S_ 1 1#1
  let main_v92 : IVec S_ 1 := (fun x v => Host.reduce IntOp.andi x v reducesTo_S4x512_S_d0_1 h_S_) main_v91 main_c_35
  let main_v93 : IVec S_ 1 := andi main_v88 main_v92
  let main_v94 : FVec F S4 .f32 := Host.absf main_arg19
  let main_cst_36 : FVec F S_ .f32 := constant S_ .f32 0x7F800000#32
  let main_v95 : FVec F S4 .f32 := broadcastInDim S4 ![] bcast_S_S4 main_cst_36
  let main_v96 : IVec S4 1 := cmpf .olt main_v94 main_v95
  let main_c_37 : IVec S_ 1 := constantI S_ 1 1#1
  let main_v97 : IVec S_ 1 := (fun x v => Host.reduce IntOp.andi x v reducesTo_S4_S_d0 h_S_) main_v96 main_c_37
  let main_v98 : IVec S_ 1 := andi main_v93 main_v97
  main_v98

def fn_part4 {F : FTy → Type} [FloatOps F] (main_arg14 : FVec F S2x512x2048 .f32) (main_arg15 : FVec F S2x512 .f32) (main_arg16 : FVec F S512 .f32) (main_arg17 : FVec F S512 .f32) (main_arg18 : FVec F S4x512 .f32) (main_arg19 : FVec F S4 .f32) (main_v63 : IVec S_ 1) (main_v67 : IVec S_ 1) : IVec S_ 1 :=
  let main_v68 : IVec S_ 1 := andi main_v63 main_v67
  let main_v69 : FVec F S2x512x2048 .f32 := Host.absf main_arg14
  let main_cst_26 : FVec F S_ .f32 := constant S_ .f32 0x7F800000#32
  let main_v70 : FVec F S2x512x2048 .f32 := broadcastInDim S2x512x2048 ![] bcast_S_S2x512x2048 main_cst_26
  let main_v71 : IVec S2x512x2048 1 := cmpf .olt main_v69 main_v70
  let main_c_27 : IVec S_ 1 := constantI S_ 1 1#1
  let main_v72 : IVec S_ 1 := (fun x v => Host.reduce IntOp.andi x v reducesTo_S2x512x2048_S_d0_1_2 h_S_) main_v71 main_c_27
  let main_v73 : IVec S_ 1 := andi main_v68 main_v72
  let main_v74 : FVec F S2x512 .f32 := Host.absf main_arg15
  let main_cst_28 : FVec F S_ .f32 := constant S_ .f32 0x7F800000#32
  let main_v75 : FVec F S2x512 .f32 := broadcastInDim S2x512 ![] bcast_S_S2x512 main_cst_28
  let main_v76 : IVec S2x512 1 := cmpf .olt main_v74 main_v75
  let main_c_29 : IVec S_ 1 := constantI S_ 1 1#1
  let main_v77 : IVec S_ 1 := (fun x v => Host.reduce IntOp.andi x v reducesTo_S2x512_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S2x512 .f32) (main_arg12 : FVec F S2x2048x512 .f32) (main_arg13 : FVec F S2x2048 .f32) (main_arg14 : FVec F S2x512x2048 .f32) (main_arg15 : FVec F S2x512 .f32) (main_arg16 : FVec F S512 .f32) (main_arg17 : FVec F S512 .f32) (main_arg18 : FVec F S4x512 .f32) (main_arg19 : FVec F S4 .f32) (main_v48 : IVec S_ 1) (main_v49 : FVec F S2x512 .f32) (main_v50 : FVec F S2x512 .f32) : IVec S_ 1 :=
  let main_v51 : IVec S2x512 1 := cmpf .olt main_v49 main_v50
  let main_c_19 : IVec S_ 1 := constantI S_ 1 1#1
  let main_v52 : IVec S_ 1 := (fun x v => Host.reduce IntOp.andi x v reducesTo_S2x512_S_d0_1 h_S_) main_v51 main_c_19
  let main_v53 : IVec S_ 1 := andi main_v48 main_v52
  let main_v54 : FVec F S2x512 .f32 := Host.absf main_arg11
  let main_cst_20 : FVec F S_ .f32 := constant S_ .f32 0x7F800000#32
  let main_v55 : FVec F S2x512 .f32 := broadcastInDim S2x512 ![] bcast_S_S2x512 main_cst_20
  let main_v56 : IVec S2x512 1 := cmpf .olt main_v54 main_v55
  let main_c_21 : IVec S_ 1 := constantI S_ 1 1#1
  let main_v57 : IVec S_ 1 := (fun x v => Host.reduce IntOp.andi x v reducesTo_S2x512_S_d0_1 h_S_) main_v56 main_c_21
  let main_v58 : IVec S_ 1 := andi main_v53 main_v57
  let main_v59 : FVec F S2x2048x512 .f32 := Host.absf main_arg12
  let main_cst_22 : FVec F S_ .f32 := constant S_ .f32 0x7F800000#32
  let main_v60 : FVec F S2x2048x512 .f32 := broadcastInDim S2x2048x512 ![] bcast_S_S2x2048x512 main_cst_22
  let main_v61 : IVec S2x2048x512 1 := cmpf .olt main_v59 main_v60
  let main_c_23 : IVec S_ 1 := constantI S_ 1 1#1
  let main_v62 : IVec S_ 1 := (fun x v => Host.reduce IntOp.andi x v reducesTo_S2x2048x512_S_d0_1_2 h_S_) main_v61 main_c_23
  let main_v63 : IVec S_ 1 := andi main_v58 main_v62
  let main_v64 : FVec F S2x2048 .f32 := Host.absf main_arg13
  let main_cst_24 : FVec F S_ .f32 := constant S_ .f32 0x7F800000#32
  let main_v65 : FVec F S2x2048 .f32 := broadcastInDim S2x2048 ![] bcast_S_S2x2048 main_cst_24
  let main_v66 : IVec S2x2048 1 := cmpf .olt main_v64 main_v65
  let main_c_25 : IVec S_ 1 := constantI S_ 1 1#1
  let main_v67 : IVec S_ 1 := (fun x v => Host.reduce IntOp.andi x v reducesTo_S2x2048_S_d0_1 h_S_) main_v66 main_c_25
  fn_part4 (F := F) main_arg14 main_arg15 main_arg16 main_arg17 main_arg18 main_arg19 main_v63 main_v67

def fn_part2 {F : FTy → Type} [FloatOps F] (main_arg7 : FVec F S2x512 .f32) (main_arg8 : FVec F S2x512 .f32) (main_arg9 : FVec F S2x512 .f32) (main_arg10 : FVec F S2x512 .f32) (main_arg11 : FVec F S2x512 .f32) (main_arg12 : FVec F S2x2048x512 .f32) (main_arg13 : FVec F S2x2048 .f32) (main_arg14 : FVec F S2x512x2048 .f32) (main_arg15 : FVec F S2x512 .f32) (main_arg16 : FVec F S512 .f32) (main_arg17 : FVec F S512 .f32) (main_arg18 : FVec F S4x512 .f32) (main_arg19 : FVec F S4 .f32) (main_v33 : IVec S_ 1) : IVec S_ 1 :=
  let main_v34 : FVec F S2x512 .f32 := Host.absf main_arg7
  let main_cst_12 : FVec F S_ .f32 := constant S_ .f32 0x7F800000#32
  let main_v35 : FVec F S2x512 .f32 := broadcastInDim S2x512 ![] bcast_S_S2x512 main_cst_12
  let main_v36 : IVec S2x512 1 := cmpf .olt main_v34 main_v35
  let main_c_13 : IVec S_ 1 := constantI S_ 1 1#1
  let main_v37 : IVec S_ 1 := (fun x v => Host.reduce IntOp.andi x v reducesTo_S2x512_S_d0_1 h_S_) main_v36 main_c_13
  let main_v38 : IVec S_ 1 := andi main_v33 main_v37
  let main_v39 : FVec F S2x512 .f32 := Host.absf main_arg8
  let main_cst_14 : FVec F S_ .f32 := constant S_ .f32 0x7F800000#32
  let main_v40 : FVec F S2x512 .f32 := broadcastInDim S2x512 ![] bcast_S_S2x512 main_cst_14
  let main_v41 : IVec S2x512 1 := cmpf .olt main_v39 main_v40
  let main_c_15 : IVec S_ 1 := constantI S_ 1 1#1
  let main_v42 : IVec S_ 1 := (fun x v => Host.reduce IntOp.andi x v reducesTo_S2x512_S_d0_1 h_S_) main_v41 main_c_15
  let main_v43 : IVec S_ 1 := andi main_v38 main_v42
  let main_v44 : FVec F S2x512 .f32 := Host.absf main_arg9
  let main_cst_16 : FVec F S_ .f32 := constant S_ .f32 0x7F800000#32
  let main_v45 : FVec F S2x512 .f32 := broadcastInDim S2x512 ![] bcast_S_S2x512 main_cst_16
  let main_v46 : IVec S2x512 1 := cmpf .olt main_v44 main_v45
  let main_c_17 : IVec S_ 1 := constantI S_ 1 1#1
  let main_v47 : IVec S_ 1 := (fun x v => Host.reduce IntOp.andi x v reducesTo_S2x512_S_d0_1 h_S_) main_v46 main_c_17
  let main_v48 : IVec S_ 1 := andi main_v43 main_v47
  let main_v49 : FVec F S2x512 .f32 := Host.absf main_arg10
  let main_cst_18 : FVec F S_ .f32 := constant S_ .f32 0x7F800000#32
  let main_v50 : FVec F S2x512 .f32 := broadcastInDim S2x512 ![] bcast_S_S2x512 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S2x1536x512 .f32) (main_arg5 : FVec F S2x1536 .f32) (main_arg6 : FVec F S2x512x512 .f32) (main_arg7 : FVec F S2x512 .f32) (main_arg8 : FVec F S2x512 .f32) (main_arg9 : FVec F S2x512 .f32) (main_arg10 : FVec F S2x512 .f32) (main_arg11 : FVec F S2x512 .f32) (main_arg12 : FVec F S2x2048x512 .f32) (main_arg13 : FVec F S2x2048 .f32) (main_arg14 : FVec F S2x512x2048 .f32) (main_arg15 : FVec F S2x512 .f32) (main_arg16 : FVec F S512 .f32) (main_arg17 : FVec F S512 .f32) (main_arg18 : FVec F S4x512 .f32) (main_arg19 : FVec F S4 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S2x1536x512 .f32 := Host.absf main_arg4
  let main_cst_6 : FVec F S_ .f32 := constant S_ .f32 0x7F800000#32
  let main_v20 : FVec F S2x1536x512 .f32 := broadcastInDim S2x1536x512 ![] bcast_S_S2x1536x512 main_cst_6
  let main_v21 : IVec S2x1536x512 1 := cmpf .olt main_v19 main_v20
  let main_c_7 : IVec S_ 1 := constantI S_ 1 1#1
  let main_v22 : IVec S_ 1 := (fun x v => Host.reduce IntOp.andi x v reducesTo_S2x1536x512_S_d0_1_2 h_S_) main_v21 main_c_7
  let main_v23 : IVec S_ 1 := andi main_v18 main_v22
  let main_v24 : FVec F S2x1536 .f32 := Host.absf main_arg5
  let main_cst_8 : FVec F S_ .f32 := constant S_ .f32 0x7F800000#32
  let main_v25 : FVec F S2x1536 .f32 := broadcastInDim S2x1536 ![] bcast_S_S2x1536 main_cst_8
  let main_v26 : IVec S2x1536 1 := cmpf .olt main_v24 main_v25
  let main_c_9 : IVec S_ 1 := constantI S_ 1 1#1
  let main_v27 : IVec S_ 1 := (fun x v => Host.reduce IntOp.andi x v reducesTo_S2x1536_S_d0_1 h_S_) main_v26 main_c_9
  let main_v28 : IVec S_ 1 := andi main_v23 main_v27
  let main_v29 : FVec F S2x512x512 .f32 := Host.absf main_arg6
  let main_cst_10 : FVec F S_ .f32 := constant S_ .f32 0x7F800000#32
  let main_v30 : FVec F S2x512x512 .f32 := broadcastInDim S2x512x512 ![] bcast_S_S2x512x512 main_cst_10
  let main_v31 : IVec S2x512x512 1 := cmpf .olt main_v29 main_v30
  let main_c_11 : IVec S_ 1 := constantI S_ 1 1#1
  let main_v32 : IVec S_ 1 := (fun x v => Host.reduce IntOp.andi x v reducesTo_S2x512x512_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S4x512x256 .f32) (main_arg1 : FVec F S512x256 .f32) (main_arg2 : FVec F S512 .f32) (main_arg3 : FVec F S512x512 .f32) (main_arg4 : FVec F S2x1536x512 .f32) (main_arg5 : FVec F S2x1536 .f32) (main_arg6 : FVec F S2x512x512 .f32) (main_arg7 : FVec F S2x512 .f32) (main_arg8 : FVec F S2x512 .f32) (main_arg9 : FVec F S2x512 .f32) (main_arg10 : FVec F S2x512 .f32) (main_arg11 : FVec F S2x512 .f32) (main_arg12 : FVec F S2x2048x512 .f32) (main_arg13 : FVec F S2x2048 .f32) (main_arg14 : FVec F S2x512x2048 .f32) (main_arg15 : FVec F S2x512 .f32) (main_arg16 : FVec F S512 .f32) (main_arg17 : FVec F S512 .f32) (main_arg18 : FVec F S4x512 .f32) (main_arg19 : FVec F S4 .f32) (main_arg20 : FVec F S4x1024x512 .f32) (main_arg21 : FVec F S4x1024 .f32) (main_arg22 : FVec F S4x512x1024 .f32) (main_arg23 : FVec F S4x512 .f32) (main_arg24 : FVec F S512 .f32) (main_arg25 : FVec F S512 .f32) (main_arg26 : FVec F S256x512 .f32) (main_arg27 : FVec F S256 .f32) : IVec S_ 1 :=
  let main_v0 : FVec F S4x512x256 .f32 := Host.absf main_arg0
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  let main_c : IVec S_ 1 := constantI S_ 1 1#1
  let main_v3 : IVec S_ 1 := (fun x v => Host.reduce IntOp.andi x v reducesTo_S4x512x256_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S4x512x256 : Shape := ⟨3, ![4, 512, 256]⟩
abbrev S512x256 : Shape := ⟨2, ![512, 256]⟩
abbrev S512 : Shape := ⟨1, ![512]⟩
abbrev S512x512 : Shape := ⟨2, ![512, 512]⟩
abbrev S2x1536x512 : Shape := ⟨3, ![2, 1536, 512]⟩
abbrev S2x1536 : Shape := ⟨2, ![2, 1536]⟩
abbrev S2x512x512 : Shape := ⟨3, ![2, 512, 512]⟩
abbrev S2x512 : Shape := ⟨2, ![2, 512]⟩
abbrev S2x2048x512 : Shape := ⟨3, ![2, 2048, 512]⟩
abbrev S2x2048 : Shape := ⟨2, ![2, 2048]⟩
abbrev S2x512x2048 : Shape := ⟨3, ![2, 512, 2048]⟩
abbrev S4x512 : Shape := ⟨2, ![4, 512]⟩
abbrev S4 : Shape := ⟨1, ![4]⟩
abbrev S4x1024x512 : Shape := ⟨3, ![4, 1024, 512]⟩
abbrev S4x1024 : Shape := ⟨2, ![4, 1024]⟩
abbrev S4x512x1024 : Shape := ⟨3, ![4, 512, 1024]⟩
abbrev S256x512 : Shape := ⟨2, ![256, 512]⟩
abbrev S256 : Shape := ⟨1, ![256]⟩
abbrev S1x512 : Shape := ⟨2, ![1, 512]⟩
abbrev S1x512x512 : Shape := ⟨3, ![1, 512, 512]⟩
abbrev S1x2048x512 : Shape := ⟨3, ![1, 2048, 512]⟩
abbrev S1x512x2048 : Shape := ⟨3, ![1, 512, 2048]⟩
abbrev S1536x512 : Shape := ⟨2, ![1536, 512]⟩
abbrev S2048x512 : Shape := ⟨2, ![2048, 512]⟩
abbrev S512x2048 : Shape := ⟨2, ![512, 2048]⟩
abbrev S1024x512 : Shape := ⟨2, ![1024, 512]⟩
abbrev S2048x1536 : Shape := ⟨2, ![2048, 1536]⟩
abbrev S2048x2048 : Shape := ⟨2, ![2048, 2048]⟩
abbrev S2048x1024 : Shape := ⟨2, ![2048, 1024]⟩
abbrev S1x1536x512 : Shape := ⟨3, ![1, 1536, 512]⟩
abbrev S1x1024x512 : Shape := ⟨3, ![1, 1024, 512]⟩
abbrev S1x1536 : Shape := ⟨2, ![1, 1536]⟩
abbrev S1x1024 : Shape := ⟨2, ![1, 1024]⟩
abbrev S1x512x256 : Shape := ⟨3, ![1, 512, 256]⟩
abbrev S1x256 : Shape := ⟨2, ![1, 256]⟩
abbrev S511x256 : Shape := ⟨2, ![511, 256]⟩
abbrev S2x256 : Shape := ⟨2, ![2, 256]⟩
abbrev S510x256 : Shape := ⟨2, ![510, 256]⟩
abbrev S3x256 : Shape := ⟨2, ![3, 256]⟩
abbrev S509x256 : Shape := ⟨2, ![509, 256]⟩
abbrev S2048x256 : Shape := ⟨2, ![2048, 256]⟩
abbrev S512x64 : Shape := ⟨2, ![512, 64]⟩
abbrev S512x1 : Shape := ⟨2, ![512, 1]⟩
abbrev S2048 : Shape := ⟨1, ![2048]⟩
abbrev S2048x1 : Shape := ⟨2, ![2048, 1]⟩
abbrev S1x2048 : Shape := ⟨2, ![1, 2048]⟩
abbrev S1x64 : Shape := ⟨2, ![1, 64]⟩
abbrev S1 : Shape := ⟨1, ![1]⟩
abbrev S1x1 : Shape := ⟨2, ![1, 1]⟩
abbrev S4x4x256 : Shape := ⟨3, ![4, 4, 256]⟩
abbrev S1x4 : Shape := ⟨2, ![1, 4]⟩
abbrev S4x1x1024 : Shape := ⟨3, ![4, 1, 1024]⟩
abbrev S4x1x512 : Shape := ⟨3, ![4, 1, 512]⟩
abbrev S4x256 : Shape := ⟨2, ![4, 256]⟩
abbrev S4x1 : Shape := ⟨2, ![4, 1]⟩
abbrev S4x2048 : Shape := ⟨2, ![4, 2048]⟩
abbrev S4x4 : Shape := ⟨2, ![4, 4]⟩
abbrev S1x1x1024 : Shape := ⟨3, ![1, 1, 1024]⟩
abbrev S1x512x1024 : Shape := ⟨3, ![1, 512, 1024]⟩
abbrev S512x1024 : Shape := ⟨2, ![512, 1024]⟩
abbrev S1x1x512 : Shape := ⟨3, ![1, 1, 512]⟩
abbrev S4x1x256 : Shape := ⟨3, ![4, 1, 256]⟩

abbrev nBuf : Space → Nat
  | .hbm => 41
  | .vmem => 54
  | .smem => 0
  | _ => 0

abbrev bufTy : (tb : Table) → Fin (tcTables nBuf tb) → BufTy
  | .hbm, ⟨0, _⟩ => ⟨S4x512x256, .f32⟩
  | .hbm, ⟨1, _⟩ => ⟨S512x256, .f32⟩
  | .hbm, ⟨2, _⟩ => ⟨S512, .f32⟩
  | .hbm, ⟨3, _⟩ => ⟨S512x512, .f32⟩
  | .hbm, ⟨4, _⟩ => ⟨S2x1536x512, .f32⟩
  | .hbm, ⟨5, _⟩ => ⟨S2x1536, .f32⟩
  | .hbm, ⟨6, _⟩ => ⟨S2x512x512, .f32⟩
  | .hbm, ⟨7, _⟩ => ⟨S2x512, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S2x512, .f32⟩
  | .hbm, ⟨12, _⟩ => ⟨S2x2048x512, .f32⟩
  | .hbm, ⟨13, _⟩ => ⟨S2x2048, .f32⟩
  | .hbm, ⟨14, _⟩ => ⟨S2x512x2048, .f32⟩
  | .hbm, ⟨15, _⟩ => ⟨S2x512, .f32⟩
  | .hbm, ⟨16, _⟩ => ⟨S512, .f32⟩
  | .hbm, ⟨17, _⟩ => ⟨S512, .f32⟩
  | .hbm, ⟨18, _⟩ => ⟨S4x512, .f32⟩
  | .hbm, ⟨19, _⟩ => ⟨S4, .f32⟩
  | .hbm, ⟨20, _⟩ => ⟨S4x1024x512, .f32⟩
  | .hbm, ⟨21, _⟩ => ⟨S4x1024, .f32⟩
  | .hbm, ⟨22, _⟩ => ⟨S4x512x1024, .f32⟩
  | .hbm, ⟨23, _⟩ => ⟨S4x512, .f32⟩
  | .hbm, ⟨24, _⟩ => ⟨S512, .f32⟩
  | .hbm, ⟨25, _⟩ => ⟨S512, .f32⟩
  | .hbm, ⟨26, _⟩ => ⟨S256x512, .f32⟩
  | .hbm, ⟨27, _⟩ => ⟨S256, .f32⟩
  | .hbm, ⟨28, _⟩ => ⟨S1x512, .f32⟩
  | .hbm, ⟨29, _⟩ => ⟨S4x512, .f32⟩
  | .hbm, ⟨30, _⟩ => ⟨S4x512, .f32⟩
  | .hbm, ⟨31, _⟩ => ⟨S4x4x256, .f32⟩
  | .hbm, ⟨32, _⟩ => ⟨S1x512, .f32⟩
  | .hbm, ⟨33, _⟩ => ⟨S1x512, .f32⟩
  | .hbm, ⟨34, _⟩ => ⟨S1x4, .f32⟩
  | .hbm, ⟨35, _⟩ => ⟨S4x1x1024, .f32⟩
  | .hbm, ⟨36, _⟩ => ⟨S4x1x512, .f32⟩
  | .hbm, ⟨37, _⟩ => ⟨S1x512, .f32⟩
  | .hbm, ⟨38, _⟩ => ⟨S1x512, .f32⟩
  | .hbm, ⟨39, _⟩ => ⟨S1x256, .f32⟩
  | .hbm, ⟨40, _⟩ => ⟨S4x256, .f32⟩
  | .local _ .vmem, ⟨0, _⟩ => ⟨S4x512x256, .f32⟩
  | .local _ .vmem, ⟨1, _⟩ => ⟨S512x512, .f32⟩
  | .local _ .vmem, ⟨2, _⟩ => ⟨S512x256, .f32⟩
  | .local _ .vmem, ⟨3, _⟩ => ⟨S1x512, .f32⟩
  | .local _ .vmem, ⟨4, _⟩ => ⟨S2x1536x512, .f32⟩
  | .local _ .vmem, ⟨5, _⟩ => ⟨S2x1536, .f32⟩
  | .local _ .vmem, ⟨6, _⟩ => ⟨S1x512x512, .f32⟩
  | .local _ .vmem, ⟨7, _⟩ => ⟨S2x512, .f32⟩
  | .local _ .vmem, ⟨8, _⟩ => ⟨S2x512, .f32⟩
  | .local _ .vmem, ⟨9, _⟩ => ⟨S2x512, .f32⟩
  | .local _ .vmem, ⟨10, _⟩ => ⟨S1x2048x512, .f32⟩
  | .local _ .vmem, ⟨11, _⟩ => ⟨S2x2048, .f32⟩
  | .local _ .vmem, ⟨12, _⟩ => ⟨S1x512x2048, .f32⟩
  | .local _ .vmem, ⟨13, _⟩ => ⟨S2x512, .f32⟩
  | .local _ .vmem, ⟨14, _⟩ => ⟨S2x512, .f32⟩
  | .local _ .vmem, ⟨15, _⟩ => ⟨S2x512, .f32⟩
  | .local _ .vmem, ⟨16, _⟩ => ⟨S4x512, .f32⟩
  | .local _ .vmem, ⟨17, _⟩ => ⟨S4x512, .f32⟩
  | .local _ .vmem, ⟨18, _⟩ => ⟨S512x256, .bf16⟩
  | .local _ .vmem, ⟨19, _⟩ => ⟨S1536x512, .bf16⟩
  | .local _ .vmem, ⟨20, _⟩ => ⟨S512x512, .bf16⟩
  | .local _ .vmem, ⟨21, _⟩ => ⟨S2048x512, .bf16⟩
  | .local _ .vmem, ⟨22, _⟩ => ⟨S512x2048, .bf16⟩
  | .local _ .vmem, ⟨23, _⟩ => ⟨S1024x512, .bf16⟩
  | .local _ .vmem, ⟨24, _⟩ => ⟨S512x512, .bf16⟩
  | .local _ .vmem, ⟨25, _⟩ => ⟨S2048x1536, .bf16⟩
  | .local _ .vmem, ⟨26, _⟩ => ⟨S2048x2048, .bf16⟩
  | .local _ .vmem, ⟨27, _⟩ => ⟨S2048x1024, .bf16⟩
  | .local _ .vmem, ⟨28, _⟩ => ⟨S4x512, .f32⟩
  | .local _ .vmem, ⟨29, _⟩ => ⟨S4x512, .f32⟩
  | .local _ .vmem, ⟨30, _⟩ => ⟨S1x512x512, .f32⟩
  | .local _ .vmem, ⟨31, _⟩ => ⟨S2x512, .f32⟩
  | .local _ .vmem, ⟨32, _⟩ => ⟨S2x512, .f32⟩
  | .local _ .vmem, ⟨33, _⟩ => ⟨S2x512, .f32⟩
  | .local _ .vmem, ⟨34, _⟩ => ⟨S1x2048x512, .f32⟩
  | .local _ .vmem, ⟨35, _⟩ => ⟨S2x2048, .f32⟩
  | .local _ .vmem, ⟨36, _⟩ => ⟨S1x512x2048, .f32⟩
  | .local _ .vmem, ⟨37, _⟩ => ⟨S2x512, .f32⟩
  | .local _ .vmem, ⟨38, _⟩ => ⟨S2x512, .f32⟩
  | .local _ .vmem, ⟨39, _⟩ => ⟨S2x512, .f32⟩
  | .local _ .vmem, ⟨40, _⟩ => ⟨S1x512, .f32⟩
  | .local _ .vmem, ⟨41, _⟩ => ⟨S1x512, .f32⟩
  | .local _ .vmem, ⟨42, _⟩ => ⟨S4x512, .f32⟩
  | .local _ .vmem, ⟨43, _⟩ => ⟨S1x4, .f32⟩
  | .local _ .vmem, ⟨44, _⟩ => ⟨S4x1024x512, .f32⟩
  | .local _ .vmem, ⟨45, _⟩ => ⟨S4x1x1024, .f32⟩
  | .local _ .vmem, ⟨46, _⟩ => ⟨S4x512x1024, .f32⟩
  | .local _ .vmem, ⟨47, _⟩ => ⟨S4x1x512, .f32⟩
  | .local _ .vmem, ⟨48, _⟩ => ⟨S1x512, .f32⟩
  | .local _ .vmem, ⟨49, _⟩ => ⟨S1x512, .f32⟩
  | .local _ .vmem, ⟨50, _⟩ => ⟨S256x512, .f32⟩
  | .local _ .vmem, ⟨51, _⟩ => ⟨S1x256, .f32⟩
  | .local _ .vmem, ⟨52, _⟩ => ⟨S4x4x256, .f32⟩
  | .local _ .vmem, ⟨53, _⟩ => ⟨S4x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1_0 : Ref sig .tc := ⟨.hbm, 29, rfl⟩
abbrev main_v1_1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc1_stg0_0 : Ref sig .tc := ⟨.vmem, 28, rfl⟩
abbrev cc1_stg1_0 : Ref sig .tc := ⟨.vmem, 29, rfl⟩
abbrev cc1_stg2_0 : Ref sig .tc := ⟨.vmem, 30, rfl⟩
abbrev cc1_stg3_0 : Ref sig .tc := ⟨.vmem, 31, rfl⟩
abbrev cc1_stg4_0 : Ref sig .tc := ⟨.vmem, 32, rfl⟩
abbrev cc1_stg5_0 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg8_0 : Ref sig .tc := ⟨.vmem, 36, rfl⟩
abbrev cc1_stg9_0 : Ref sig .tc := ⟨.vmem, 37, rfl⟩
abbrev cc1_stg10_0 : Ref sig .tc := ⟨.vmem, 38, rfl⟩
abbrev cc1_stg11_0 : Ref sig .tc := ⟨.vmem, 39, rfl⟩
abbrev cc1_stg12_0 : Ref sig .tc := ⟨.vmem, 40, rfl⟩
abbrev cc1_stg13_0 : Ref sig .tc := ⟨.vmem, 41, rfl⟩
abbrev cc1_stg14_0 : Ref sig .tc := ⟨.vmem, 42, rfl⟩
abbrev cc1_stg15_0 : Ref sig .tc := ⟨.vmem, 43, rfl⟩
abbrev cc1_stg16_0 : Ref sig .tc := ⟨.vmem, 44, rfl⟩
abbrev cc1_stg17_0 : Ref sig .tc := ⟨.vmem, 45, rfl⟩
abbrev cc1_stg18_0 : Ref sig .tc := ⟨.vmem, 46, rfl⟩
abbrev cc1_stg19_0 : Ref sig .tc := ⟨.vmem, 47, rfl⟩
abbrev cc1_stg20_0 : Ref sig .tc := ⟨.vmem, 48, rfl⟩
abbrev cc1_stg21_0 : Ref sig .tc := ⟨.vmem, 49, rfl⟩
abbrev cc1_stg22_0 : Ref sig .tc := ⟨.vmem, 50, rfl⟩
abbrev cc1_stg23_0 : Ref sig .tc := ⟨.vmem, 51, rfl⟩
abbrev cc1_stg24_0 : Ref sig .tc := ⟨.vmem, 52, rfl⟩
abbrev cc1_stg25_0 : Ref sig .tc := ⟨.vmem, 53, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc1_sem0_0 : DmaSem sig := 18
abbrev cc1_sem1_0 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem13_0 : DmaSem sig := 31
abbrev cc1_sem14_0 : DmaSem sig := 32
abbrev cc1_sem15_0 : DmaSem sig := 33
abbrev cc1_sem16_0 : DmaSem sig := 34
abbrev cc1_sem17_0 : DmaSem sig := 35
abbrev cc1_sem18_0 : DmaSem sig := 36
abbrev cc1_sem19_0 : DmaSem sig := 37
abbrev cc1_sem20_0 : DmaSem sig := 38
abbrev cc1_sem21_0 : DmaSem sig := 39
abbrev cc1_sem22_0 : DmaSem sig := 40
abbrev cc1_sem23_0 : DmaSem sig := 41
abbrev cc1_sem24_0 : DmaSem sig := 42
abbrev cc1_sem25_0 : DmaSem sig := 43

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1536x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_17 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_18 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_19 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_24 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_25 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S2x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S2x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S2x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S4x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x4 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S4x1024x512 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S4x1x1024 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S4x512x1024 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S4x1x512 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x512 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S1x512 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S256x512 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S1x256 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]

abbrev stage1_24 : Fin 1 → Memref sig .tc .vmem S4x4x256 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false]

abbrev stage1_25 : Fin 1 → Memref sig .tc .vmem S4x256 .f32 := fun | 0 => Memref.whole cc1_stg25_0 | ⟨_ + 1, h⟩ => absurd h (Nat.not_lt.2 (Nat.le_add_left _ _))
abbrev sem1_25 : Fin 1 → DmaSem sig := fun | 0 => cc1_sem25_0 | ⟨_ + 1, h⟩ => absurd h (Nat.not_lt.2 (Nat.le_add_left _ _))
abbrev reads1_25 : Fin grid1.rank → Bool := ![false]
-- ==== KernelIdeal.lean ====
variable {F : FTy → Type} [FloatOps F] [Named F]
def κ : String → Option EReal := fun
  | "mask" => some ⊥
  | "root_half" => some (((Real.sqrt 2)⁻¹ : ℝ) : EReal)
  | "seventh" => some ((1 / 7 : ℝ) : EReal)
  | _ => none
-- ==== ReferenceIdeal.lean ====
abbrev S4x512x256 : Shape := ⟨3, ![4, 512, 256]⟩
abbrev S512x256 : Shape := ⟨2, ![512, 256]⟩
abbrev S512 : Shape := ⟨1, ![512]⟩
abbrev S512x512 : Shape := ⟨2, ![512, 512]⟩
abbrev S2x1536x512 : Shape := ⟨3, ![2, 1536, 512]⟩
abbrev S2x1536 : Shape := ⟨2, ![2, 1536]⟩
abbrev S2x512x512 : Shape := ⟨3, ![2, 512, 512]⟩
abbrev S2x512 : Shape := ⟨2, ![2, 512]⟩
abbrev S2x2048x512 : Shape := ⟨3, ![2, 2048, 512]⟩
abbrev S2x2048 : Shape := ⟨2, ![2, 2048]⟩
abbrev S2x512x2048 : Shape := ⟨3, ![2, 512, 2048]⟩
abbrev S4x512 : Shape := ⟨2, ![4, 512]⟩
abbrev S4 : Shape := ⟨1, ![4]⟩
abbrev S4x1024x512 : Shape := ⟨3, ![4, 1024, 512]⟩
abbrev S4x1024 : Shape := ⟨2, ![4, 1024]⟩
abbrev S4x512x1024 : Shape := ⟨3, ![4, 512, 1024]⟩
abbrev S256x512 : Shape := ⟨2, ![256, 512]⟩
abbrev S256 : Shape := ⟨1, ![256]⟩
abbrev S_ : Shape := ⟨0, ![]⟩
abbrev S4x518x256 : Shape := ⟨3, ![4, 518, 256]⟩
abbrev S4x512x512 : Shape := ⟨3, ![4, 512, 512]⟩
abbrev S1x1x512 : Shape := ⟨3, ![1, 1, 512]⟩
abbrev S1x512x512 : Shape := ⟨3, ![1, 512, 512]⟩
abbrev S1x1536x512 : Shape := ⟨3, ![1, 1536, 512]⟩
abbrev S1536x512 : Shape := ⟨2, ![1536, 512]⟩
abbrev S512x1536 : Shape := ⟨2, ![512, 1536]⟩
abbrev S4x512x1536 : Shape := ⟨3, ![4, 512, 1536]⟩
abbrev S1x1536 : Shape := ⟨2, ![1, 1536]⟩
abbrev S1536 : Shape := ⟨1, ![1536]⟩
abbrev S1x1x1536 : Shape := ⟨3, ![1, 1, 1536]⟩
abbrev S4x512x8x64 : Shape := ⟨4, ![4, 512, 8, 64]⟩
abbrev S4x8x512x64 : Shape := ⟨4, ![4, 8, 512, 64]⟩
abbrev S4x8x64x512 : Shape := ⟨4, ![4, 8, 64, 512]⟩
abbrev S4x8x512x512 : Shape := ⟨4, ![4, 8, 512, 512]⟩
abbrev S4x8x512 : Shape := ⟨3, ![4, 8, 512]⟩
abbrev S4x8x512x1 : Shape := ⟨4, ![4, 8, 512, 1]⟩
abbrev S1x512 : Shape := ⟨2, ![1, 512]⟩
abbrev S4x512x1 : Shape := ⟨3, ![4, 512, 1]⟩
abbrev S1x2048x512 : Shape := ⟨3, ![1, 2048, 512]⟩
abbrev S2048x512 : Shape := ⟨2, ![2048, 512]⟩
abbrev S512x2048 : Shape := ⟨2, ![512, 2048]⟩
abbrev S4x512x2048 : Shape := ⟨3, ![4, 512, 2048]⟩
abbrev S1x2048 : Shape := ⟨2, ![1, 2048]⟩
abbrev S2048 : Shape := ⟨1, ![2048]⟩
abbrev S1x1x2048 : Shape := ⟨3, ![1, 1, 2048]⟩
abbrev S1x512x2048 : Shape := ⟨3, ![1, 512, 2048]⟩
abbrev S512x4 : Shape := ⟨2, ![512, 4]⟩
abbrev S4x512x4 : Shape := ⟨3, ![4, 512, 4]⟩
abbrev S1x1x4 : Shape := ⟨3, ![1, 1, 4]⟩
abbrev S4x512x2 : Shape := ⟨3, ![4, 512, 2]⟩
abbrev S2048x4x1024 : Shape := ⟨3, ![2048, 4, 1024]⟩
abbrev S1x4x1024 : Shape := ⟨3, ![1, 4, 1024]⟩
abbrev S2048x4x512 : Shape := ⟨3, ![2048, 4, 512]⟩
abbrev S1x4x512 : Shape := ⟨3, ![1, 4, 512]⟩
abbrev S2048x2 : Shape := ⟨2, ![2048, 2]⟩
abbrev S2048x2x1 : Shape := ⟨3, ![2048, 2, 1]⟩
abbrev S1 : Shape := ⟨1, ![1]⟩
abbrev S1x1x1 : Shape := ⟨3, ![1, 1, 1]⟩
abbrev S2048x2x512 : Shape := ⟨3, ![2048, 2, 512]⟩
abbrev S4x1x512 : Shape := ⟨3, ![4, 1, 512]⟩
abbrev S4x256 : Shape := ⟨2, ![4, 256]⟩
abbrev S1x256 : Shape := ⟨2, ![1, 256]⟩
abbrev S4x1x256 : Shape := ⟨3, ![4, 1, 256]⟩

abbrev nBuf : Space → Nat
  | .hbm => 493
  | .vmem => 0
  | .smem => 0
  | _ => 0

abbrev hbmTy0_0 (i : Nat) : BufTy := match i % 128 with
  | 0 => ⟨S4x512x256, .f32⟩
  | 1 => ⟨S512x256, .f32⟩
  | 2 => ⟨S512, .f32⟩
  | 3 => ⟨S512x512, .f32⟩
  | 4 => ⟨S2x1536x512, .f32⟩
  | 5 => ⟨S2x1536, .f32⟩
  | 6 => ⟨S2x512x512, .f32⟩
  | 7 => ⟨S2x512, .f32⟩
  | 8 => ⟨S2x512, .f32⟩
  | 9 => ⟨S2x512, .f32⟩
  | 10 => ⟨S2x512, .f32⟩
  | 11 => ⟨S2x512, .f32⟩
  | 12 => ⟨S2x2048x512, .f32⟩
  | 13 => ⟨S2x2048, .f32⟩
  | 14 => ⟨S2x512x2048, .f32⟩
  | 15 => ⟨S2x512, .f32⟩
  | 16 => ⟨S512, .f32⟩
  | 17 => ⟨S512, .f32⟩
  | 18 => ⟨S4x512, .f32⟩
  | 19 => ⟨S4, .f32⟩
  | 20 => ⟨S4x1024x512, .f32⟩
  | 21 => ⟨S4x1024, .f32⟩
  | 22 => ⟨S4x512x1024, .f32⟩
  | 23 => ⟨S4x512, .f32⟩
  | 24 => ⟨S512, .f32⟩
  | 25 => ⟨S512, .f32⟩
  | 26 => ⟨S256x512, .f32⟩
  | 27 => ⟨S256, .f32⟩
  | 28 => ⟨S_, .i32⟩
  | 29 => ⟨S_, .f32⟩
  | 30 => ⟨S4x518x256, .f32⟩
  | 31 => ⟨S4x512x256, .f32⟩
  | 32 => ⟨S_, .f32⟩
  | 33 => ⟨S4x512x256, .f32⟩
  | 34 => ⟨S4x512x256, .f32⟩
  | 35 => ⟨S4x512x256, .f32⟩
  | 36 => ⟨S4x512x256, .f32⟩
  | 37 => ⟨S4x512x256, .f32⟩
  | 38 => ⟨S4x512x256, .f32⟩
  | 39 => ⟨S4x512x256, .f32⟩
  | 40 => ⟨S4x512x256, .f32⟩
  | 41 => ⟨S4x512x256, .f32⟩
  | 42 => ⟨S4x512x256, .f32⟩
  | 43 => ⟨S4x512x256, .f32⟩
  | 44 => ⟨S4x512x256, .f32⟩
  | 45 => ⟨S4x512x256, .f32⟩
  | 46 => ⟨S4x512x256, .f32⟩
  | 47 => ⟨S_, .f32⟩
  | 48 => ⟨S4x512x256, .f32⟩
  | 49 => ⟨S4x512x256, .f32⟩
  | 50 => ⟨S4x512x256, .f32⟩
  | 51 => ⟨S256x512, .f32⟩
  | 52 => ⟨S4x512x512, .f32⟩
  | 53 => ⟨S1x1x512, .f32⟩
  | 54 => ⟨S4x512x512, .f32⟩
  | 55 => ⟨S4x512x512, .f32⟩
  | 56 => ⟨S1x512x512, .f32⟩
  | 57 => ⟨S4x512x512, .f32⟩
  | 58 => ⟨S4x512x512, .f32⟩
  | 59 => ⟨S1x1536x512, .f32⟩
  | 60 => ⟨S1536x512, .f32⟩
  | 61 => ⟨S512x1536, .f32⟩
  | 62 => ⟨S4x512x1536, .f32⟩
  | 63 => ⟨S1x1536, .f32⟩
  | 64 => ⟨S1536, .f32⟩
  | 65 => ⟨S1x1x1536, .f32⟩
  | 66 => ⟨S4x512x1536, .f32⟩
  | 67 => ⟨S4x512x1536, .f32⟩
  | 68 => ⟨S4x512x512, .f32⟩
  | 69 => ⟨S4x512x512, .f32⟩
  | 70 => ⟨S4x512x512, .f32⟩
  | 71 => ⟨S4x512x8x64, .f32⟩
  | 72 => ⟨S4x8x512x64, .f32⟩
  | 73 => ⟨S4x512x8x64, .f32⟩
  | 74 => ⟨S4x8x512x64, .f32⟩
  | 75 => ⟨S4x512x8x64, .f32⟩
  | 76 => ⟨S4x8x512x64, .f32⟩
  | 77 => ⟨S4x8x64x512, .f32⟩
  | 78 => ⟨S4x8x512x512, .f32⟩
  | 79 => ⟨S_, .f32⟩
  | 80 => ⟨S_, .f32⟩
  | 81 => ⟨S_, .f32⟩
  | 82 => ⟨S4x8x512x512, .f32⟩
  | 83 => ⟨S4x8x512x512, .f32⟩
  | 84 => ⟨S_, .f32⟩
  | 85 => ⟨S4x8x512, .f32⟩
  | 86 => ⟨S_, .f32⟩
  | 87 => ⟨S4x8x512, .f32⟩
  | 88 => ⟨S4x8x512, .f32⟩
  | 89 => ⟨S4x8x512x1, .f32⟩
  | 90 => ⟨S4x8x512x512, .f32⟩
  | 91 => ⟨S4x8x512x512, .f32⟩
  | 92 => ⟨S4x8x512x512, .f32⟩
  | 93 => ⟨S_, .f32⟩
  | 94 => ⟨S4x8x512, .f32⟩
  | 95 => ⟨S4x8x512x1, .f32⟩
  | 96 => ⟨S4x8x512x512, .f32⟩
  | 97 => ⟨S4x8x512x512, .f32⟩
  | 98 => ⟨S4x8x512x64, .f32⟩
  | 99 => ⟨S4x512x8x64, .f32⟩
  | 100 => ⟨S4x512x512, .f32⟩
  | 101 => ⟨S1x512x512, .f32⟩
  | 102 => ⟨S512x512, .f32⟩
  | 103 => ⟨S512x512, .f32⟩
  | 104 => ⟨S4x512x512, .f32⟩
  | 105 => ⟨S4x512x512, .f32⟩
  | 106 => ⟨S1x512, .f32⟩
  | 107 => ⟨S512, .f32⟩
  | 108 => ⟨S1x1x512, .f32⟩
  | 109 => ⟨S4x512x512, .f32⟩
  | 110 => ⟨S4x512x512, .f32⟩
  | 111 => ⟨S1x512, .f32⟩
  | 112 => ⟨S512, .f32⟩
  | 113 => ⟨S1x512, .f32⟩
  | 114 => ⟨S512, .f32⟩
  | 115 => ⟨S_, .f32⟩
  | 116 => ⟨S4x512, .f32⟩
  | 117 => ⟨S4x512x1, .f32⟩
  | 118 => ⟨S_, .f32⟩
  | 119 => ⟨S4x512x1, .f32⟩
  | 120 => ⟨S4x512x1, .f32⟩
  | 121 => ⟨S4x512x512, .f32⟩
  | 122 => ⟨S4x512x512, .f32⟩
  | 123 => ⟨S4x512x512, .f32⟩
  | 124 => ⟨S_, .f32⟩
  | 125 => ⟨S4x512, .f32⟩
  | 126 => ⟨S4x512x1, .f32⟩
  | 127 => ⟨S_, .f32⟩
  | _ => ⟨S4x512x256, .f32⟩

abbrev hbmTy0_1 (i : Nat) : BufTy := match i % 128 with
  | 0 => ⟨S4x512x1, .f32⟩
  | 1 => ⟨S4x512x1, .f32⟩
  | 2 => ⟨S4x512x512, .f32⟩
  | 3 => ⟨S4x512x512, .f32⟩
  | 4 => ⟨S_, .f32⟩
  | 5 => ⟨S4x512x1, .f32⟩
  | 6 => ⟨S4x512x1, .f32⟩
  | 7 => ⟨S4x512x1, .f32⟩
  | 8 => ⟨S4x512x512, .f32⟩
  | 9 => ⟨S4x512x512, .f32⟩
  | 10 => ⟨S1x1x512, .f32⟩
  | 11 => ⟨S4x512x512, .f32⟩
  | 12 => ⟨S4x512x512, .f32⟩
  | 13 => ⟨S1x1x512, .f32⟩
  | 14 => ⟨S4x512x512, .f32⟩
  | 15 => ⟨S4x512x512, .f32⟩
  | 16 => ⟨S1x2048x512, .f32⟩
  | 17 => ⟨S2048x512, .f32⟩
  | 18 => ⟨S512x2048, .f32⟩
  | 19 => ⟨S4x512x2048, .f32⟩
  | 20 => ⟨S1x2048, .f32⟩
  | 21 => ⟨S2048, .f32⟩
  | 22 => ⟨S1x1x2048, .f32⟩
  | 23 => ⟨S4x512x2048, .f32⟩
  | 24 => ⟨S4x512x2048, .f32⟩
  | 25 => ⟨S_, .f32⟩
  | 26 => ⟨S4x512x2048, .f32⟩
  | 27 => ⟨S4x512x2048, .f32⟩
  | 28 => ⟨S_, .f32⟩
  | 29 => ⟨S_, .f32⟩
  | 30 => ⟨S_, .f32⟩
  | 31 => ⟨S4x512x2048, .f32⟩
  | 32 => ⟨S4x512x2048, .f32⟩
  | 33 => ⟨S4x512x2048, .f32⟩
  | 34 => ⟨S_, .f32⟩
  | 35 => ⟨S4x512x2048, .f32⟩
  | 36 => ⟨S4x512x2048, .f32⟩
  | 37 => ⟨S4x512x2048, .f32⟩
  | 38 => ⟨S1x512x2048, .f32⟩
  | 39 => ⟨S512x2048, .f32⟩
  | 40 => ⟨S2048x512, .f32⟩
  | 41 => ⟨S4x512x512, .f32⟩
  | 42 => ⟨S1x512, .f32⟩
  | 43 => ⟨S512, .f32⟩
  | 44 => ⟨S1x1x512, .f32⟩
  | 45 => ⟨S4x512x512, .f32⟩
  | 46 => ⟨S4x512x512, .f32⟩
  | 47 => ⟨S4x512x512, .f32⟩
  | 48 => ⟨S1x512, .f32⟩
  | 49 => ⟨S512, .f32⟩
  | 50 => ⟨S1x512, .f32⟩
  | 51 => ⟨S512, .f32⟩
  | 52 => ⟨S_, .f32⟩
  | 53 => ⟨S4x512, .f32⟩
  | 54 => ⟨S4x512x1, .f32⟩
  | 55 => ⟨S_, .f32⟩
  | 56 => ⟨S4x512x1, .f32⟩
  | 57 => ⟨S4x512x1, .f32⟩
  | 58 => ⟨S4x512x512, .f32⟩
  | 59 => ⟨S4x512x512, .f32⟩
  | 60 => ⟨S4x512x512, .f32⟩
  | 61 => ⟨S_, .f32⟩
  | 62 => ⟨S4x512, .f32⟩
  | 63 => ⟨S4x512x1, .f32⟩
  | 64 => ⟨S_, .f32⟩
  | 65 => ⟨S4x512x1, .f32⟩
  | 66 => ⟨S4x512x1, .f32⟩
  | 67 => ⟨S4x512x512, .f32⟩
  | 68 => ⟨S4x512x512, .f32⟩
  | 69 => ⟨S_, .f32⟩
  | 70 => ⟨S4x512x1, .f32⟩
  | 71 => ⟨S4x512x1, .f32⟩
  | 72 => ⟨S4x512x1, .f32⟩
  | 73 => ⟨S4x512x512, .f32⟩
  | 74 => ⟨S4x512x512, .f32⟩
  | 75 => ⟨S1x1x512, .f32⟩
  | 76 => ⟨S4x512x512, .f32⟩
  | 77 => ⟨S4x512x512, .f32⟩
  | 78 => ⟨S1x1x512, .f32⟩
  | 79 => ⟨S4x512x512, .f32⟩
  | 80 => ⟨S4x512x512, .f32⟩
  | 81 => ⟨S1x1536x512, .f32⟩
  | 82 => ⟨S1536x512, .f32⟩
  | 83 => ⟨S512x1536, .f32⟩
  | 84 => ⟨S4x512x1536, .f32⟩
  | 85 => ⟨S1x1536, .f32⟩
  | 86 => ⟨S1536, .f32⟩
  | 87 => ⟨S1x1x1536, .f32⟩
  | 88 => ⟨S4x512x1536, .f32⟩
  | 89 => ⟨S4x512x1536, .f32⟩
  | 90 => ⟨S4x512x512, .f32⟩
  | 91 => ⟨S4x512x512, .f32⟩
  | 92 => ⟨S4x512x512, .f32⟩
  | 93 => ⟨S4x512x8x64, .f32⟩
  | 94 => ⟨S4x8x512x64, .f32⟩
  | 95 => ⟨S4x512x8x64, .f32⟩
  | 96 => ⟨S4x8x512x64, .f32⟩
  | 97 => ⟨S4x512x8x64, .f32⟩
  | 98 => ⟨S4x8x512x64, .f32⟩
  | 99 => ⟨S4x8x64x512, .f32⟩
  | 100 => ⟨S4x8x512x512, .f32⟩
  | 101 => ⟨S_, .f32⟩
  | 102 => ⟨S_, .f32⟩
  | 103 => ⟨S_, .f32⟩
  | 104 => ⟨S4x8x512x512, .f32⟩
  | 105 => ⟨S4x8x512x512, .f32⟩
  | 106 => ⟨S_, .f32⟩
  | 107 => ⟨S4x8x512, .f32⟩
  | 108 => ⟨S_, .f32⟩
  | 109 => ⟨S4x8x512, .f32⟩
  | 110 => ⟨S4x8x512, .f32⟩
  | 111 => ⟨S4x8x512x1, .f32⟩
  | 112 => ⟨S4x8x512x512, .f32⟩
  | 113 => ⟨S4x8x512x512, .f32⟩
  | 114 => ⟨S4x8x512x512, .f32⟩
  | 115 => ⟨S_, .f32⟩
  | 116 => ⟨S4x8x512, .f32⟩
  | 117 => ⟨S4x8x512x1, .f32⟩
  | 118 => ⟨S4x8x512x512, .f32⟩
  | 119 => ⟨S4x8x512x512, .f32⟩
  | 120 => ⟨S4x8x512x64, .f32⟩
  | 121 => ⟨S4x512x8x64, .f32⟩
  | 122 => ⟨S4x512x512, .f32⟩
  | 123 => ⟨S1x512x512, .f32⟩
  | 124 => ⟨S512x512, .f32⟩
  | 125 => ⟨S512x512, .f32⟩
  | 126 => ⟨S4x512x512, .f32⟩
  | 127 => ⟨S4x512x512, .f32⟩
  | _ => ⟨S4x512x256, .f32⟩

abbrev hbmTy0_2 (i : Nat) : BufTy := match i % 128 with
  | 0 => ⟨S1x512, .f32⟩
  | 1 => ⟨S512, .f32⟩
  | 2 => ⟨S1x1x512, .f32⟩
  | 3 => ⟨S4x512x512, .f32⟩
  | 4 => ⟨S4x512x512, .f32⟩
  | 5 => ⟨S1x512, .f32⟩
  | 6 => ⟨S512, .f32⟩
  | 7 => ⟨S1x512, .f32⟩
  | 8 => ⟨S512, .f32⟩
  | 9 => ⟨S_, .f32⟩
  | 10 => ⟨S4x512, .f32⟩
  | 11 => ⟨S4x512x1, .f32⟩
  | 12 => ⟨S_, .f32⟩
  | 13 => ⟨S4x512x1, .f32⟩
  | 14 => ⟨S4x512x1, .f32⟩
  | 15 => ⟨S4x512x512, .f32⟩
  | 16 => ⟨S4x512x512, .f32⟩
  | 17 => ⟨S4x512x512, .f32⟩
  | 18 => ⟨S_, .f32⟩
  | 19 => ⟨S4x512, .f32⟩
  | 20 => ⟨S4x512x1, .f32⟩
  | 21 => ⟨S_, .f32⟩
  | 22 => ⟨S4x512x1, .f32⟩
  | 23 => ⟨S4x512x1, .f32⟩
  | 24 => ⟨S4x512x512, .f32⟩
  | 25 => ⟨S4x512x512, .f32⟩
  | 26 => ⟨S_, .f32⟩
  | 27 => ⟨S4x512x1, .f32⟩
  | 28 => ⟨S4x512x1, .f32⟩
  | 29 => ⟨S4x512x1, .f32⟩
  | 30 => ⟨S4x512x512, .f32⟩
  | 31 => ⟨S4x512x512, .f32⟩
  | 32 => ⟨S1x1x512, .f32⟩
  | 33 => ⟨S4x512x512, .f32⟩
  | 34 => ⟨S4x512x512, .f32⟩
  | 35 => ⟨S1x1x512, .f32⟩
  | 36 => ⟨S4x512x512, .f32⟩
  | 37 => ⟨S4x512x512, .f32⟩
  | 38 => ⟨S1x2048x512, .f32⟩
  | 39 => ⟨S2048x512, .f32⟩
  | 40 => ⟨S512x2048, .f32⟩
  | 41 => ⟨S4x512x2048, .f32⟩
  | 42 => ⟨S1x2048, .f32⟩
  | 43 => ⟨S2048, .f32⟩
  | 44 => ⟨S1x1x2048, .f32⟩
  | 45 => ⟨S4x512x2048, .f32⟩
  | 46 => ⟨S4x512x2048, .f32⟩
  | 47 => ⟨S_, .f32⟩
  | 48 => ⟨S4x512x2048, .f32⟩
  | 49 => ⟨S4x512x2048, .f32⟩
  | 50 => ⟨S_, .f32⟩
  | 51 => ⟨S_, .f32⟩
  | 52 => ⟨S_, .f32⟩
  | 53 => ⟨S4x512x2048, .f32⟩
  | 54 => ⟨S4x512x2048, .f32⟩
  | 55 => ⟨S4x512x2048, .f32⟩
  | 56 => ⟨S_, .f32⟩
  | 57 => ⟨S4x512x2048, .f32⟩
  | 58 => ⟨S4x512x2048, .f32⟩
  | 59 => ⟨S4x512x2048, .f32⟩
  | 60 => ⟨S1x512x2048, .f32⟩
  | 61 => ⟨S512x2048, .f32⟩
  | 62 => ⟨S2048x512, .f32⟩
  | 63 => ⟨S4x512x512, .f32⟩
  | 64 => ⟨S1x512, .f32⟩
  | 65 => ⟨S512, .f32⟩
  | 66 => ⟨S1x1x512, .f32⟩
  | 67 => ⟨S4x512x512, .f32⟩
  | 68 => ⟨S4x512x512, .f32⟩
  | 69 => ⟨S4x512x512, .f32⟩
  | 70 => ⟨S1x512, .f32⟩
  | 71 => ⟨S512, .f32⟩
  | 72 => ⟨S1x512, .f32⟩
  | 73 => ⟨S512, .f32⟩
  | 74 => ⟨S_, .f32⟩
  | 75 => ⟨S4x512, .f32⟩
  | 76 => ⟨S4x512x1, .f32⟩
  | 77 => ⟨S_, .f32⟩
  | 78 => ⟨S4x512x1, .f32⟩
  | 79 => ⟨S4x512x1, .f32⟩
  | 80 => ⟨S4x512x512, .f32⟩
  | 81 => ⟨S4x512x512, .f32⟩
  | 82 => ⟨S4x512x512, .f32⟩
  | 83 => ⟨S_, .f32⟩
  | 84 => ⟨S4x512, .f32⟩
  | 85 => ⟨S4x512x1, .f32⟩
  | 86 => ⟨S_, .f32⟩
  | 87 => ⟨S4x512x1, .f32⟩
  | 88 => ⟨S4x512x1, .f32⟩
  | 89 => ⟨S4x512x512, .f32⟩
  | 90 => ⟨S4x512x512, .f32⟩
  | 91 => ⟨S_, .f32⟩
  | 92 => ⟨S4x512x1, .f32⟩
  | 93 => ⟨S4x512x1, .f32⟩
  | 94 => ⟨S4x512x1, .f32⟩
  | 95 => ⟨S4x512x512, .f32⟩
  | 96 => ⟨S4x512x512, .f32⟩
  | 97 => ⟨S1x1x512, .f32⟩
  | 98 => ⟨S4x512x512, .f32⟩
  | 99 => ⟨S4x512x512, .f32⟩
  | 100 => ⟨S1x1x512, .f32⟩
  | 101 => ⟨S4x512x512, .f32⟩
  | 102 => ⟨S4x512x512, .f32⟩
  | 103 => ⟨S_, .f32⟩
  | 104 => ⟨S4x512, .f32⟩
  | 105 => ⟨S4x512x1, .f32⟩
  | 106 => ⟨S_, .f32⟩
  | 107 => ⟨S4x512x1, .f32⟩
  | 108 => ⟨S4x512x1, .f32⟩
  | 109 => ⟨S4x512x512, .f32⟩
  | 110 => ⟨S4x512x512, .f32⟩
  | 111 => ⟨S4x512x512, .f32⟩
  | 112 => ⟨S_, .f32⟩
  | 113 => ⟨S4x512, .f32⟩
  | 114 => ⟨S4x512x1, .f32⟩
  | 115 => ⟨S_, .f32⟩
  | 116 => ⟨S4x512x1, .f32⟩
  | 117 => ⟨S4x512x1, .f32⟩
  | 118 => ⟨S4x512x512, .f32⟩
  | 119 => ⟨S4x512x512, .f32⟩
  | 120 => ⟨S_, .f32⟩
  | 121 => ⟨S4x512x1, .f32⟩
  | 122 => ⟨S4x512x1, .f32⟩
  | 123 => ⟨S4x512x1, .f32⟩
  | 124 => ⟨S4x512x512, .f32⟩
  | 125 => ⟨S4x512x512, .f32⟩
  | 126 => ⟨S1x1x512, .f32⟩
  | 127 => ⟨S4x512x512, .f32⟩
  | _ => ⟨S4x512x256, .f32⟩

abbrev hbmTy0_3 (i : Nat) : BufTy := match i % 128 with
  | 0 => ⟨S4x512x512, .f32⟩
  | 1 => ⟨S1x1x512, .f32⟩
  | 2 => ⟨S4x512x512, .f32⟩
  | 3 => ⟨S4x512x512, .f32⟩
  | 4 => ⟨S512x4, .f32⟩
  | 5 => ⟨S4x512x4, .f32⟩
  | 6 => ⟨S1x1x4, .f32⟩
  | 7 => ⟨S4x512x4, .f32⟩
  | 8 => ⟨S4x512x4, .f32⟩
  | 9 => ⟨S4x512x2, .f32⟩
  | 10 => ⟨S4x512x2, .i32⟩
  | 11 => ⟨S_, .f32⟩
  | 12 => ⟨S4x512, .f32⟩
  | 13 => ⟨S_, .f32⟩
  | 14 => ⟨S4x512, .f32⟩
  | 15 => ⟨S4x512, .f32⟩
  | 16 => ⟨S4x512x1, .f32⟩
  | 17 => ⟨S4x512x2, .f32⟩
  | 18 => ⟨S4x512x2, .f32⟩
  | 19 => ⟨S4x512x2, .f32⟩
  | 20 => ⟨S_, .f32⟩
  | 21 => ⟨S4x512, .f32⟩
  | 22 => ⟨S4x512x1, .f32⟩
  | 23 => ⟨S4x512x2, .f32⟩
  | 24 => ⟨S4x512x2, .f32⟩
  | 25 => ⟨S2048x512, .f32⟩
  | 26 => ⟨S2048x4x1024, .f32⟩
  | 27 => ⟨S1x4x1024, .f32⟩
  | 28 => ⟨S2048x4x1024, .f32⟩
  | 29 => ⟨S2048x4x1024, .f32⟩
  | 30 => ⟨S_, .f32⟩
  | 31 => ⟨S2048x4x1024, .f32⟩
  | 32 => ⟨S2048x4x1024, .f32⟩
  | 33 => ⟨S4x512x2048, .f32⟩
  | 34 => ⟨S2048x4x512, .f32⟩
  | 35 => ⟨S1x4x512, .f32⟩
  | 36 => ⟨S2048x4x512, .f32⟩
  | 37 => ⟨S2048x4x512, .f32⟩
  | 38 => ⟨S2048x2, .i32⟩
  | 39 => ⟨S2048x2, .f32⟩
  | 40 => ⟨S2048x2x1, .i32⟩
  | 41 => ⟨S_, .i32⟩
  | 42 => ⟨S2048x2x1, .i32⟩
  | 43 => ⟨S2048x2x1, .i1⟩
  | 44 => ⟨S_, .i32⟩
  | 45 => ⟨S2048x2x1, .i32⟩
  | 46 => ⟨S2048x2x1, .i32⟩
  | 47 => ⟨S2048x2x1, .i32⟩
  | 48 => ⟨S1, .i32⟩
  | 49 => ⟨S_, .i32⟩
  | 50 => ⟨S2048x2x1, .i32⟩
  | 51 => ⟨S2048x2x1, .i1⟩
  | 52 => ⟨S1x1x1, .i32⟩
  | 53 => ⟨S2048x2x1, .i32⟩
  | 54 => ⟨S2048x2x1, .i1⟩
  | 55 => ⟨S2048x2x1, .i1⟩
  | 56 => ⟨S_, .i1⟩
  | 57 => ⟨S2048x2, .i1⟩
  | 58 => ⟨S2048x2x512, .f32⟩
  | 59 => ⟨S2048x2x512, .i1⟩
  | 60 => ⟨S_, .f32⟩
  | 61 => ⟨S2048x2x512, .f32⟩
  | 62 => ⟨S2048x2x512, .f32⟩
  | 63 => ⟨S2048x2x1, .f32⟩
  | 64 => ⟨S2048x2x512, .f32⟩
  | 65 => ⟨S2048x2x512, .f32⟩
  | 66 => ⟨S_, .f32⟩
  | 67 => ⟨S2048x512, .f32⟩
  | 68 => ⟨S4x512x512, .f32⟩
  | 69 => ⟨S4x512x512, .f32⟩
  | 70 => ⟨S_, .f32⟩
  | 71 => ⟨S4x512, .f32⟩
  | 72 => ⟨S4x512x1, .f32⟩
  | 73 => ⟨S_, .f32⟩
  | 74 => ⟨S4x512x1, .f32⟩
  | 75 => ⟨S4x512x1, .f32⟩
  | 76 => ⟨S4x512x512, .f32⟩
  | 77 => ⟨S4x512x512, .f32⟩
  | 78 => ⟨S4x512x512, .f32⟩
  | 79 => ⟨S_, .f32⟩
  | 80 => ⟨S4x512, .f32⟩
  | 81 => ⟨S4x512x1, .f32⟩
  | 82 => ⟨S_, .f32⟩
  | 83 => ⟨S4x512x1, .f32⟩
  | 84 => ⟨S4x512x1, .f32⟩
  | 85 => ⟨S4x512x512, .f32⟩
  | 86 => ⟨S4x512x512, .f32⟩
  | 87 => ⟨S_, .f32⟩
  | 88 => ⟨S4x512x1, .f32⟩
  | 89 => ⟨S4x512x1, .f32⟩
  | 90 => ⟨S4x512x1, .f32⟩
  | 91 => ⟨S4x512x512, .f32⟩
  | 92 => ⟨S4x512x512, .f32⟩
  | 93 => ⟨S1x1x512, .f32⟩
  | 94 => ⟨S4x512x512, .f32⟩
  | 95 => ⟨S4x512x512, .f32⟩
  | 96 => ⟨S1x1x512, .f32⟩
  | 97 => ⟨S4x512x512, .f32⟩
  | 98 => ⟨S4x512x512, .f32⟩
  | 99 => ⟨S4x1x512, .f32⟩
  | 100 => ⟨S4x512, .f32⟩
  | 101 => ⟨S512x256, .f32⟩
  | 102 => ⟨S4x256, .f32⟩
  | 103 => ⟨S1x256, .f32⟩
  | 104 => ⟨S4x256, .f32⟩
  | 105 => ⟨S4x256, .f32⟩
  | 106 => ⟨S4x1x256, .f32⟩
  | 107 => ⟨S4x256, .f32⟩
  | 108 => ⟨S4x256, .f32⟩
  | _ => ⟨S4x512x256, .f32⟩

abbrev hbmTy (i : Nat) : BufTy := match i / 128 with
  | 0 => hbmTy0_0 i
  | 1 => hbmTy0_1 i
  | 2 => hbmTy0_2 i
  | 3 => hbmTy0_3 i
  | _ => ⟨S4x512x256, .f32⟩

abbrev bufTy : (tb : Table) → Fin (tcTables nBuf tb) → BufTy
  | .hbm, ⟨i, _⟩ => hbmTy i
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_call0_v0 : Ref sig .tc := ⟨.hbm, 29, rfl⟩
abbrev main_v0 : Ref sig .tc := ⟨.hbm, 30, rfl⟩
abbrev main_v1 : Ref sig .tc := ⟨.hbm, 31, rfl⟩
abbrev main_cst : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_0 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_1 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_2 : Ref sig .tc := ⟨.hbm, 84, rfl⟩
abbrev main_v51 : Ref sig .tc := ⟨.hbm, 85, rfl⟩
abbrev main_cst_3 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_4 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_5 : Ref sig .tc := ⟨.hbm, 115, rfl⟩
abbrev main_v79 : Ref sig .tc := ⟨.hbm, 116, rfl⟩
abbrev main_v80 : Ref sig .tc := ⟨.hbm, 117, rfl⟩
abbrev main_cst_6 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_7 : Ref sig .tc := ⟨.hbm, 124, rfl⟩
abbrev main_v86 : Ref sig .tc := ⟨.hbm, 125, rfl⟩
abbrev main_v87 : Ref sig .tc := ⟨.hbm, 126, rfl⟩
abbrev main_cst_8 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_9 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_10 : Ref sig .tc := ⟨.hbm, 153, rfl⟩
abbrev main_v112 : Ref sig .tc := ⟨.hbm, 154, rfl⟩
abbrev main_v113 : Ref sig .tc := ⟨.hbm, 155, rfl⟩
abbrev main_cst_11 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_12 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_cst_13 : Ref sig .tc := ⟨.hbm, 180, rfl⟩
abbrev main_v136 : Ref sig .tc := ⟨.hbm, 181, rfl⟩
abbrev main_v137 : Ref sig .tc := ⟨.hbm, 182, rfl⟩
abbrev main_cst_14 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_cst_15 : Ref sig .tc := ⟨.hbm, 189, rfl⟩
abbrev main_v143 : Ref sig .tc := ⟨.hbm, 190, rfl⟩
abbrev main_v144 : Ref sig .tc := ⟨.hbm, 191, rfl⟩
abbrev main_cst_16 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_cst_17 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_cst_18 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_cst_19 : Ref sig .tc := ⟨.hbm, 234, rfl⟩
abbrev main_v184 : Ref sig .tc := ⟨.hbm, 235, rfl⟩
abbrev main_cst_20 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_cst_21 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_cst_22 : Ref sig .tc := ⟨.hbm, 265, rfl⟩
abbrev main_v212 : Ref sig .tc := ⟨.hbm, 266, rfl⟩
abbrev main_v213 : Ref sig .tc := ⟨.hbm, 267, rfl⟩
abbrev main_cst_23 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_cst_24 : Ref sig .tc := ⟨.hbm, 274, rfl⟩
abbrev main_v219 : Ref sig .tc := ⟨.hbm, 275, rfl⟩
abbrev main_v220 : Ref sig .tc := ⟨.hbm, 276, rfl⟩
abbrev main_cst_25 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_cst_26 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_cst_27 : Ref sig .tc := ⟨.hbm, 303, rfl⟩
abbrev main_v245 : Ref sig .tc := ⟨.hbm, 304, rfl⟩
abbrev main_v246 : Ref sig .tc := ⟨.hbm, 305, rfl⟩
abbrev main_cst_28 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_cst_29 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_v263 : Ref sig .tc := ⟨.hbm, 324, rfl⟩
abbrev main_v264 : Ref sig .tc := ⟨.hbm, 325, rfl⟩
abbrev main_v265 : Ref sig .tc := ⟨.hbm, 326, rfl⟩
abbrev main_v266 : Ref sig .tc := ⟨.hbm, 327, rfl⟩
abbrev main_v267 : Ref sig .tc := ⟨.hbm, 328, rfl⟩
abbrev main_v268 : Ref sig .tc := ⟨.hbm, 329, rfl⟩
abbrev main_cst_30 : Ref sig .tc := ⟨.hbm, 330, rfl⟩
abbrev main_v269 : Ref sig .tc := ⟨.hbm, 331, rfl⟩
abbrev main_v270 : Ref sig .tc := ⟨.hbm, 332, rfl⟩
abbrev main_cst_31 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_cst_32 : Ref sig .tc := ⟨.hbm, 339, rfl⟩
abbrev main_v276 : Ref sig .tc := ⟨.hbm, 340, rfl⟩
abbrev main_v277 : Ref sig .tc := ⟨.hbm, 341, rfl⟩
abbrev main_cst_33 : Ref sig .tc := ⟨.hbm, 342, rfl⟩
abbrev main_v278 : Ref sig .tc := ⟨.hbm, 343, rfl⟩
abbrev main_v279 : Ref sig .tc := ⟨.hbm, 344, rfl⟩
abbrev main_v280 : Ref sig .tc := ⟨.hbm, 345, rfl⟩
abbrev main_v281 : Ref sig .tc := ⟨.hbm, 346, rfl⟩
abbrev main_cst_34 : Ref sig .tc := ⟨.hbm, 347, rfl⟩
abbrev main_v282 : Ref sig .tc := ⟨.hbm, 348, rfl⟩
abbrev main_v283 : Ref sig .tc := ⟨.hbm, 349, rfl⟩
abbrev main_v284 : Ref sig .tc := ⟨.hbm, 350, rfl⟩
abbrev main_v285 : Ref sig .tc := ⟨.hbm, 351, rfl⟩
abbrev main_v286 : Ref sig .tc := ⟨.hbm, 352, rfl⟩
abbrev main_v287 : Ref sig .tc := ⟨.hbm, 353, rfl⟩
abbrev main_v288 : Ref sig .tc := ⟨.hbm, 354, rfl⟩
abbrev main_v289 : Ref sig .tc := ⟨.hbm, 355, rfl⟩
abbrev main_v290 : Ref sig .tc := ⟨.hbm, 356, rfl⟩
abbrev main_v291 : Ref sig .tc := ⟨.hbm, 357, rfl⟩
abbrev main_v292 : Ref sig .tc := ⟨.hbm, 358, rfl⟩
abbrev main_cst_35 : Ref sig .tc := ⟨.hbm, 359, rfl⟩
abbrev main_v293 : Ref sig .tc := ⟨.hbm, 360, rfl⟩
abbrev main_v294 : Ref sig .tc := ⟨.hbm, 361, rfl⟩
abbrev main_cst_36 : Ref sig .tc := ⟨.hbm, 362, rfl⟩
abbrev main_v295 : Ref sig .tc := ⟨.hbm, 363, rfl⟩
abbrev main_v296 : Ref sig .tc := ⟨.hbm, 364, rfl⟩
abbrev main_v297 : Ref sig .tc := ⟨.hbm, 365, rfl⟩
abbrev main_v298 : Ref sig .tc := ⟨.hbm, 366, rfl⟩
abbrev main_v299 : Ref sig .tc := ⟨.hbm, 367, rfl⟩
abbrev main_cst_37 : Ref sig .tc := ⟨.hbm, 368, rfl⟩
abbrev main_v300 : Ref sig .tc := ⟨.hbm, 369, rfl⟩
abbrev main_v301 : Ref sig .tc := ⟨.hbm, 370, rfl⟩
abbrev main_cst_38 : Ref sig .tc := ⟨.hbm, 371, rfl⟩
abbrev main_v302 : Ref sig .tc := ⟨.hbm, 372, rfl⟩
abbrev main_v303 : Ref sig .tc := ⟨.hbm, 373, rfl⟩
abbrev main_v304 : Ref sig .tc := ⟨.hbm, 374, rfl⟩
abbrev main_v305 : Ref sig .tc := ⟨.hbm, 375, rfl⟩
abbrev main_cst_39 : Ref sig .tc := ⟨.hbm, 376, rfl⟩
abbrev main_v306 : Ref sig .tc := ⟨.hbm, 377, rfl⟩
abbrev main_v307 : Ref sig .tc := ⟨.hbm, 378, rfl⟩
abbrev main_v308 : Ref sig .tc := ⟨.hbm, 379, rfl⟩
abbrev main_v309 : Ref sig .tc := ⟨.hbm, 380, rfl⟩
abbrev main_v310 : Ref sig .tc := ⟨.hbm, 381, rfl⟩
abbrev main_v311 : Ref sig .tc := ⟨.hbm, 382, rfl⟩
abbrev main_v312 : Ref sig .tc := ⟨.hbm, 383, rfl⟩
abbrev main_v313 : Ref sig .tc := ⟨.hbm, 384, rfl⟩
abbrev main_v314 : Ref sig .tc := ⟨.hbm, 385, rfl⟩
abbrev main_v315 : Ref sig .tc := ⟨.hbm, 386, rfl⟩
abbrev main_v316 : Ref sig .tc := ⟨.hbm, 387, rfl⟩
abbrev main_v317 : Ref sig .tc := ⟨.hbm, 388, rfl⟩
abbrev main_v318 : Ref sig .tc := ⟨.hbm, 389, rfl⟩
abbrev main_v319 : Ref sig .tc := ⟨.hbm, 390, rfl⟩
abbrev main_v320 : Ref sig .tc := ⟨.hbm, 391, rfl⟩
abbrev main_v321 : Ref sig .tc := ⟨.hbm, 392, rfl⟩
abbrev main_values : Ref sig .tc := ⟨.hbm, 393, rfl⟩
abbrev main_indices : Ref sig .tc := ⟨.hbm, 394, rfl⟩
abbrev main_cst_40 : Ref sig .tc := ⟨.hbm, 395, rfl⟩
abbrev main_v322 : Ref sig .tc := ⟨.hbm, 396, rfl⟩
abbrev main_cst_41 : Ref sig .tc := ⟨.hbm, 397, rfl⟩
abbrev main_v323 : Ref sig .tc := ⟨.hbm, 398, rfl⟩
abbrev main_v324 : Ref sig .tc := ⟨.hbm, 399, rfl⟩
abbrev main_v325 : Ref sig .tc := ⟨.hbm, 400, rfl⟩
abbrev main_v326 : Ref sig .tc := ⟨.hbm, 401, rfl⟩
abbrev main_v327 : Ref sig .tc := ⟨.hbm, 402, rfl⟩
abbrev main_v328 : Ref sig .tc := ⟨.hbm, 403, rfl⟩
abbrev main_cst_42 : Ref sig .tc := ⟨.hbm, 404, rfl⟩
abbrev main_v329 : Ref sig .tc := ⟨.hbm, 405, rfl⟩
abbrev main_v330 : Ref sig .tc := ⟨.hbm, 406, rfl⟩
abbrev main_v331 : Ref sig .tc := ⟨.hbm, 407, rfl⟩
abbrev main_v332 : Ref sig .tc := ⟨.hbm, 408, rfl⟩
abbrev main_v333 : Ref sig .tc := ⟨.hbm, 409, rfl⟩
abbrev main_v334 : Ref sig .tc := ⟨.hbm, 410, rfl⟩
abbrev main_v335 : Ref sig .tc := ⟨.hbm, 411, rfl⟩
abbrev main_v336 : Ref sig .tc := ⟨.hbm, 412, rfl⟩
abbrev main_v337 : Ref sig .tc := ⟨.hbm, 413, rfl⟩
abbrev main_call1_cst : Ref sig .tc := ⟨.hbm, 414, rfl⟩
abbrev main_call1_v0 : Ref sig .tc := ⟨.hbm, 415, rfl⟩
abbrev main_v338 : Ref sig .tc := ⟨.hbm, 416, rfl⟩
abbrev main_v339 : Ref sig .tc := ⟨.hbm, 417, rfl⟩
abbrev main_v340 : Ref sig .tc := ⟨.hbm, 418, rfl⟩
abbrev main_v341 : Ref sig .tc := ⟨.hbm, 419, rfl⟩
abbrev main_v342 : Ref sig .tc := ⟨.hbm, 420, rfl⟩
abbrev main_v343 : Ref sig .tc := ⟨.hbm, 421, rfl⟩
abbrev main_v344 : Ref sig .tc := ⟨.hbm, 422, rfl⟩
abbrev main_v345 : Ref sig .tc := ⟨.hbm, 423, rfl⟩
abbrev main_v346 : Ref sig .tc := ⟨.hbm, 424, rfl⟩
abbrev main_call2_c : Ref sig .tc := ⟨.hbm, 425, rfl⟩
abbrev main_call2_v0 : Ref sig .tc := ⟨.hbm, 426, rfl⟩
abbrev main_call2_v1 : Ref sig .tc := ⟨.hbm, 427, rfl⟩
abbrev main_call2_c_0 : Ref sig .tc := ⟨.hbm, 428, rfl⟩
abbrev main_call2_v2 : Ref sig .tc := ⟨.hbm, 429, rfl⟩
abbrev main_call2_v3 : Ref sig .tc := ⟨.hbm, 430, rfl⟩
abbrev main_call2_v4 : Ref sig .tc := ⟨.hbm, 431, rfl⟩
abbrev main_call2_c_1 : Ref sig .tc := ⟨.hbm, 432, rfl⟩
abbrev main_call2_c_2 : Ref sig .tc := ⟨.hbm, 433, rfl⟩
abbrev main_call2_v5 : Ref sig .tc := ⟨.hbm, 434, rfl⟩
abbrev main_call2_v6 : Ref sig .tc := ⟨.hbm, 435, rfl⟩
abbrev main_call2_v7 : Ref sig .tc := ⟨.hbm, 436, rfl⟩
abbrev main_call2_v8 : Ref sig .tc := ⟨.hbm, 437, rfl⟩
abbrev main_call2_v9 : Ref sig .tc := ⟨.hbm, 438, rfl⟩
abbrev main_call2_v10 : Ref sig .tc := ⟨.hbm, 439, rfl⟩
abbrev main_call2_c_3 : Ref sig .tc := ⟨.hbm, 440, rfl⟩
abbrev main_call2_v11 : Ref sig .tc := ⟨.hbm, 441, rfl⟩
abbrev main_call2_v12 : Ref sig .tc := ⟨.hbm, 442, rfl⟩
abbrev main_call2_v13 : Ref sig .tc := ⟨.hbm, 443, rfl⟩
abbrev main_call2_cst : Ref sig .tc := ⟨.hbm, 444, rfl⟩
abbrev main_call2_v14 : Ref sig .tc := ⟨.hbm, 445, rfl⟩
abbrev main_v347 : Ref sig .tc := ⟨.hbm, 446, rfl⟩
abbrev main_v348 : Ref sig .tc := ⟨.hbm, 447, rfl⟩
abbrev main_v349 : Ref sig .tc := ⟨.hbm, 448, rfl⟩
abbrev main_v350 : Ref sig .tc := ⟨.hbm, 449, rfl⟩
abbrev main_cst_43 : Ref sig .tc := ⟨.hbm, 450, rfl⟩
abbrev main_v351 : Ref sig .tc := ⟨.hbm, 451, rfl⟩
abbrev main_v352 : Ref sig .tc := ⟨.hbm, 452, rfl⟩
abbrev main_v353 : Ref sig .tc := ⟨.hbm, 453, rfl⟩
abbrev main_cst_44 : Ref sig .tc := ⟨.hbm, 454, rfl⟩
abbrev main_v354 : Ref sig .tc := ⟨.hbm, 455, rfl⟩
abbrev main_v355 : Ref sig .tc := ⟨.hbm, 456, rfl⟩
abbrev main_cst_45 : Ref sig .tc := ⟨.hbm, 457, rfl⟩
abbrev main_v356 : Ref sig .tc := ⟨.hbm, 458, rfl⟩
abbrev main_v357 : Ref sig .tc := ⟨.hbm, 459, rfl⟩
abbrev main_v358 : Ref sig .tc := ⟨.hbm, 460, rfl⟩
abbrev main_v359 : Ref sig .tc := ⟨.hbm, 461, rfl⟩
abbrev main_v360 : Ref sig .tc := ⟨.hbm, 462, rfl⟩
abbrev main_cst_46 : Ref sig .tc := ⟨.hbm, 463, rfl⟩
abbrev main_v361 : Ref sig .tc := ⟨.hbm, 464, rfl⟩
abbrev main_v362 : Ref sig .tc := ⟨.hbm, 465, rfl⟩
abbrev main_cst_47 : Ref sig .tc := ⟨.hbm, 466, rfl⟩
abbrev main_v363 : Ref sig .tc := ⟨.hbm, 467, rfl⟩
abbrev main_v364 : Ref sig .tc := ⟨.hbm, 468, rfl⟩
abbrev main_v365 : Ref sig .tc := ⟨.hbm, 469, rfl⟩
abbrev main_v366 : Ref sig .tc := ⟨.hbm, 470, rfl⟩
abbrev main_cst_48 : Ref sig .tc := ⟨.hbm, 471, rfl⟩
abbrev main_v367 : Ref sig .tc := ⟨.hbm, 472, rfl⟩
abbrev main_v368 : Ref sig .tc := ⟨.hbm, 473, rfl⟩
abbrev main_v369 : Ref sig .tc := ⟨.hbm, 474, rfl⟩
abbrev main_v370 : Ref sig .tc := ⟨.hbm, 475, rfl⟩
abbrev main_v371 : Ref sig .tc := ⟨.hbm, 476, rfl⟩
abbrev main_v372 : Ref sig .tc := ⟨.hbm, 477, rfl⟩
abbrev main_v373 : Ref sig .tc := ⟨.hbm, 478, rfl⟩
abbrev main_v374 : Ref sig .tc := ⟨.hbm, 479, rfl⟩
abbrev main_v375 : Ref sig .tc := ⟨.hbm, 480, rfl⟩
abbrev main_v376 : Ref sig .tc := ⟨.hbm, 481, rfl⟩
abbrev main_v377 : Ref sig .tc := ⟨.hbm, 482, rfl⟩
abbrev main_v378 : Ref sig .tc := ⟨.hbm, 483, rfl⟩
abbrev main_v379 : Ref sig .tc := ⟨.hbm, 484, rfl⟩
abbrev main_v380 : Ref sig .tc := ⟨.hbm, 485, rfl⟩
abbrev main_v381 : Ref sig .tc := ⟨.hbm, 486, rfl⟩
abbrev main_v382 : Ref sig .tc := ⟨.hbm, 487, rfl⟩
abbrev main_v383 : Ref sig .tc := ⟨.hbm, 488, rfl⟩
abbrev main_v384 : Ref sig .tc := ⟨.hbm, 489, rfl⟩
abbrev main_v385 : Ref sig .tc := ⟨.hbm, 490, rfl⟩
abbrev main_v386 : Ref sig .tc := ⟨.hbm, 491, rfl⟩
abbrev main_v387 : Ref sig .tc := ⟨.hbm, 492, rfl⟩

abbrev nD : Nat := 1
abbrev τ : Topo := Topo.v7x

variable {F : FTy → Type} [FloatOps F]
-- ==== Proof.KernelIdealCall0.lean ====
/-
  THE FIRST CALL OF `KernelIdeal` (the first encoder layer and the last rows' attention), at the buffers' contents `V` when it is
  entered: each window's block, the body's run with what it leaves in the two outputs and the scratch, and the body's
  obligation. The text is that of the frame certificate of this program.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- the rectangles below have long axes, and membership in one goes coordinate by coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__body_a` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 16, through which its contents are stated (`View.read_writes_of_cover`: the
    choice does not matter). -/
abbrev VO0_16 : View sig .tc .vmem S4x512 .f32 := (Memref.whole cc0_stg16_0 : Memref sig .tc .vmem S4x512 .f32).view
/-- One staging buffer of output window 17, through which its contents are stated (`View.read_writes_of_cover`: the
    choice does not matter). -/
abbrev VO0_17 : View sig .tc .vmem S4x512 .f32 := (Memref.whole cc0_stg17_0 : Memref sig .tc .vmem S4x512 .f32).view
/-- Each window's current staging memref at point `t`, spelled as the pipeline passes it (`bodyAt0`), and its wholeness. -/
abbrev ms0_0 (t : Fin cfg0.N) : Memref sig .tc .vmem S4x512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1536x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1536 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x2048 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512x2048 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S2x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S2x512 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S4x512 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S4x512 .f32 := win0_17.stage (cfg0.slots t 17)
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S512x256 .bf16 := Memref.whole cc0_scratch0
abbrev scM0_1 : Memref sig .tc .vmem S1536x512 .bf16 := Memref.whole cc0_scratch1
abbrev scM0_2 : Memref sig .tc .vmem S512x512 .bf16 := Memref.whole cc0_scratch2
abbrev scM0_3 : Memref sig .tc .vmem S2048x512 .bf16 := Memref.whole cc0_scratch3
abbrev scM0_4 : Memref sig .tc .vmem S512x2048 .bf16 := Memref.whole cc0_scratch4
abbrev scM0_5 : Memref sig .tc .vmem S1024x512 .bf16 := Memref.whole cc0_scratch5
abbrev scM0_6 : Memref sig .tc .vmem S512x512 .bf16 := Memref.whole cc0_scratch6
abbrev scM0_7 : Memref sig .tc .vmem S2048x1536 .bf16 := Memref.whole cc0_scratch7
abbrev scM0_8 : Memref sig .tc .vmem S2048x2048 .bf16 := Memref.whole cc0_scratch8
abbrev scM0_9 : Memref sig .tc .vmem S2048x1024 .bf16 := Memref.whole cc0_scratch9

/-- `Gen.scopedRest0_split` as ONE chain: the kernel's own scratch buffers, each whole at some contents, then every
    other scoped buffer, unopened (`Pipeline.scopedRestBut`). -/
theorem scopedRest0_flat (c : Dev nD) :
    (Pipeline.scopedRest spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f) ∗ Pipeline.scopedRestBut spec0 c [cc0_scratch0, cc0_scratch1, cc0_scratch2, cc0_scratch3, cc0_scratch4, cc0_scratch5, cc0_scratch6, cc0_scratch7, cc0_scratch8, cc0_scratch9]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest0_split, assoc, assoc, assoc, assoc, assoc, assoc, assoc, assoc, assoc]

/-- The frame kit's invariant with the scratch operands as memrefs owned at some contents (`Gen.scopedRest0_flat`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ Pipeline.scopedRestBut spec0 c [cc0_scratch0, cc0_scratch1, cc0_scratch2, cc0_scratch3, cc0_scratch4, cc0_scratch5, cc0_scratch6, cc0_scratch7, cc0_scratch8, cc0_scratch9]) ∗ (∃ r, prngReg c r)) := by
  unfold Pipeline.ΦA; rw [scopedRest0_flat]; simp only [scM0_0, scM0_1, scM0_2, scM0_3, scM0_4, scM0_5, scM0_6, scM0_7, scM0_8, scM0_9, owns_whole]; try rfl

-- (the run's proof term is large: the definition's epilogue — `abstractNestedProofs` — walks it past the default budget)
set_option maxHeartbeats 1784000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs; the pieces are
    the witness that run finds (assigned when `iexact` hands the buffer to the continuation). -/
noncomputable def kernelRun0_A (c : Dev nD) (i : grid0.Coords) (arg1 : Memref sig .tc .vmem S4x512x256 .f32) (harg1 : arg1.IsWhole) (arg2 : Memref sig .tc .vmem S512x512 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2x1536x512 .f32) (harg5 : arg5.IsWhole) (arg6 : Memref sig .tc .vmem S2x1536 .f32) (harg6 : arg6.IsWhole) (arg7 : Memref sig .tc .vmem S1x512x512 .f32) (harg7 : arg7.IsWhole) (arg8 : Memref sig .tc .vmem S2x512 .f32) (harg8 : arg8.IsWhole) (arg9 : Memref sig .tc .vmem S2x512 .f32) (harg9 : arg9.IsWhole) (arg10 : Memref sig .tc .vmem S2x512 .f32) (harg10 : arg10.IsWhole) (arg11 : Memref sig .tc .vmem S1x2048x512 .f32) (harg11 : arg11.IsWhole) (arg12 : Memref sig .tc .vmem S2x2048 .f32) (harg12 : arg12.IsWhole) (arg13 : Memref sig .tc .vmem S1x512x2048 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S2x512 .f32) (harg16 : arg16.IsWhole) (arg17 : Memref sig .tc .vmem S4x512 .f32) (harg17 : arg17.IsWhole) (arg18 : Memref sig .tc .vmem S4x512 .f32) (harg18 : arg18.IsWhole) (arg19 : Memref sig .tc .vmem S512x256 .bf16) (harg19 : arg19.IsWhole) (arg20 : Memref sig .tc .vmem S1536x512 .bf16) (harg20 : arg20.IsWhole) (arg21 : Memref sig .tc .vmem S512x512 .bf16) (harg21 : arg21.IsWhole) (arg22 : Memref sig .tc .vmem S2048x512 .bf16) (harg22 : arg22.IsWhole) (arg23 : Memref sig .tc .vmem S512x2048 .bf16) (harg23 : arg23.IsWhole) (arg24 : Memref sig .tc .vmem S1024x512 .bf16) (harg24 : arg24.IsWhole) (arg25 : Memref sig .tc .vmem S512x512 .bf16) (harg25 : arg25.IsWhole) (arg26 : Memref sig .tc .vmem S2048x1536 .bf16) (harg26 : arg26.IsWhole) (arg27 : Memref sig .tc .vmem S2048x2048 .bf16) (harg27 : arg27.IsWhole) (arg28 : Memref sig .tc .vmem S2048x1024 .bf16) (harg28 : arg28.IsWhole)
    (x0 : Vec F S4x512x256 .f32) (x1 : Vec F S512x512 .f32) (x2 : Vec F S512x256 .f32) (x3 : Vec F S1x512 .f32) (x4 : Vec F S2x1536x512 .f32) (x5 : Vec F S2x1536 .f32) (x6 : Vec F S1x512x512 .f32) (x7 : Vec F S2x512 .f32) (x8 : Vec F S2x512 .f32) (x9 : Vec F S2x512 .f32) (x10 : Vec F S1x2048x512 .f32) (x11 : Vec F S2x2048 .f32) (x12 : Vec F S1x512x2048 .f32) (x13 : Vec F S2x512 .f32) (x14 : Vec F S2x512 .f32) (x15 : Vec F S2x512 .f32) :
    Σ' (L16 : List (View.Piece (Elt F) S4x512 .f32)), Σ' (L17 : List (View.Piece (Elt F) S4x512 .f32)), Σ' (LT0 : List (View.Piece (Elt F) S512x256 .bf16)), Σ' (LT1 : List (View.Piece (Elt F) S1536x512 .bf16)), Σ' (LT2 : List (View.Piece (Elt F) S512x512 .bf16)), Σ' (LT3 : List (View.Piece (Elt F) S2048x512 .bf16)), Σ' (LT4 : List (View.Piece (Elt F) S512x2048 .bf16)), Σ' (LT5 : List (View.Piece (Elt F) S1024x512 .bf16)), Σ' (LT6 : List (View.Piece (Elt F) S512x512 .bf16)), Σ' (LT7 : List (View.Piece (Elt F) S2048x1536 .bf16)), Σ' (LT8 : List (View.Piece (Elt F) S2048x2048 .bf16)), { LT9 : List (View.Piece (Elt F) S2048x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f LT0) ∗ (∃ f, arg20.view.loc (c : Thread nD τ) ↦[arg20.view.set]{fullShare} arg20.view.writes (Elt F) f LT1) ∗ (∃ f, arg21.view.loc (c : Thread nD τ) ↦[arg21.view.set]{fullShare} arg21.view.writes (Elt F) f LT2) ∗ (∃ f, arg22.view.loc (c : Thread nD τ) ↦[arg22.view.set]{fullShare} arg22.view.writes (Elt F) f LT3) ∗ (∃ f, arg23.view.loc (c : Thread nD τ) ↦[arg23.view.set]{fullShare} arg23.view.writes (Elt F) f LT4) ∗ (∃ f, arg24.view.loc (c : Thread nD τ) ↦[arg24.view.set]{fullShare} arg24.view.writes (Elt F) f LT5) ∗ (∃ f, arg25.view.loc (c : Thread nD τ) ↦[arg25.view.set]{fullShare} arg25.view.writes (Elt F) f LT6) ∗ (∃ f, arg26.view.loc (c : Thread nD τ) ↦[arg26.view.set]{fullShare} arg26.view.writes (Elt F) f LT7) ∗ (∃ f, arg27.view.loc (c : Thread nD τ) ↦[arg27.view.set]{fullShare} arg27.view.writes (Elt F) f LT8) ∗ (∃ f, arg28.view.loc (c : Thread nD τ) ↦[arg28.view.set]{fullShare} arg28.view.writes (Elt F) f LT9)) -∗ K ⟨⟩))
          ⊢ wp frame (wpE (defs₀ (F := F)) Variants.none c none) E (cc0__body_a i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, ?_, ?_, ?_, ?_, ?_, fun E K => ?run⟩
  case run =>
    simp only [cc0__body_a_eq_skeleton]; unfold cc0__body_a_skel
    simp only [k0_part41_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

/-- The run's pieces for output 16 tile its block (1 store of `S4x512`, checked by the kernel's evaluation: Lib/Ring.lean `Piece.tiledL`, linear in the pieces, through a loop's `@[irreducible]` trip theorem too), so they cover it. -/
theorem cover0_A_16 (c : Dev nD) (i : grid0.Coords) (arg1 : Memref sig .tc .vmem S4x512x256 .f32) (harg1 : arg1.IsWhole) (arg2 : Memref sig .tc .vmem S512x512 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2x1536x512 .f32) (harg5 : arg5.IsWhole) (arg6 : Memref sig .tc .vmem S2x1536 .f32) (harg6 : arg6.IsWhole) (arg7 : Memref sig .tc .vmem S1x512x512 .f32) (harg7 : arg7.IsWhole) (arg8 : Memref sig .tc .vmem S2x512 .f32) (harg8 : arg8.IsWhole) (arg9 : Memref sig .tc .vmem S2x512 .f32) (harg9 : arg9.IsWhole) (arg10 : Memref sig .tc .vmem S2x512 .f32) (harg10 : arg10.IsWhole) (arg11 : Memref sig .tc .vmem S1x2048x512 .f32) (harg11 : arg11.IsWhole) (arg12 : Memref sig .tc .vmem S2x2048 .f32) (harg12 : arg12.IsWhole) (arg13 : Memref sig .tc .vmem S1x512x2048 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S2x512 .f32) (harg16 : arg16.IsWhole) (arg17 : Memref sig .tc .vmem S4x512 .f32) (harg17 : arg17.IsWhole) (arg18 : Memref sig .tc .vmem S4x512 .f32) (harg18 : arg18.IsWhole) (arg19 : Memref sig .tc .vmem S512x256 .bf16) (harg19 : arg19.IsWhole) (arg20 : Memref sig .tc .vmem S1536x512 .bf16) (harg20 : arg20.IsWhole) (arg21 : Memref sig .tc .vmem S512x512 .bf16) (harg21 : arg21.IsWhole) (arg22 : Memref sig .tc .vmem S2048x512 .bf16) (harg22 : arg22.IsWhole) (arg23 : Memref sig .tc .vmem S512x2048 .bf16) (harg23 : arg23.IsWhole) (arg24 : Memref sig .tc .vmem S1024x512 .bf16) (harg24 : arg24.IsWhole) (arg25 : Memref sig .tc .vmem S512x512 .bf16) (harg25 : arg25.IsWhole) (arg26 : Memref sig .tc .vmem S2048x1536 .bf16) (harg26 : arg26.IsWhole) (arg27 : Memref sig .tc .vmem S2048x2048 .bf16) (harg27 : arg27.IsWhole) (arg28 : Memref sig .tc .vmem S2048x1024 .bf16) (harg28 : arg28.IsWhole)
    (x0 : Vec F S4x512x256 .f32) (x1 : Vec F S512x512 .f32) (x2 : Vec F S512x256 .f32) (x3 : Vec F S1x512 .f32) (x4 : Vec F S2x1536x512 .f32) (x5 : Vec F S2x1536 .f32) (x6 : Vec F S1x512x512 .f32) (x7 : Vec F S2x512 .f32) (x8 : Vec F S2x512 .f32) (x9 : Vec F S2x512 .f32) (x10 : Vec F S1x2048x512 .f32) (x11 : Vec F S2x2048 .f32) (x12 : Vec F S1x512x2048 .f32) (x13 : Vec F S2x512 .f32) (x14 : Vec F S2x512 .f32) (x15 : Vec F S2x512 .f32) (y : S4x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15).1 S4x512.size (by sl_kernel_rfl) y

/-- What the run leaves in output 16's staging buffer: its pieces read back over junk. -/
def out0_A_16 (c : Dev nD) (i : grid0.Coords) (arg1 : Memref sig .tc .vmem S4x512x256 .f32) (harg1 : arg1.IsWhole) (arg2 : Memref sig .tc .vmem S512x512 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2x1536x512 .f32) (harg5 : arg5.IsWhole) (arg6 : Memref sig .tc .vmem S2x1536 .f32) (harg6 : arg6.IsWhole) (arg7 : Memref sig .tc .vmem S1x512x512 .f32) (harg7 : arg7.IsWhole) (arg8 : Memref sig .tc .vmem S2x512 .f32) (harg8 : arg8.IsWhole) (arg9 : Memref sig .tc .vmem S2x512 .f32) (harg9 : arg9.IsWhole) (arg10 : Memref sig .tc .vmem S2x512 .f32) (harg10 : arg10.IsWhole) (arg11 : Memref sig .tc .vmem S1x2048x512 .f32) (harg11 : arg11.IsWhole) (arg12 : Memref sig .tc .vmem S2x2048 .f32) (harg12 : arg12.IsWhole) (arg13 : Memref sig .tc .vmem S1x512x2048 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S2x512 .f32) (harg16 : arg16.IsWhole) (arg17 : Memref sig .tc .vmem S4x512 .f32) (harg17 : arg17.IsWhole) (arg18 : Memref sig .tc .vmem S4x512 .f32) (harg18 : arg18.IsWhole) (arg19 : Memref sig .tc .vmem S512x256 .bf16) (harg19 : arg19.IsWhole) (arg20 : Memref sig .tc .vmem S1536x512 .bf16) (harg20 : arg20.IsWhole) (arg21 : Memref sig .tc .vmem S512x512 .bf16) (harg21 : arg21.IsWhole) (arg22 : Memref sig .tc .vmem S2048x512 .bf16) (harg22 : arg22.IsWhole) (arg23 : Memref sig .tc .vmem S512x2048 .bf16) (harg23 : arg23.IsWhole) (arg24 : Memref sig .tc .vmem S1024x512 .bf16) (harg24 : arg24.IsWhole) (arg25 : Memref sig .tc .vmem S512x512 .bf16) (harg25 : arg25.IsWhole) (arg26 : Memref sig .tc .vmem S2048x1536 .bf16) (harg26 : arg26.IsWhole) (arg27 : Memref sig .tc .vmem S2048x2048 .bf16) (harg27 : arg27.IsWhole) (arg28 : Memref sig .tc .vmem S2048x1024 .bf16) (harg28 : arg28.IsWhole)
    (x0 : Vec F S4x512x256 .f32) (x1 : Vec F S512x512 .f32) (x2 : Vec F S512x256 .f32) (x3 : Vec F S1x512 .f32) (x4 : Vec F S2x1536x512 .f32) (x5 : Vec F S2x1536 .f32) (x6 : Vec F S1x512x512 .f32) (x7 : Vec F S2x512 .f32) (x8 : Vec F S2x512 .f32) (x9 : Vec F S2x512 .f32) (x10 : Vec F S1x2048x512 .f32) (x11 : Vec F S2x2048 .f32) (x12 : Vec F S1x512x2048 .f32) (x13 : Vec F S2x512 .f32) (x14 : Vec F S2x512 .f32) (x15 : Vec F S2x512 .f32) : Vec F S4x512 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15).1)

/-- The run's pieces for output 17 tile its block (1 store of `S4x512`, checked by the kernel's evaluation: Lib/Ring.lean `Piece.tiledL`, linear in the pieces, through a loop's `@[irreducible]` trip theorem too), so they cover it. -/
theorem cover0_A_17 (c : Dev nD) (i : grid0.Coords) (arg1 : Memref sig .tc .vmem S4x512x256 .f32) (harg1 : arg1.IsWhole) (arg2 : Memref sig .tc .vmem S512x512 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2x1536x512 .f32) (harg5 : arg5.IsWhole) (arg6 : Memref sig .tc .vmem S2x1536 .f32) (harg6 : arg6.IsWhole) (arg7 : Memref sig .tc .vmem S1x512x512 .f32) (harg7 : arg7.IsWhole) (arg8 : Memref sig .tc .vmem S2x512 .f32) (harg8 : arg8.IsWhole) (arg9 : Memref sig .tc .vmem S2x512 .f32) (harg9 : arg9.IsWhole) (arg10 : Memref sig .tc .vmem S2x512 .f32) (harg10 : arg10.IsWhole) (arg11 : Memref sig .tc .vmem S1x2048x512 .f32) (harg11 : arg11.IsWhole) (arg12 : Memref sig .tc .vmem S2x2048 .f32) (harg12 : arg12.IsWhole) (arg13 : Memref sig .tc .vmem S1x512x2048 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S2x512 .f32) (harg16 : arg16.IsWhole) (arg17 : Memref sig .tc .vmem S4x512 .f32) (harg17 : arg17.IsWhole) (arg18 : Memref sig .tc .vmem S4x512 .f32) (harg18 : arg18.IsWhole) (arg19 : Memref sig .tc .vmem S512x256 .bf16) (harg19 : arg19.IsWhole) (arg20 : Memref sig .tc .vmem S1536x512 .bf16) (harg20 : arg20.IsWhole) (arg21 : Memref sig .tc .vmem S512x512 .bf16) (harg21 : arg21.IsWhole) (arg22 : Memref sig .tc .vmem S2048x512 .bf16) (harg22 : arg22.IsWhole) (arg23 : Memref sig .tc .vmem S512x2048 .bf16) (harg23 : arg23.IsWhole) (arg24 : Memref sig .tc .vmem S1024x512 .bf16) (harg24 : arg24.IsWhole) (arg25 : Memref sig .tc .vmem S512x512 .bf16) (harg25 : arg25.IsWhole) (arg26 : Memref sig .tc .vmem S2048x1536 .bf16) (harg26 : arg26.IsWhole) (arg27 : Memref sig .tc .vmem S2048x2048 .bf16) (harg27 : arg27.IsWhole) (arg28 : Memref sig .tc .vmem S2048x1024 .bf16) (harg28 : arg28.IsWhole)
    (x0 : Vec F S4x512x256 .f32) (x1 : Vec F S512x512 .f32) (x2 : Vec F S512x256 .f32) (x3 : Vec F S1x512 .f32) (x4 : Vec F S2x1536x512 .f32) (x5 : Vec F S2x1536 .f32) (x6 : Vec F S1x512x512 .f32) (x7 : Vec F S2x512 .f32) (x8 : Vec F S2x512 .f32) (x9 : Vec F S2x512 .f32) (x10 : Vec F S1x2048x512 .f32) (x11 : Vec F S2x2048 .f32) (x12 : Vec F S1x512x2048 .f32) (x13 : Vec F S2x512 .f32) (x14 : Vec F S2x512 .f32) (x15 : Vec F S2x512 .f32) (y : S4x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15).2.1 S4x512.size (by sl_kernel_rfl) y

/-- What the run leaves in output 17's staging buffer: its pieces read back over junk. -/
def out0_A_17 (c : Dev nD) (i : grid0.Coords) (arg1 : Memref sig .tc .vmem S4x512x256 .f32) (harg1 : arg1.IsWhole) (arg2 : Memref sig .tc .vmem S512x512 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2x1536x512 .f32) (harg5 : arg5.IsWhole) (arg6 : Memref sig .tc .vmem S2x1536 .f32) (harg6 : arg6.IsWhole) (arg7 : Memref sig .tc .vmem S1x512x512 .f32) (harg7 : arg7.IsWhole) (arg8 : Memref sig .tc .vmem S2x512 .f32) (harg8 : arg8.IsWhole) (arg9 : Memref sig .tc .vmem S2x512 .f32) (harg9 : arg9.IsWhole) (arg10 : Memref sig .tc .vmem S2x512 .f32) (harg10 : arg10.IsWhole) (arg11 : Memref sig .tc .vmem S1x2048x512 .f32) (harg11 : arg11.IsWhole) (arg12 : Memref sig .tc .vmem S2x2048 .f32) (harg12 : arg12.IsWhole) (arg13 : Memref sig .tc .vmem S1x512x2048 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S2x512 .f32) (harg16 : arg16.IsWhole) (arg17 : Memref sig .tc .vmem S4x512 .f32) (harg17 : arg17.IsWhole) (arg18 : Memref sig .tc .vmem S4x512 .f32) (harg18 : arg18.IsWhole) (arg19 : Memref sig .tc .vmem S512x256 .bf16) (harg19 : arg19.IsWhole) (arg20 : Memref sig .tc .vmem S1536x512 .bf16) (harg20 : arg20.IsWhole) (arg21 : Memref sig .tc .vmem S512x512 .bf16) (harg21 : arg21.IsWhole) (arg22 : Memref sig .tc .vmem S2048x512 .bf16) (harg22 : arg22.IsWhole) (arg23 : Memref sig .tc .vmem S512x2048 .bf16) (harg23 : arg23.IsWhole) (arg24 : Memref sig .tc .vmem S1024x512 .bf16) (harg24 : arg24.IsWhole) (arg25 : Memref sig .tc .vmem S512x512 .bf16) (harg25 : arg25.IsWhole) (arg26 : Memref sig .tc .vmem S2048x1536 .bf16) (harg26 : arg26.IsWhole) (arg27 : Memref sig .tc .vmem S2048x2048 .bf16) (harg27 : arg27.IsWhole) (arg28 : Memref sig .tc .vmem S2048x1024 .bf16) (harg28 : arg28.IsWhole)
    (x0 : Vec F S4x512x256 .f32) (x1 : Vec F S512x512 .f32) (x2 : Vec F S512x256 .f32) (x3 : Vec F S1x512 .f32) (x4 : Vec F S2x1536x512 .f32) (x5 : Vec F S2x1536 .f32) (x6 : Vec F S1x512x512 .f32) (x7 : Vec F S2x512 .f32) (x8 : Vec F S2x512 .f32) (x9 : Vec F S2x512 .f32) (x10 : Vec F S1x2048x512 .f32) (x11 : Vec F S2x2048 .f32) (x12 : Vec F S1x512x2048 .f32) (x13 : Vec F S2x512 .f32) (x14 : Vec F S2x512 .f32) (x15 : Vec F S2x512 .f32) : Vec F S4x512 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15).2.1)

/-! ## What the outputs hold after each point -/

/-- What the outputs' staging buffers hold after the body at point `t` (as a tuple, in window order): the run's contents at
    the point's memrefs and input blocks. -/
def outsAt0 (c : Dev nD) (t : Fin cfg0.N) : Vec F S4x512 .f32 × Vec F S4x512 .f32 :=
  (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t))

/-! ## The pipeline's proof data -/

/-- The proof data of pipeline 0 on core `c`: the arrays as the region finds them (`V`); after the body at
    point `t` each input's buffer at its block and the outputs' at `outsAt0`; the invariant the class's
   ; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => (outsAt0 V c t).1
    | ⟨17, _⟩ => (outsAt0 V c t).2
    | ⟨_ + 18, h⟩ => absurd h (Nat.not_lt.2 (Nat.le_add_left _ _))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = (outsAt0 V c t).1 := by dsimp only [dat0]
theorem after0_17 (c : Dev nD) (t : Fin cfg0.N) : (dat0 V c).after 17 t = (outsAt0 V c t).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d))
    ∗ (∃ d, owns (c : Thread nD τ) (ms0_16 t) fullShare ((dat0 V c).before 16 t d))
    ∗ (∃ d, owns (c : Thread nD τ) (ms0_17 t) fullShare ((dat0 V c).before 17 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t)
    ∗ owns (c : Thread nD τ) (ms0_13 t) fullShare ((dat0 V c).after 13 t)
    ∗ owns (c : Thread nD τ) (ms0_14 t) fullShare ((dat0 V c).after 14 t)
    ∗ owns (c : Thread nD τ) (ms0_15 t) fullShare ((dat0 V c).after 15 t)
    ∗ owns (c : Thread nD τ) (ms0_16 t) fullShare ((dat0 V c).after 16 t)
    ∗ owns (c : Thread nD τ) (ms0_17 t) fullShare ((dat0 V c).after 17 t))

set_option maxHeartbeats 2800000 in
/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17]
  rw [show (dat0 V c).Φ t.castSucc = Pipeline.ΦA spec0 c from rfl, PhiA0_eq]
  unfold outsAt0
  unfold out0_A_16 out0_A_17; (try dsimp only)
  iintro ⟨⟨⟨HS0, HS1, HS2, HS3, HS4, HS5, HS6, HS7, HS8, HS9, HR10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t)).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, H10, H11, H12, H13, H14, H15, ⟨%e16, H16⟩, ⟨%e17, H17⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩, ⟨%fT8, HS8⟩, ⟨%fT9, HS9⟩⟩
  isplitl [HS0 HS1 HS2 HS3 HS4 HS5 HS6 HS7 HS8 HS9 HR10 Hg]
  · isplitl [HS0 HS1 HS2 HS3 HS4 HS5 HS6 HS7 HS8 HS9 HR10]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · iexists _; unfold owns; iexists _; isplitr
        swap; · iexact HS6
        ipureintro; rfl
      isplitl [HS7]
      · iexists _; unfold owns; iexists _; isplitr
        swap; · iexact HS7
        ipureintro; rfl
      isplitl [HS8]
      · iexists _; unfold owns; iexists _; isplitr
        swap; · iexact HS8
        ipureintro; rfl
      isplitl [HS9]
      · iexists _; unfold owns; iexists _; isplitr
        swap; · iexact HS9
        ipureintro; rfl
      iexact HR10
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H17
  ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.KernelIdealRun.lean ====
/-
  THE SECOND CALL OF `KernelIdeal` (the second layer's tail, the mixture of experts, the head) and THE RUN of both calls among the
  host's operations: every execution ends, each boundary's buffers at a fold from the launch memory, every argument
  unchanged. The text is that of the frame certificate of this program, with one step's effort raised.
-/
module

public import proofs.«01_k».proof.Proof.KernelIdealCall0
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- the rectangles below have long axes, and membership in one goes coordinate by coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1__body_tail` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_18_of {c : Dev nD} (dat : Dat τ (Elt F) Unit ℕ (UR sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_19_of {c : Dev nD} (dat : Dat τ (Elt F) Unit ℕ (UR sig nD τ) ℕ cfg1 c) (hA : dat.A 19 = V c (Pipeline.arrRef spec1 19))
    (hafter : ∀ t, dat.after 19 t = iblk1 V c 19 t) (t : Fin cfg1.N) (d) : dat.before 19 t d = iblk1 V c 19 t :=
  (dat.before_in_eq_fetched 19 rfl (fun _ => rfl) (fun _ _ _ => rfl) (fun t => by rw [hafter]; unfold Dat.blockOf iblk1; rw [hA]; try rfl) t d).trans
    (by unfold Dat.fetched Dat.blockOf iblk1; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_20_of {c : Dev nD} (dat : Dat τ (Elt F) Unit ℕ (UR sig nD τ) ℕ cfg1 c) (hA : dat.A 20 = V c (Pipeline.arrRef spec1 20))
    (hafter : ∀ t, dat.after 20 t = iblk1 V c 20 t) (t : Fin cfg1.N) (d) : dat.before 20 t d = iblk1 V c 20 t :=
  (dat.before_in_eq_fetched 20 rfl (fun _ => rfl) (fun _ _ _ => rfl) (fun t => by rw [hafter]; unfold Dat.blockOf iblk1; rw [hA]; try rfl) t d).trans
    (by unfold Dat.fetched Dat.blockOf iblk1; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_21_of {c : Dev nD} (dat : Dat τ (Elt F) Unit ℕ (UR sig nD τ) ℕ cfg1 c) (hA : dat.A 21 = V c (Pipeline.arrRef spec1 21))
    (hafter : ∀ t, dat.after 21 t = iblk1 V c 21 t) (t : Fin cfg1.N) (d) : dat.before 21 t d = iblk1 V c 21 t :=
  (dat.before_in_eq_fetched 21 rfl (fun _ => rfl) (fun _ _ _ => rfl) (fun t => by rw [hafter]; unfold Dat.blockOf iblk1; rw [hA]; try rfl) t d).trans
    (by unfold Dat.fetched Dat.blockOf iblk1; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_22_of {c : Dev nD} (dat : Dat τ (Elt F) Unit ℕ (UR sig nD τ) ℕ cfg1 c) (hA : dat.A 22 = V c (Pipeline.arrRef spec1 22))
    (hafter : ∀ t, dat.after 22 t = iblk1 V c 22 t) (t : Fin cfg1.N) (d) : dat.before 22 t d = iblk1 V c 22 t :=
  (dat.before_in_eq_fetched 22 rfl (fun _ => rfl) (fun _ _ _ => rfl) (fun t => by rw [hafter]; unfold Dat.blockOf iblk1; rw [hA]; try rfl) t d).trans
    (by unfold Dat.fetched Dat.blockOf iblk1; rw [hA]; try rfl)
/-- Input window 23's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_23_of {c : Dev nD} (dat : Dat τ (Elt F) Unit ℕ (UR sig nD τ) ℕ cfg1 c) (hA : dat.A 23 = V c (Pipeline.arrRef spec1 23))
    (hafter : ∀ t, dat.after 23 t = iblk1 V c 23 t) (t : Fin cfg1.N) (d) : dat.before 23 t d = iblk1 V c 23 t :=
  (dat.before_in_eq_fetched 23 rfl (fun _ => rfl) (fun _ _ _ => rfl) (fun t => by rw [hafter]; unfold Dat.blockOf iblk1; rw [hA]; try rfl) t d).trans
    (by unfold Dat.fetched Dat.blockOf iblk1; rw [hA]; try rfl)
/-- Input window 24's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_24_of {c : Dev nD} (dat : Dat τ (Elt F) Unit ℕ (UR sig nD τ) ℕ cfg1 c) (hA : dat.A 24 = V c (Pipeline.arrRef spec1 24))
    (hafter : ∀ t, dat.after 24 t = iblk1 V c 24 t) (t : Fin cfg1.N) (d) : dat.before 24 t d = iblk1 V c 24 t :=
  (dat.before_in_eq_fetched 24 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S4x512 := Rect.unit (s := S4x512) ![0, 0] S4x512.size inb_S4x512_S4x512_0_0
abbrev r1_1 : Rect S1x512x512 := Rect.unit (s := S1x512x512) ![0, 0, 0] S1x512x512.size inb_S1x512x512_S1x512x512_0_0_0
abbrev r1_2 : Rect S2x512 := Rect.unit (s := S2x512) ![1, 0] S1x512.size inb_S2x512_S1x512_1_0
abbrev r1_3 : Rect S1x2048x512 := Rect.unit (s := S1x2048x512) ![0, 0, 0] S1x2048x512.size inb_S1x2048x512_S1x2048x512_0_0_0
abbrev r1_4 : Rect S2x2048 := Rect.unit (s := S2x2048) ![1, 0] S1x2048.size inb_S2x2048_S1x2048_1_0
abbrev r1_5 : Rect S1x512x2048 := Rect.unit (s := S1x512x2048) ![0, 0, 0] S1x512x2048.size inb_S1x512x2048_S1x512x2048_0_0_0
abbrev r1_6 : Rect S1x512 := Rect.unit (s := S1x512) ![0, 0] S1x512.size inb_S1x512_S1x512_0_0
abbrev r1_7 : Rect S1x4 := Rect.unit (s := S1x4) ![0, 0] S1x4.size inb_S1x4_S1x4_0_0
abbrev r1_8 : Rect S4x1024x512 := Rect.unit (s := S4x1024x512) ![0, 0, 0] S1x1024x512.size inb_S4x1024x512_S1x1024x512_0_0_0
abbrev r1_9 : Rect S4x1x1024 := Rect.unit (s := S4x1x1024) ![0, 0, 0] S1x1x1024.size inb_S4x1x1024_S1x1x1024_0_0_0
abbrev r1_10 : Rect S4x512x1024 := Rect.unit (s := S4x512x1024) ![0, 0, 0] S1x512x1024.size inb_S4x512x1024_S1x512x1024_0_0_0
abbrev r1_11 : Rect S4x1x512 := Rect.unit (s := S4x1x512) ![0, 0, 0] S1x1x512.size inb_S4x1x512_S1x1x512_0_0_0
abbrev r1_12 : Rect S4x1024x512 := Rect.unit (s := S4x1024x512) ![1, 0, 0] S1x1024x512.size inb_S4x1024x512_S1x1024x512_1_0_0
abbrev r1_13 : Rect S4x1x1024 := Rect.unit (s := S4x1x1024) ![1, 0, 0] S1x1x1024.size inb_S4x1x1024_S1x1x1024_1_0_0
abbrev r1_14 : Rect S4x512x1024 := Rect.unit (s := S4x512x1024) ![1, 0, 0] S1x512x1024.size inb_S4x512x1024_S1x512x1024_1_0_0
abbrev r1_15 : Rect S4x1x512 := Rect.unit (s := S4x1x512) ![1, 0, 0] S1x1x512.size inb_S4x1x512_S1x1x512_1_0_0
abbrev r1_16 : Rect S4x1024x512 := Rect.unit (s := S4x1024x512) ![2, 0, 0] S1x1024x512.size inb_S4x1024x512_S1x1024x512_2_0_0
abbrev r1_17 : Rect S4x1x1024 := Rect.unit (s := S4x1x1024) ![2, 0, 0] S1x1x1024.size inb_S4x1x1024_S1x1x1024_2_0_0
abbrev r1_18 : Rect S4x512x1024 := Rect.unit (s := S4x512x1024) ![2, 0, 0] S1x512x1024.size inb_S4x512x1024_S1x512x1024_2_0_0
abbrev r1_19 : Rect S4x1x512 := Rect.unit (s := S4x1x512) ![2, 0, 0] S1x1x512.size inb_S4x1x512_S1x1x512_2_0_0
abbrev r1_20 : Rect S4x1024x512 := Rect.unit (s := S4x1024x512) ![3, 0, 0] S1x1024x512.size inb_S4x1024x512_S1x1024x512_3_0_0
abbrev r1_21 : Rect S4x1x1024 := Rect.unit (s := S4x1x1024) ![3, 0, 0] S1x1x1024.size inb_S4x1x1024_S1x1x1024_3_0_0
abbrev r1_22 : Rect S4x512x1024 := Rect.unit (s := S4x512x1024) ![3, 0, 0] S1x512x1024.size inb_S4x512x1024_S1x512x1024_3_0_0
abbrev r1_23 : Rect S4x1x512 := Rect.unit (s := S4x1x512) ![3, 0, 0] S1x1x512.size inb_S4x1x512_S1x1x512_3_0_0
abbrev r1_24 : Rect S4x4x256 := Rect.unit (s := S4x4x256) ![0, 0, 0] S4x4x256.size inb_S4x4x256_S4x4x256_0_0_0
abbrev r1_25 : Rect S256x512 := Rect.unit (s := S256x512) ![0, 0] S256x512.size inb_S256x512_S256x512_0_0
abbrev r1_26 : Rect S1x256 := Rect.unit (s := S1x256) ![0, 0] S1x256.size inb_S1x256_S1x256_0_0
abbrev r1_27 : Rect S4x256 := Rect.unit (s := S4x256) ![0, 0] S4x256.size inb_S4x256_S4x256_0_0

/-! ## What the body leaves in each output window's buffer -/

/-! ### Values of the body that the stores' payloads, spelt out, would write more than once

    Each is a vector the body binds (often a part call's result), stated over the input windows' blocks and
    numbered on from the skeleton's payload functions (`k1_pay44` …, after `k1_pay43`), so that
    `out1_W` and the values after it name it instead of spelling it out; the comment after each is the printed function's
    name for the value (a count appended where that name is bound again). -/

def k1_pay44 (x0 : Vec F S4x512 .f32) (x1 : Vec F S4x512 .f32) (x2 : Vec F S1x512x512 .f32) (x3 : Vec F S2x512 .f32) (x4 : Vec F S2x512 .f32) (x5 : Vec F S2x512 .f32) (x6 : Vec F S1x2048x512 .f32) (x7 : Vec F S2x2048 .f32) (x8 : Vec F S1x512x2048 .f32) (x9 : Vec F S2x512 .f32) (x10 : Vec F S2x512 .f32) (x11 : Vec F S2x512 .f32) (x12 : Vec F S1x512 .f32) (x13 : Vec F S1x512 .f32) (x14 : Vec F S4x512 .f32) (x15 : Vec F S1x4 .f32) (x16 : Vec F S4x1024x512 .f32) (x17 : Vec F S4x1x1024 .f32) (x18 : Vec F S4x512x1024 .f32) (x19 : Vec F S4x1x512 .f32) (x20 : Vec F S1x512 .f32) (x21 : Vec F S1x512 .f32) (x22 : Vec F S256x512 .f32) (x23 : Vec F S1x256 .f32) (x24 : Vec F S4x4x256 .f32) : FVec F S4x512 .f32 :=
  k1_pay2 (View.ld x0 r1_0) (View.ld x1 r1_0) (View.ld x2 r1_1) (View.ld x3 r1_2) (View.ld x4 r1_2) (View.ld x5 r1_2) -- `v36`
def k1_pay45 (x0 : Vec F S4x512 .f32) (x1 : Vec F S4x512 .f32) (x2 : Vec F S1x512x512 .f32) (x3 : Vec F S2x512 .f32) (x4 : Vec F S2x512 .f32) (x5 : Vec F S2x512 .f32) (x6 : Vec F S1x2048x512 .f32) (x7 : Vec F S2x2048 .f32) (x8 : Vec F S1x512x2048 .f32) (x9 : Vec F S2x512 .f32) (x10 : Vec F S2x512 .f32) (x11 : Vec F S2x512 .f32) (x12 : Vec F S1x512 .f32) (x13 : Vec F S1x512 .f32) (x14 : Vec F S4x512 .f32) (x15 : Vec F S1x4 .f32) (x16 : Vec F S4x1024x512 .f32) (x17 : Vec F S4x1x1024 .f32) (x18 : Vec F S4x512x1024 .f32) (x19 : Vec F S4x1x512 .f32) (x20 : Vec F S1x512 .f32) (x21 : Vec F S1x512 .f32) (x22 : Vec F S256x512 .f32) (x23 : Vec F S1x256 .f32) (x24 : Vec F S4x4x256 .f32) : FVec F S4x1 .f32 :=
  k1_pay5 (k1_pay44 x0 x1 x2 x3 x4 x5 x6 x7 x8 x9 x10 x11 x12 x13 x14 x15 x16 x17 x18 x19 x20 x21 x22 x23 x24) (View.ld x6 r1_3) (View.ld x7 r1_4) (View.ld x8 r1_5) (View.ld x9 r1_2) -- `v74`
def k1_pay46 (x0 : Vec F S4x512 .f32) (x1 : Vec F S4x512 .f32) (x2 : Vec F S1x512x512 .f32) (x3 : Vec F S2x512 .f32) (x4 : Vec F S2x512 .f32) (x5 : Vec F S2x512 .f32) (x6 : Vec F S1x2048x512 .f32) (x7 : Vec F S2x2048 .f32) (x8 : Vec F S1x512x2048 .f32) (x9 : Vec F S2x512 .f32) (x10 : Vec F S2x512 .f32) (x11 : Vec F S2x512 .f32) (x12 : Vec F S1x512 .f32) (x13 : Vec F S1x512 .f32) (x14 : Vec F S4x512 .f32) (x15 : Vec F S1x4 .f32) (x16 : Vec F S4x1024x512 .f32) (x17 : Vec F S4x1x1024 .f32) (x18 : Vec F S4x512x1024 .f32) (x19 : Vec F S4x1x512 .f32) (x20 : Vec F S1x512 .f32) (x21 : Vec F S1x512 .f32) (x22 : Vec F S256x512 .f32) (x23 : Vec F S1x256 .f32) (x24 : Vec F S4x4x256 .f32) : FVec F S4x512 .f32 :=
  k1_pay6 (k1_pay44 x0 x1 x2 x3 x4 x5 x6 x7 x8 x9 x10 x11 x12 x13 x14 x15 x16 x17 x18 x19 x20 x21 x22 x23 x24) (View.ld x6 r1_3) (View.ld x7 r1_4) (View.ld x8 r1_5) (View.ld x9 r1_2) -- `v76`
def k1_pay47 (x0 : Vec F S4x512 .f32) (x1 : Vec F S4x512 .f32) (x2 : Vec F S1x512x512 .f32) (x3 : Vec F S2x512 .f32) (x4 : Vec F S2x512 .f32) (x5 : Vec F S2x512 .f32) (x6 : Vec F S1x2048x512 .f32) (x7 : Vec F S2x2048 .f32) (x8 : Vec F S1x512x2048 .f32) (x9 : Vec F S2x512 .f32) (x10 : Vec F S2x512 .f32) (x11 : Vec F S2x512 .f32) (x12 : Vec F S1x512 .f32) (x13 : Vec F S1x512 .f32) (x14 : Vec F S4x512 .f32) (x15 : Vec F S1x4 .f32) (x16 : Vec F S4x1024x512 .f32) (x17 : Vec F S4x1x1024 .f32) (x18 : Vec F S4x512x1024 .f32) (x19 : Vec F S4x1x512 .f32) (x20 : Vec F S1x512 .f32) (x21 : Vec F S1x512 .f32) (x22 : Vec F S256x512 .f32) (x23 : Vec F S1x256 .f32) (x24 : Vec F S4x4x256 .f32) : FVec F S4x512 .f32 :=
  k1_pay7 (View.ld x10 r1_2) (View.ld x11 r1_2) (k1_pay45 x0 x1 x2 x3 x4 x5 x6 x7 x8 x9 x10 x11 x12 x13 x14 x15 x16 x17 x18 x19 x20 x21 x22 x23 x24) (k1_pay46 x0 x1 x2 x3 x4 x5 x6 x7 x8 x9 x10 x11 x12 x13 x14 x15 x16 x17 x18 x19 x20 x21 x22 x23 x24) (View.ld x12 r1_6) (View.ld x13 r1_6) -- `v111`
def k1_pay48 (x0 : Vec F S4x512 .f32) (x1 : Vec F S4x512 .f32) (x2 : Vec F S1x512x512 .f32) (x3 : Vec F S2x512 .f32) (x4 : Vec F S2x512 .f32) (x5 : Vec F S2x512 .f32) (x6 : Vec F S1x2048x512 .f32) (x7 : Vec F S2x2048 .f32) (x8 : Vec F S1x512x2048 .f32) (x9 : Vec F S2x512 .f32) (x10 : Vec F S2x512 .f32) (x11 : Vec F S2x512 .f32) (x12 : Vec F S1x512 .f32) (x13 : Vec F S1x512 .f32) (x14 : Vec F S4x512 .f32) (x15 : Vec F S1x4 .f32) (x16 : Vec F S4x1024x512 .f32) (x17 : Vec F S4x1x1024 .f32) (x18 : Vec F S4x512x1024 .f32) (x19 : Vec F S4x1x512 .f32) (x20 : Vec F S1x512 .f32) (x21 : Vec F S1x512 .f32) (x22 : Vec F S256x512 .f32) (x23 : Vec F S1x256 .f32) (x24 : Vec F S4x4x256 .f32) : FVec F S4x1 .f32 :=
  k1_pay9 (View.ld x10 r1_2) (View.ld x11 r1_2) (k1_pay45 x0 x1 x2 x3 x4 x5 x6 x7 x8 x9 x10 x11 x12 x13 x14 x15 x16 x17 x18 x19 x20 x21 x22 x23 x24) (k1_pay46 x0 x1 x2 x3 x4 x5 x6 x7 x8 x9 x10 x11 x12 x13 x14 x15 x16 x17 x18 x19 x20 x21 x22 x23 x24) (View.ld x12 r1_6) (View.ld x13 r1_6) (View.ld x14 r1_0) (View.ld x15 r1_7) -- `v118`
def k1_pay49 (x0 : Vec F S4x512 .f32) (x1 : Vec F S4x512 .f32) (x2 : Vec F S1x512x512 .f32) (x3 : Vec F S2x512 .f32) (x4 : Vec F S2x512 .f32) (x5 : Vec F S2x512 .f32) (x6 : Vec F S1x2048x512 .f32) (x7 : Vec F S2x2048 .f32) (x8 : Vec F S1x512x2048 .f32) (x9 : Vec F S2x512 .f32) (x10 : Vec F S2x512 .f32) (x11 : Vec F S2x512 .f32) (x12 : Vec F S1x512 .f32) (x13 : Vec F S1x512 .f32) (x14 : Vec F S4x512 .f32) (x15 : Vec F S1x4 .f32) (x16 : Vec F S4x1024x512 .f32) (x17 : Vec F S4x1x1024 .f32) (x18 : Vec F S4x512x1024 .f32) (x19 : Vec F S4x1x512 .f32) (x20 : Vec F S1x512 .f32) (x21 : Vec F S1x512 .f32) (x22 : Vec F S256x512 .f32) (x23 : Vec F S1x256 .f32) (x24 : Vec F S4x4x256 .f32) : FVec F S4x1 .f32 :=
  k1_pay10 (View.ld x10 r1_2) (View.ld x11 r1_2) (k1_pay45 x0 x1 x2 x3 x4 x5 x6 x7 x8 x9 x10 x11 x12 x13 x14 x15 x16 x17 x18 x19 x20 x21 x22 x23 x24) (k1_pay46 x0 x1 x2 x3 x4 x5 x6 x7 x8 x9 x10 x11 x12 x13 x14 x15 x16 x17 x18 x19 x20 x21 x22 x23 x24) (View.ld x12 r1_6) (View.ld x13 r1_6) (View.ld x14 r1_0) (View.ld x15 r1_7) -- `v119`
def k1_pay50 (x0 : Vec F S4x512 .f32) (x1 : Vec F S4x512 .f32) (x2 : Vec F S1x512x512 .f32) (x3 : Vec F S2x512 .f32) (x4 : Vec F S2x512 .f32) (x5 : Vec F S2x512 .f32) (x6 : Vec F S1x2048x512 .f32) (x7 : Vec F S2x2048 .f32) (x8 : Vec F S1x512x2048 .f32) (x9 : Vec F S2x512 .f32) (x10 : Vec F S2x512 .f32) (x11 : Vec F S2x512 .f32) (x12 : Vec F S1x512 .f32) (x13 : Vec F S1x512 .f32) (x14 : Vec F S4x512 .f32) (x15 : Vec F S1x4 .f32) (x16 : Vec F S4x1024x512 .f32) (x17 : Vec F S4x1x1024 .f32) (x18 : Vec F S4x512x1024 .f32) (x19 : Vec F S4x1x512 .f32) (x20 : Vec F S1x512 .f32) (x21 : Vec F S1x512 .f32) (x22 : Vec F S256x512 .f32) (x23 : Vec F S1x256 .f32) (x24 : Vec F S4x4x256 .f32) : FVec F S4x1 .f32 :=
  k1_pay11 (View.ld x10 r1_2) (View.ld x11 r1_2) (k1_pay45 x0 x1 x2 x3 x4 x5 x6 x7 x8 x9 x10 x11 x12 x13 x14 x15 x16 x17 x18 x19 x20 x21 x22 x23 x24) (k1_pay46 x0 x1 x2 x3 x4 x5 x6 x7 x8 x9 x10 x11 x12 x13 x14 x15 x16 x17 x18 x19 x20 x21 x22 x23 x24) (View.ld x12 r1_6) (View.ld x13 r1_6) (View.ld x14 r1_0) (View.ld x15 r1_7) -- `v120`
def k1_pay51 (x0 : Vec F S4x512 .f32) (x1 : Vec F S4x512 .f32) (x2 : Vec F S1x512x512 .f32) (x3 : Vec F S2x512 .f32) (x4 : Vec F S2x512 .f32) (x5 : Vec F S2x512 .f32) (x6 : Vec F S1x2048x512 .f32) (x7 : Vec F S2x2048 .f32) (x8 : Vec F S1x512x2048 .f32) (x9 : Vec F S2x512 .f32) (x10 : Vec F S2x512 .f32) (x11 : Vec F S2x512 .f32) (x12 : Vec F S1x512 .f32) (x13 : Vec F S1x512 .f32) (x14 : Vec F S4x512 .f32) (x15 : Vec F S1x4 .f32) (x16 : Vec F S4x1024x512 .f32) (x17 : Vec F S4x1x1024 .f32) (x18 : Vec F S4x512x1024 .f32) (x19 : Vec F S4x1x512 .f32) (x20 : Vec F S1x512 .f32) (x21 : Vec F S1x512 .f32) (x22 : Vec F S256x512 .f32) (x23 : Vec F S1x256 .f32) (x24 : Vec F S4x4x256 .f32) : FVec F S4x1 .f32 :=
  k1_pay12 (View.ld x10 r1_2) (View.ld x11 r1_2) (k1_pay45 x0 x1 x2 x3 x4 x5 x6 x7 x8 x9 x10 x11 x12 x13 x14 x15 x16 x17 x18 x19 x20 x21 x22 x23 x24) (k1_pay46 x0 x1 x2 x3 x4 x5 x6 x7 x8 x9 x10 x11 x12 x13 x14 x15 x16 x17 x18 x19 x20 x21 x22 x23 x24) (View.ld x12 r1_6) (View.ld x13 r1_6) (View.ld x14 r1_0) (View.ld x15 r1_7) -- `v121`
def k1_pay52 (x0 : Vec F S4x512 .f32) (x1 : Vec F S4x512 .f32) (x2 : Vec F S1x512x512 .f32) (x3 : Vec F S2x512 .f32) (x4 : Vec F S2x512 .f32) (x5 : Vec F S2x512 .f32) (x6 : Vec F S1x2048x512 .f32) (x7 : Vec F S2x2048 .f32) (x8 : Vec F S1x512x2048 .f32) (x9 : Vec F S2x512 .f32) (x10 : Vec F S2x512 .f32) (x11 : Vec F S2x512 .f32) (x12 : Vec F S1x512 .f32) (x13 : Vec F S1x512 .f32) (x14 : Vec F S4x512 .f32) (x15 : Vec F S1x4 .f32) (x16 : Vec F S4x1024x512 .f32) (x17 : Vec F S4x1x1024 .f32) (x18 : Vec F S4x512x1024 .f32) (x19 : Vec F S4x1x512 .f32) (x20 : Vec F S1x512 .f32) (x21 : Vec F S1x512 .f32) (x22 : Vec F S256x512 .f32) (x23 : Vec F S1x256 .f32) (x24 : Vec F S4x4x256 .f32) : FVec F S4x1 .f32 :=
  k1_pay29 (k1_pay48 x0 x1 x2 x3 x4 x5 x6 x7 x8 x9 x10 x11 x12 x13 x14 x15 x16 x17 x18 x19 x20 x21 x22 x23 x24) (k1_pay49 x0 x1 x2 x3 x4 x5 x6 x7 x8 x9 x10 x11 x12 x13 x14 x15 x16 x17 x18 x19 x20 x21 x22 x23 x24) (k1_pay50 x0 x1 x2 x3 x4 x5 x6 x7 x8 x9 x10 x11 x12 x13 x14 x15 x16 x17 x18 x19 x20 x21 x22 x23 x24) (k1_pay51 x0 x1 x2 x3 x4 x5 x6 x7 x8 x9 x10 x11 x12 x13 x14 x15 x16 x17 x18 x19 x20 x21 x22 x23 x24) -- `v165`

/-- Window 25's staging buffer after the body, from the input windows' blocks: its 1 store as pieces, LAST
    FIRST. -/
def out1_25 (x0 : Vec F S4x512 .f32) (x1 : Vec F S4x512 .f32) (x2 : Vec F S1x512x512 .f32) (x3 : Vec F S2x512 .f32) (x4 : Vec F S2x512 .f32) (x5 : Vec F S2x512 .f32) (x6 : Vec F S1x2048x512 .f32) (x7 : Vec F S2x2048 .f32) (x8 : Vec F S1x512x2048 .f32) (x9 : Vec F S2x512 .f32) (x10 : Vec F S2x512 .f32) (x11 : Vec F S2x512 .f32) (x12 : Vec F S1x512 .f32) (x13 : Vec F S1x512 .f32) (x14 : Vec F S4x512 .f32) (x15 : Vec F S1x4 .f32) (x16 : Vec F S4x1024x512 .f32) (x17 : Vec F S4x1x1024 .f32) (x18 : Vec F S4x512x1024 .f32) (x19 : Vec F S4x1x512 .f32) (x20 : Vec F S1x512 .f32) (x21 : Vec F S1x512 .f32) (x22 : Vec F S256x512 .f32) (x23 : Vec F S1x256 .f32) (x24 : Vec F S4x4x256 .f32) : Vec F S4x256 .f32 :=
  View.canon [⟨r1_27, k1_pay1 (k1_pay40 (k1_pay47 x0 x1 x2 x3 x4 x5 x6 x7 x8 x9 x10 x11 x12 x13 x14 x15 x16 x17 x18 x19 x20 x21 x22 x23 x24) (k1_pay28 (k1_pay48 x0 x1 x2 x3 x4 x5 x6 x7 x8 x9 x10 x11 x12 x13 x14 x15 x16 x17 x18 x19 x20 x21 x22 x23 x24) (k1_pay49 x0 x1 x2 x3 x4 x5 x6 x7 x8 x9 x10 x11 x12 x13 x14 x15 x16 x17 x18 x19 x20 x21 x22 x23 x24) (k1_pay50 x0 x1 x2 x3 x4 x5 x6 x7 x8 x9 x10 x11 x12 x13 x14 x15 x16 x17 x18 x19 x20 x21 x22 x23 x24) (k1_pay51 x0 x1 x2 x3 x4 x5 x6 x7 x8 x9 x10 x11 x12 x13 x14 x15 x16 x17 x18 x19 x20 x21 x22 x23 x24)) (k1_pay52 x0 x1 x2 x3 x4 x5 x6 x7 x8 x9 x10 x11 x12 x13 x14 x15 x16 x17 x18 x19 x20 x21 x22 x23 x24) (k1_pay37 (k1_pay17 (k1_pay48 x0 x1 x2 x3 x4 x5 x6 x7 x8 x9 x10 x11 x12 x13 x14 x15 x16 x17 x18 x19 x20 x21 x22 x23 x24) (k1_pay49 x0 x1 x2 x3 x4 x5 x6 x7 x8 x9 x10 x11 x12 x13 x14 x15 x16 x17 x18 x19 x20 x21 x22 x23 x24) (k1_pay50 x0 x1 x2 x3 x4 x5 x6 x7 x8 x9 x10 x11 x12 x13 x14 x15 x16 x17 x18 x19 x20 x21 x22 x23 x24) (k1_pay51 x0 x1 x2 x3 x4 x5 x6 x7 x8 x9 x10 x11 x12 x13 x14 x15 x16 x17 x18 x19 x20 x21 x22 x23 x24)) (k1_pay27 (k1_pay48 x0 x1 x2 x3 x4 x5 x6 x7 x8 x9 x10 x11 x12 x13 x14 x15 x16 x17 x18 x19 x20 x21 x22 x23 x24) (k1_pay49 x0 x1 x2 x3 x4 x5 x6 x7 x8 x9 x10 x11 x12 x13 x14 x15 x16 x17 x18 x19 x20 x21 x22 x23 x24) (k1_pay50 x0 x1 x2 x3 x4 x5 x6 x7 x8 x9 x10 x11 x12 x13 x14 x15 x16 x17 x18 x19 x20 x21 x22 x23 x24) (k1_pay51 x0 x1 x2 x3 x4 x5 x6 x7 x8 x9 x10 x11 x12 x13 x14 x15 x16 x17 x18 x19 x20 x21 x22 x23 x24)) (k1_pay52 x0 x1 x2 x3 x4 x5 x6 x7 x8 x9 x10 x11 x12 x13 x14 x15 x16 x17 x18 x19 x20 x21 x22 x23 x24) (k1_pay34 (k1_pay15 (k1_pay48 x0 x1 x2 x3 x4 x5 x6 x7 x8 x9 x10 x11 x12 x13 x14 x15 x16 x17 x18 x19 x20 x21 x22 x23 x24) (k1_pay49 x0 x1 x2 x3 x4 x5 x6 x7 x8 x9 x10 x11 x12 x13 x14 x15 x16 x17 x18 x19 x20 x21 x22 x23 x24) (k1_pay50 x0 x1 x2 x3 x4 x5 x6 x7 x8 x9 x10 x11 x12 x13 x14 x15 x16 x17 x18 x19 x20 x21 x22 x23 x24) (k1_pay51 x0 x1 x2 x3 x4 x5 x6 x7 x8 x9 x10 x11 x12 x13 x14 x15 x16 x17 x18 x19 x20 x21 x22 x23 x24)) (k1_pay25 (k1_pay48 x0 x1 x2 x3 x4 x5 x6 x7 x8 x9 x10 x11 x12 x13 x14 x15 x16 x17 x18 x19 x20 x21 x22 x23 x24) (k1_pay49 x0 x1 x2 x3 x4 x5 x6 x7 x8 x9 x10 x11 x12 x13 x14 x15 x16 x17 x18 x19 x20 x21 x22 x23 x24) (k1_pay50 x0 x1 x2 x3 x4 x5 x6 x7 x8 x9 x10 x11 x12 x13 x14 x15 x16 x17 x18 x19 x20 x21 x22 x23 x24) (k1_pay51 x0 x1 x2 x3 x4 x5 x6 x7 x8 x9 x10 x11 x12 x13 x14 x15 x16 x17 x18 x19 x20 x21 x22 x23 x24)) (k1_pay52 x0 x1 x2 x3 x4 x5 x6 x7 x8 x9 x10 x11 x12 x13 x14 x15 x16 x17 x18 x19 x20 x21 x22 x23 x24) (k1_pay31 (k1_pay47 x0 x1 x2 x3 x4 x5 x6 x7 x8 x9 x10 x11 x12 x13 x14 x15 x16 x17 x18 x19 x20 x21 x22 x23 x24) (k1_pay14 (k1_pay48 x0 x1 x2 x3 x4 x5 x6 x7 x8 x9 x10 x11 x12 x13 x14 x15 x16 x17 x18 x19 x20 x21 x22 x23 x24) (k1_pay49 x0 x1 x2 x3 x4 x5 x6 x7 x8 x9 x10 x11 x12 x13 x14 x15 x16 x17 x18 x19 x20 x21 x22 x23 x24) (k1_pay50 x0 x1 x2 x3 x4 x5 x6 x7 x8 x9 x10 x11 x12 x13 x14 x15 x16 x17 x18 x19 x20 x21 x22 x23 x24) (k1_pay51 x0 x1 x2 x3 x4 x5 x6 x7 x8 x9 x10 x11 x12 x13 x14 x15 x16 x17 x18 x19 x20 x21 x22 x23 x24)) (k1_pay24 (k1_pay48 x0 x1 x2 x3 x4 x5 x6 x7 x8 x9 x10 x11 x12 x13 x14 x15 x16 x17 x18 x19 x20 x21 x22 x23 x24) (k1_pay49 x0 x1 x2 x3 x4 x5 x6 x7 x8 x9 x10 x11 x12 x13 x14 x15 x16 x17 x18 x19 x20 x21 x22 x23 x24) (k1_pay50 x0 x1 x2 x3 x4 x5 x6 x7 x8 x9 x10 x11 x12 x13 x14 x15 x16 x17 x18 x19 x20 x21 x22 x23 x24) (k1_pay51 x0 x1 x2 x3 x4 x5 x6 x7 x8 x9 x10 x11 x12 x13 x14 x15 x16 x17 x18 x19 x20 x21 x22 x23 x24)) (k1_pay52 x0 x1 x2 x3 x4 x5 x6 x7 x8 x9 x10 x11 x12 x13 x14 x15 x16 x17 x18 x19 x20 x21 x22 x23 x24) (k1_pay30 (F := F)) (View.ld x16 r1_8) (View.ld x17 r1_9) (View.ld x18 r1_10) (View.ld x19 r1_11)) (k1_pay32 (k1_pay47 x0 x1 x2 x3 x4 x5 x6 x7 x8 x9 x10 x11 x12 x13 x14 x15 x16 x17 x18 x19 x20 x21 x22 x23 x24) (View.ld x16 r1_12)) (k1_pay33 (View.ld x17 r1_13)) (View.ld x18 r1_14) (View.ld x19 r1_15)) (k1_pay35 (k1_pay47 x0 x1 x2 x3 x4 x5 x6 x7 x8 x9 x10 x11 x12 x13 x14 x15 x16 x17 x18 x19 x20 x21 x22 x23 x24) (View.ld x16 r1_16) (View.ld x17 r1_17)) (k1_pay36 (View.ld x18 r1_18)) (View.ld x19 r1_19)) (k1_pay38 (k1_pay47 x0 x1 x2 x3 x4 x5 x6 x7 x8 x9 x10 x11 x12 x13 x14 x15 x16 x17 x18 x19 x20 x21 x22 x23 x24) (View.ld x16 r1_20) (View.ld x17 r1_21) (View.ld x18 r1_22) (View.ld x19 r1_23)) (k1_pay39 (k1_pay18 (k1_pay48 x0 x1 x2 x3 x4 x5 x6 x7 x8 x9 x10 x11 x12 x13 x14 x15 x16 x17 x18 x19 x20 x21 x22 x23 x24) (k1_pay49 x0 x1 x2 x3 x4 x5 x6 x7 x8 x9 x10 x11 x12 x13 x14 x15 x16 x17 x18 x19 x20 x21 x22 x23 x24) (k1_pay50 x0 x1 x2 x3 x4 x5 x6 x7 x8 x9 x10 x11 x12 x13 x14 x15 x16 x17 x18 x19 x20 x21 x22 x23 x24) (k1_pay51 x0 x1 x2 x3 x4 x5 x6 x7 x8 x9 x10 x11 x12 x13 x14 x15 x16 x17 x18 x19 x20 x21 x22 x23 x24)) (k1_pay52 x0 x1 x2 x3 x4 x5 x6 x7 x8 x9 x10 x11 x12 x13 x14 x15 x16 x17 x18 x19 x20 x21 x22 x23 x24)) (View.ld x20 r1_6) (View.ld x21 r1_6)) (k1_pay42 (View.ld x24 r1_24)) (k1_pay43 (View.ld x24 r1_24)) (View.ld x22 r1_25) (View.ld x23 r1_26)⟩]

/-- Its stores tile the buffer (checked by evaluation), so they cover it. -/
theorem cover1_25 (p0 : Vec F S4x256 .f32) (y : S4x256.Idx) :
    ∃ pc ∈ ([⟨r1_27, p0⟩] : List (View.Piece (Elt F) S4x256 .f32)), y ∈ pc.1.set :=
  View.cover_of_tiled [⟨r1_27, p0⟩] S4x256.size (by rfl) y

/-! ## The body's triple -/

set_option maxHeartbeats 1522850 in
/-- The kernel body on whole staging memrefs, the inputs' at read contents `xW` and the outputs' at anything, runs to
    the continuation holding the inputs' as they were and each output's at `out1_W` of the inputs': the printed functions
    are their skeletons (`Gen.*_eq_skeleton`), which `sl_exec` runs, through every part call. -/
theorem sound_kernel1 (c : Dev nD) (E : Set ℕ) (i : grid1.Coords) (arg1 : Memref sig .tc .vmem S4x512 .f32) (harg1 : arg1.IsWhole) (arg2 : Memref sig .tc .vmem S4x512 .f32) (harg2 : arg2.IsWhole) (arg3 : Memref sig .tc .vmem S1x512x512 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S1x2048x512 .f32) (harg7 : arg7.IsWhole) (arg8 : Memref sig .tc .vmem S2x2048 .f32) (harg8 : arg8.IsWhole) (arg9 : Memref sig .tc .vmem S1x512x2048 .f32) (harg9 : arg9.IsWhole) (arg10 : Memref sig .tc .vmem S2x512 .f32) (harg10 : arg10.IsWhole) (arg11 : Memref sig .tc .vmem S2x512 .f32) (harg11 : arg11.IsWhole) (arg12 : Memref sig .tc .vmem S2x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S4x512 .f32) (harg15 : arg15.IsWhole) (arg16 : Memref sig .tc .vmem S1x4 .f32) (harg16 : arg16.IsWhole) (arg17 : Memref sig .tc .vmem S4x1024x512 .f32) (harg17 : arg17.IsWhole) (arg18 : Memref sig .tc .vmem S4x1x1024 .f32) (harg18 : arg18.IsWhole) (arg19 : Memref sig .tc .vmem S4x512x1024 .f32) (harg19 : arg19.IsWhole) (arg20 : Memref sig .tc .vmem S4x1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S256x512 .f32) (harg23 : arg23.IsWhole) (arg24 : Memref sig .tc .vmem S1x256 .f32) (harg24 : arg24.IsWhole) (arg25 : Memref sig .tc .vmem S4x4x256 .f32) (harg25 : arg25.IsWhole) (arg26 : Memref sig .tc .vmem S4x256 .f32) (harg26 : arg26.IsWhole)
    (x0 : Vec F S4x512 .f32) (x1 : Vec F S4x512 .f32) (x2 : Vec F S1x512x512 .f32) (x3 : Vec F S2x512 .f32) (x4 : Vec F S2x512 .f32) (x5 : Vec F S2x512 .f32) (x6 : Vec F S1x2048x512 .f32) (x7 : Vec F S2x2048 .f32) (x8 : Vec F S1x512x2048 .f32) (x9 : Vec F S2x512 .f32) (x10 : Vec F S2x512 .f32) (x11 : Vec F S2x512 .f32) (x12 : Vec F S1x512 .f32) (x13 : Vec F S1x512 .f32) (x14 : Vec F S4x512 .f32) (x15 : Vec F S1x4 .f32) (x16 : Vec F S4x1024x512 .f32) (x17 : Vec F S4x1x1024 .f32) (x18 : Vec F S4x512x1024 .f32) (x19 : Vec F S4x1x512 .f32) (x20 : Vec F S1x512 .f32) (x21 : Vec F S1x512 .f32) (x22 : Vec F S256x512 .f32) (x23 : Vec F S1x256 .f32) (x24 : Vec F S4x4x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ d, owns (c : Thread nD τ) arg26 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare (out1_25 x0 x1 x2 x3 x4 x5 x6 x7 x8 x9 x10 x11 x12 x13 x14 x15 x16 x17 x18 x19 x20 x21 x22 x23 x24)) -∗ K ⟨⟩))
      ⊢ wp frame (wpE (defs₀ (F := F)) Variants.none c none) E (cc1__body_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc1__body_tail_eq_skeleton]; unfold cc1__body_tail_skel
  simp only [k1_part1_eq_skeleton, k1_part2_eq_skeleton, k1_part3_eq_skeleton, k1_part4_eq_skeleton, k1_part5_eq_skeleton, k1_part6_eq_skeleton, k1_part7_eq_skeleton, k1_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, Hk⟩
  subst hf0 hf1 hf2 hf3 hf4 hf5 hf6 hf7 hf8 hf9 hf10 hf11 hf12 hf13 hf14 hf15 hf16 hf17 hf18 hf19 hf20 hf21 hf22 hf23 hf24
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  iexists _; isplitr
  swap; · iexact H25
  ipureintro
  refine (View.read_writes_eq_canon _ _ _ (cover1_25 _)).trans ?_
  rfl

/-! ## The pipeline's proof data -/

/-- The proof data of pipeline 1 on core `c`: the arrays as the region finds them (`V`); after the body at
    point `t` each input's buffer at its block and each output's at `out1_W` of the input blocks; the invariant the
    class's; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => iblk1 V c 21 t
    | ⟨22, _⟩ => iblk1 V c 22 t
    | ⟨23, _⟩ => iblk1 V c 23 t
    | ⟨24, _⟩ => iblk1 V c 24 t
    | ⟨25, _⟩ => out1_25 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t)
    | ⟨_ + 26, h⟩ => absurd h (Nat.not_lt.2 (Nat.le_add_left _ _))
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = iblk1 V c 20 t := by dsimp only [dat1]
theorem after1_21 (c : Dev nD) (t : Fin cfg1.N) : (dat1 V c).after 21 t = iblk1 V c 21 t := by dsimp only [dat1]
theorem after1_22 (c : Dev nD) (t : Fin cfg1.N) : (dat1 V c).after 22 t = iblk1 V c 22 t := by dsimp only [dat1]
theorem after1_23 (c : Dev nD) (t : Fin cfg1.N) : (dat1 V c).after 23 t = iblk1 V c 23 t := by dsimp only [dat1]
theorem after1_24 (c : Dev nD) (t : Fin cfg1.N) : (dat1 V c).after 24 t = iblk1 V c 24 t := by dsimp only [dat1]
theorem after1_25 (c : Dev nD) (t : Fin cfg1.N) : (dat1 V c).after 25 t = out1_25 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d
theorem before1_18 (c : Dev nD) (t : Fin cfg1.N) (d) : (dat1 V c).before 18 t d = iblk1 V c 18 t :=
  before1_18_of V (dat1 V c) (A_eq1 V c 18) (after1_18 V c) t d
theorem before1_19 (c : Dev nD) (t : Fin cfg1.N) (d) : (dat1 V c).before 19 t d = iblk1 V c 19 t :=
  before1_19_of V (dat1 V c) (A_eq1 V c 19) (after1_19 V c) t d
theorem before1_20 (c : Dev nD) (t : Fin cfg1.N) (d) : (dat1 V c).before 20 t d = iblk1 V c 20 t :=
  before1_20_of V (dat1 V c) (A_eq1 V c 20) (after1_20 V c) t d
theorem before1_21 (c : Dev nD) (t : Fin cfg1.N) (d) : (dat1 V c).before 21 t d = iblk1 V c 21 t :=
  before1_21_of V (dat1 V c) (A_eq1 V c 21) (after1_21 V c) t d
theorem before1_22 (c : Dev nD) (t : Fin cfg1.N) (d) : (dat1 V c).before 22 t d = iblk1 V c 22 t :=
  before1_22_of V (dat1 V c) (A_eq1 V c 22) (after1_22 V c) t d
theorem before1_23 (c : Dev nD) (t : Fin cfg1.N) (d) : (dat1 V c).before 23 t d = iblk1 V c 23 t :=
  before1_23_of V (dat1 V c) (A_eq1 V c 23) (after1_23 V c) t d
theorem before1_24 (c : Dev nD) (t : Fin cfg1.N) (d) : (dat1 V c).before 24 t d = iblk1 V c 24 t :=
  before1_24_of V (dat1 V c) (A_eq1 V c 24) (after1_24 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d))
    ∗ (∃ d, owns (c : Thread nD τ) (st1_21 t) fullShare ((dat1 V c).before 21 t d))
    ∗ (∃ d, owns (c : Thread nD τ) (st1_22 t) fullShare ((dat1 V c).before 22 t d))
    ∗ (∃ d, owns (c : Thread nD τ) (st1_23 t) fullShare ((dat1 V c).before 23 t d))
    ∗ (∃ d, owns (c : Thread nD τ) (st1_24 t) fullShare ((dat1 V c).before 24 t d))
    ∗ (∃ d, owns (c : Thread nD τ) (st1_25 t) fullShare ((dat1 V c).before 25 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t)
    ∗ owns (c : Thread nD τ) (st1_21 t) fullShare ((dat1 V c).after 21 t)
    ∗ owns (c : Thread nD τ) (st1_22 t) fullShare ((dat1 V c).after 22 t)
    ∗ owns (c : Thread nD τ) (st1_23 t) fullShare ((dat1 V c).after 23 t)
    ∗ owns (c : Thread nD τ) (st1_24 t) fullShare ((dat1 V c).after 24 t)
    ∗ owns (c : Thread nD τ) (st1_25 t) fullShare ((dat1 V c).after 25 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21, before1_22, before1_23, before1_24]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24, after1_25]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel1 c Set.univ (grid1.coords t) _ _ _ _ _ _ _ _ _ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

set_option maxHeartbeats 1000000 in
/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3, main_v4, main_v5, main_v6, main_v7, main_v8, main_v9, main_v10]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
theorem W4_main_arg9 (c : Dev nD) : W4 m ρ c (Proc.devRef .tc main_arg9) = m ((c : Thread nD τ).loc main_arg9) :=
  W4_args m ρ c main_arg9 (by decide)
theorem W4_main_arg10 (c : Dev nD) : W4 m ρ c (Proc.devRef .tc main_arg10) = m ((c : Thread nD τ).loc main_arg10) :=
  W4_args m ρ c main_arg10 (by decide)
theorem W4_main_arg11 (c : Dev nD) : W4 m ρ c (Proc.devRef .tc main_arg11) = m ((c : Thread nD τ).loc main_arg11) :=
  W4_args m ρ c main_arg11 (by decide)
theorem W4_main_arg12 (c : Dev nD) : W4 m ρ c (Proc.devRef .tc main_arg12) = m ((c : Thread nD τ).loc main_arg12) :=
  W4_args m ρ c main_arg12 (by decide)
theorem W4_main_arg13 (c : Dev nD) : W4 m ρ c (Proc.devRef .tc main_arg13) = m ((c : Thread nD τ).loc main_arg13) :=
  W4_args m ρ c main_arg13 (by decide)
theorem W4_main_arg14 (c : Dev nD) : W4 m ρ c (Proc.devRef .tc main_arg14) = m ((c : Thread nD τ).loc main_arg14) :=
  W4_args m ρ c main_arg14 (by decide)
theorem W4_main_arg15 (c : Dev nD) : W4 m ρ c (Proc.devRef .tc main_arg15) = m ((c : Thread nD τ).loc main_arg15) :=
  W4_args m ρ c main_arg15 (by decide)
theorem W4_main_arg16 (c : Dev nD) : W4 m ρ c (Proc.devRef .tc main_arg16) = m ((c : Thread nD τ).loc main_arg16) :=
  W4_args m ρ c main_arg16 (by decide)
theorem W4_main_arg17 (c : Dev nD) : W4 m ρ c (Proc.devRef .tc main_arg17) = m ((c : Thread nD τ).loc main_arg17) :=
  W4_args m ρ c main_arg17 (by decide)
theorem W4_main_arg18 (c : Dev nD) : W4 m ρ c (Proc.devRef .tc main_arg18) = m ((c : Thread nD τ).loc main_arg18) :=
  W4_args m ρ c main_arg18 (by decide)
theorem W4_main_arg19 (c : Dev nD) : W4 m ρ c (Proc.devRef .tc main_arg19) = m ((c : Thread nD τ).loc main_arg19) :=
  W4_args m ρ c main_arg19 (by decide)
theorem W4_main_arg20 (c : Dev nD) : W4 m ρ c (Proc.devRef .tc main_arg20) = m ((c : Thread nD τ).loc main_arg20) :=
  W4_args m ρ c main_arg20 (by decide)
theorem W4_main_arg21 (c : Dev nD) : W4 m ρ c (Proc.devRef .tc main_arg21) = m ((c : Thread nD τ).loc main_arg21) :=
  W4_args m ρ c main_arg21 (by decide)
theorem W4_main_arg22 (c : Dev nD) : W4 m ρ c (Proc.devRef .tc main_arg22) = m ((c : Thread nD τ).loc main_arg22) :=
  W4_args m ρ c main_arg22 (by decide)
theorem W4_main_arg23 (c : Dev nD) : W4 m ρ c (Proc.devRef .tc main_arg23) = m ((c : Thread nD τ).loc main_arg23) :=
  W4_args m ρ c main_arg23 (by decide)
theorem W4_main_arg24 (c : Dev nD) : W4 m ρ c (Proc.devRef .tc main_arg24) = m ((c : Thread nD τ).loc main_arg24) :=
  W4_args m ρ c main_arg24 (by decide)
theorem W4_main_arg25 (c : Dev nD) : W4 m ρ c (Proc.devRef .tc main_arg25) = m ((c : Thread nD τ).loc main_arg25) :=
  W4_args m ρ c main_arg25 (by decide)
theorem W4_main_arg26 (c : Dev nD) : W4 m ρ c (Proc.devRef .tc main_arg26) = m ((c : Thread nD τ).loc main_arg26) :=
  W4_args m ρ c main_arg26 (by decide)
theorem W4_main_arg27 (c : Dev nD) : W4 m ρ c (Proc.devRef .tc main_arg27) = m ((c : Thread nD τ).loc main_arg27) :=
  W4_args m ρ c main_arg27 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main on the TensorCores terminates, nothing
    faulting, and every final state holds in each buffer that outlives the regions what the last boundary says (`W4`), with
    every semaphore counter of the machine at zero: the kit's launch over the segments, the last thread state read against
    the final state (`pointsTo_read_all`). -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W4_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27))
      ∧ r.2.sem = fun _ => 0) :=
  (θ_run defs _ _).mono (fun r h => ⟨fun c => ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c),
       (h.1 c _ (mem_uc main_arg5 (by decide))).trans (W4_main_arg5 m ρ c),
       (h.1 c _ (mem_uc main_arg6 (by decide))).trans (W4_main_arg6 m ρ c),
       (h.1 c _ (mem_uc main_arg7 (by decide))).trans (W4_main_arg7 m ρ c),
       (h.1 c _ (mem_uc main_arg8 (by decide))).trans (W4_main_arg8 m ρ c),
       (h.1 c _ (mem_uc main_arg9 (by decide))).trans (W4_main_arg9 m ρ c),
       (h.1 c _ (mem_uc main_arg10 (by decide))).trans (W4_main_arg10 m ρ c),
       (h.1 c _ (mem_uc main_arg11 (by decide))).trans (W4_main_arg11 m ρ c),
       (h.1 c _ (mem_uc main_arg12 (by decide))).trans (W4_main_arg12 m ρ c),
       (h.1 c _ (mem_uc main_arg13 (by decide))).trans (W4_main_arg13 m ρ c),
       (h.1 c _ (mem_uc main_arg14 (by decide))).trans (W4_main_arg14 m ρ c),
       (h.1 c _ (mem_uc main_arg15 (by decide))).trans (W4_main_arg15 m ρ c),
       (h.1 c _ (mem_uc main_arg16 (by decide))).trans (W4_main_arg16 m ρ c),
       (h.1 c _ (mem_uc main_arg17 (by decide))).trans (W4_main_arg17 m ρ c),
       (h.1 c _ (mem_uc main_arg18 (by decide))).trans (W4_main_arg18 m ρ c),
       (h.1 c _ (mem_uc main_arg19 (by decide))).trans (W4_main_arg19 m ρ c),
       (h.1 c _ (mem_uc main_arg20 (by decide))).trans (W4_main_arg20 m ρ c),
       (h.1 c _ (mem_uc main_arg21 (by decide))).trans (W4_main_arg21 m ρ c),
       (h.1 c _ (mem_uc main_arg22 (by decide))).trans (W4_main_arg22 m ρ c),
       (h.1 c _ (mem_uc main_arg23 (by decide))).trans (W4_main_arg23 m ρ c),
       (h.1 c _ (mem_uc main_arg24 (by decide))).trans (W4_main_arg24 m ρ c),
       (h.1 c _ (mem_uc main_arg25 (by decide))).trans (W4_main_arg25 m ρ c),
       (h.1 c _ (mem_uc main_arg26 (by decide))).trans (W4_main_arg26 m ρ c),
       (h.1 c _ (mem_uc main_arg27 (by decide))).trans (W4_main_arg27 m ρ c)⟩, h.2⟩) (run_all m ρ)

end Cert.KernelIdeal.Gen

end
-- ==== Proof.Real.lean ====
/-
  The extended reals that are reals, and the four equations between the kernel's and the reference's arithmetic: a
  normalization by the reciprocal root or by the root, the exact gelu, the attention of one query with its weights
  divided before or after the product with the values.
-/
module

public import Idealize.ShloMosaic.Lib.Pointwise

@[expose] public section

namespace Cert.Tie

open Idealize.ShloMosaic
open scoped BigOperators

/-- An extended real that is a real number. -/
def IsReal (x : EReal) : Prop := ∃ r : ℝ, x = (r : EReal)

theorem isReal_coe (r : ℝ) : IsReal (r : EReal) := ⟨r, rfl⟩

theorem IsReal.add {x y : EReal} : IsReal x → IsReal y → IsReal (x + y) := by
  rintro ⟨a, rfl⟩ ⟨b, rfl⟩; exact ⟨a + b, by push_cast; rfl⟩

theorem IsReal.sub {x y : EReal} : IsReal x → IsReal y → IsReal (x - y) := by
  rintro ⟨a, rfl⟩ ⟨b, rfl⟩; exact ⟨a - b, by push_cast; rfl⟩

theorem IsReal.mul {x y : EReal} : IsReal x → IsReal y → IsReal (x * y) := by
  rintro ⟨a, rfl⟩ ⟨b, rfl⟩; exact ⟨a * b, by push_cast; rfl⟩

/-- The real sum of real numbers is their sum as extended reals. -/
theorem coe_sum {ι : Type} (S : Finset ι) (g : ι → ℝ) : ((∑ i ∈ S, g i : ℝ) : EReal) = ∑ i ∈ S, (g i : EReal) := by
  classical
  induction S using Finset.induction_on with
  | empty => simp
  | insert a S ha ih => rw [Finset.sum_insert ha, Finset.sum_insert ha, EReal.coe_add, ih]

/-- A finite sum of real numbers is a real number. -/
theorem IsReal.sum {n : ℕ} {f : Fin n → EReal} (h : ∀ i, IsReal (f i)) : IsReal (∑ i, f i) := by
  choose g hg using h
  refine ⟨∑ i, g i, ?_⟩
  simp only [hg]
  exact (coe_sum _ _).symm

theorem IsReal.zero : IsReal 0 := ⟨0, by simp⟩

theorem IsReal.exp {x : EReal} : IsReal x → IsReal (Ideal.exp x) := by
  rintro ⟨a, rfl⟩; exact ⟨_, Ideal.exp_coe a⟩

theorem IsReal.erf {x : EReal} : IsReal x → IsReal (Ideal.erf x) := by
  rintro ⟨a, rfl⟩; exact ⟨_, Ideal.erf_coe a⟩

theorem IsReal.max {x y : EReal} : IsReal x → IsReal y → IsReal (max x y) := by
  rintro ⟨a, rfl⟩ ⟨b, rfl⟩
  rcases max_choice (a : EReal) (b : EReal) with h | h <;> rw [h] <;> exact isReal_coe _

/-- A quotient by a real number that is not zero is real. -/
theorem IsReal.div {x : EReal} {r : ℝ} (hx : IsReal x) (hr : r ≠ 0) : IsReal (Ideal.div x (r : EReal)) := by
  rw [Ideal.div_coe hr]; exact hx.mul (isReal_coe _)

/-- A quotient by an extended real that is a positive real number is real. -/
theorem IsReal.div_pos {x y : EReal} (hx : IsReal x) (hy : ∃ r : ℝ, 0 < r ∧ y = (r : EReal)) :
    IsReal (Ideal.div x y) := by
  obtain ⟨r, hr, rfl⟩ := hy; exact hx.div hr.ne'

/-! ### The literals -/

/-- The number of lanes, as the literal both programs divide by. -/
theorem lit_512 : Ideal.ofBits .f32 0x44000000#32 = ((512 : ℝ) : EReal) := by
  simp [Ideal.ofBits, Ideal.ieee, -EReal.coe_mul]; norm_num

/-- The literal one eighth. -/
theorem lit_eighth : Ideal.ofBits .f32 0x3E000000#32 = ((1 / 8 : ℝ) : EReal) := by
  simp [Ideal.ofBits, Ideal.ieee, -EReal.coe_mul]; norm_num

/-- The literal one half. -/
theorem lit_half : Ideal.ofBits .f32 0x3F000000#32 = ((1 / 2 : ℝ) : EReal) := by
  simp [Ideal.ofBits, Ideal.ieee, -EReal.coe_mul]; norm_num

/-- The literal one half of a sixteen-bit float. -/
theorem lit_half_bf16 : Ideal.ofBits .bf16 0x3F00#16 = ((1 / 2 : ℝ) : EReal) := by
  simp [Ideal.ofBits, Ideal.ieee, -EReal.coe_mul]; norm_num

/-- The literal 64, the width of a head. -/
theorem lit_64 : Ideal.ofBits .f32 0x42800000#32 = ((64 : ℝ) : EReal) := by
  simp [Ideal.ofBits, Ideal.ieee, -EReal.coe_mul]; norm_num

/-- The literal two. -/
theorem lit_2 : Ideal.ofBits .f32 0x40000000#32 = ((2 : ℝ) : EReal) := by
  simp [Ideal.ofBits, Ideal.ieee, -EReal.coe_mul]; norm_num

/-- The literal seven. -/
theorem lit_7 : Ideal.ofBits .f32 0x40E00000#32 = ((7 : ℝ) : EReal) := by
  simp [Ideal.ofBits, Ideal.ieee, -EReal.coe_mul]; norm_num

/-- The literal minus infinity. -/
theorem lit_bot : Ideal.ofBits .f32 0xFF800000#32 = ⊥ := by
  simp [Ideal.ofBits, Ideal.ieee]

/-- The literal plus infinity. -/
theorem lit_top : Ideal.ofBits .f32 0x7F800000#32 = ⊤ := by
  simp [Ideal.ofBits, Ideal.ieee]

/-- The square root of the head's width is eight. -/
theorem sqrt_64 : Ideal.sqrt (Ideal.ofBits .f32 0x42800000#32) = ((8 : ℝ) : EReal) := by
  rw [lit_64, Ideal.sqrt_coe, if_neg (by norm_num)]
  congr 1
  rw [show (64 : ℝ) = 8 ^ 2 by norm_num]
  exact Real.sqrt_sq (by norm_num)

/-- The small number added to a variance. -/
noncomputable def eps : EReal := Ideal.ofBits .f32 0x3727C5AC#32

/-- The small number added to a variance is a positive real. -/
theorem eps_pos : ∃ r : ℝ, 0 < r ∧ eps = (r : EReal) := by
  refine ⟨10995116 * (2 : ℝ) ^ (-40 : ℤ), by positivity, ?_⟩
  unfold eps
  simp [Ideal.ofBits, Ideal.ieee, -EReal.coe_mul]

/-! ### Layer normalization -/

/-- The mean of a row of 512 numbers. -/
noncomputable def mean (x : Fin 512 → EReal) : EReal := Ideal.div (∑ i, x i) (Ideal.ofBits .f32 0x44000000#32)

/-- A row about its mean. -/
noncomputable def dev (x : Fin 512 → EReal) (j : Fin 512) : EReal := x j - mean x

/-- The mean square of a row about its mean. -/
noncomputable def var (x : Fin 512 → EReal) : EReal := mean fun i => (x i - mean x) * (x i - mean x)

/-- Layer normalization of a row with gains `g` and offsets `b`. -/
noncomputable def lnorm (x g b : Fin 512 → EReal) (j : Fin 512) : EReal :=
  Ideal.div (x j - mean x) (Ideal.sqrt (var x + eps)) * g j + b j

theorem mul_self_nonneg' (x : EReal) : 0 ≤ x * x := by
  induction x with
  | bot => simp
  | top => simp
  | coe a => exact_mod_cast mul_self_nonneg a

/-- A mean of numbers that are not negative is not negative. -/
theorem mean_nonneg {x : Fin 512 → EReal} (h : ∀ i, 0 ≤ x i) : 0 ≤ mean x := by
  unfold mean
  rw [lit_512, Ideal.div_coe (by norm_num)]
  exact mul_nonneg (Finset.sum_nonneg fun i _ => h i) (by exact_mod_cast (by norm_num : (0 : ℝ) ≤ 1 / 512))

theorem var_nonneg (x : Fin 512 → EReal) : 0 ≤ var x := mean_nonneg fun _ => mul_self_nonneg' _

/-- Division by the root of a positive number is the product with its reciprocal root. -/
theorem mul_rsqrt (x : EReal) {y : EReal} (hy : 0 < y) : x * Ideal.rsqrt y = Ideal.div x (Ideal.sqrt y) := by
  induction y with
  | bot => simp at hy
  | top => simp [Ideal.div]
  | coe r =>
    have hr : 0 < r := by exact_mod_cast hy
    rw [Ideal.rsqrt_coe, if_neg (not_lt.mpr hr.le), if_neg hr.ne', Ideal.sqrt_coe, if_neg (not_lt.mpr hr.le),
      Ideal.div_coe (Real.sqrt_pos.mpr hr).ne', one_div]

theorem var_eps_pos (x : Fin 512 → EReal) : 0 < var x + eps := by
  obtain ⟨r, hr, he⟩ := eps_pos
  have h : (0 : EReal) < eps := by rw [he]; exact_mod_cast hr
  exact lt_of_lt_of_le h (le_add_of_nonneg_left (var_nonneg x))

/-- The kernel's layer normalization, by the reciprocal root, is the reference's, by the root. -/
theorem lnorm_rsqrt (x g b : Fin 512 → EReal) (j : Fin 512) :
    (x j - mean x) * Ideal.rsqrt (var x + eps) * g j + b j = lnorm x g b j := by
  rw [mul_rsqrt _ (var_eps_pos x), lnorm]

theorem isReal_mean {x : Fin 512 → EReal} (h : ∀ i, IsReal (x i)) : IsReal (mean x) := by
  unfold mean; rw [lit_512]; exact (IsReal.sum h).div (by norm_num)

/-- A real row with real gains and offsets has a real normalization. -/
theorem isReal_lnorm {x g b : Fin 512 → EReal} (hx : ∀ i, IsReal (x i)) (hg : ∀ i, IsReal (g i))
    (hb : ∀ i, IsReal (b i)) (j : Fin 512) : IsReal (lnorm x g b j) := by
  have hm := isReal_mean hx
  have hv : IsReal (var x) := isReal_mean fun i => ((hx i).sub hm).mul ((hx i).sub hm)
  obtain ⟨e, he, hee⟩ := eps_pos
  obtain ⟨v, hv'⟩ := hv
  have hp := var_eps_pos x
  unfold lnorm
  rw [hv', hee, ← EReal.coe_add] at hp ⊢
  have hp' : 0 < v + e := by exact_mod_cast hp
  rw [Ideal.sqrt_coe, if_neg (not_lt.mpr hp'.le)]
  exact ((((hx j).sub hm).div (Real.sqrt_pos.mpr hp').ne').mul (hg j)).add (hb j)

/-! ### The exact gelu -/

/-- The exact gelu. -/
noncomputable def gelu (x : EReal) : EReal :=
  Ideal.ofBits .f32 0x3F000000#32 * x
    * (1 + Ideal.erf (Ideal.div x (Ideal.sqrt (Ideal.ofBits .f32 0x40000000#32))))

theorem sqrt_lit_2 : Ideal.sqrt (Ideal.ofBits .f32 0x40000000#32) = ((Real.sqrt 2 : ℝ) : EReal) := by
  rw [lit_2, Ideal.sqrt_coe, if_neg (by norm_num)]

/-- A quotient by the root of two is the product with its reciprocal. -/
theorem div_sqrt_2 (x : EReal) :
    Ideal.div x (Ideal.sqrt (Ideal.ofBits .f32 0x40000000#32)) = x * (((Real.sqrt 2)⁻¹ : ℝ) : EReal) := by
  rw [sqrt_lit_2, Ideal.div_coe (by positivity), one_div]

theorem isReal_gelu {x : EReal} (h : IsReal x) : IsReal (gelu x) := by
  unfold gelu
  rw [div_sqrt_2, lit_half]
  exact ((isReal_coe _).mul h).mul
    (IsReal.add ⟨1, by simp⟩ (h.mul (isReal_coe _)).erf)

/-! ### The attention of one query -/

/-- The largest of a row of scores. -/
noncomputable def top {n : ℕ} (s : Fin n → EReal) : EReal := Finset.univ.fold Max.max ⊥ s

/-- The score of a query against one key. -/
noncomputable def score (q : Fin 64 → EReal) (k : Fin 512 → Fin 64 → EReal) (j : Fin 512) : EReal :=
  Ideal.div (∑ d, q d * k j d) (Ideal.sqrt (Ideal.ofBits .f32 0x42800000#32))

/-- The weight of a key before the division by the weights' sum. -/
noncomputable def weight (s : Fin 512 → EReal) (j : Fin 512) : EReal := Ideal.exp (s j - top s)

/-- The attention of one query: the values weighted by the softmax of its scores. -/
noncomputable def attend (q : Fin 64 → EReal) (k v : Fin 512 → Fin 64 → EReal) (d : Fin 64) : EReal :=
  ∑ j, Ideal.div (weight (score q k) j) (∑ i, weight (score q k) i) * v j d

/-- The largest of real numbers is real. -/
theorem isReal_top {n : ℕ} [NeZero n] {s : Fin n → EReal} (h : ∀ j, IsReal (s j)) : IsReal (top s) := by
  have h1 : ∀ S : Finset (Fin n), S.fold Max.max ⊥ s = ⊥ ∧ S = ∅ ∨ IsReal (S.fold Max.max ⊥ s) := by
    intro S
    induction S using Finset.induction_on with
    | empty => left; simp
    | insert a S ha ih =>
      right
      rw [Finset.fold_insert ha]
      rcases ih with ⟨e, _⟩ | ih
      · rw [e, max_bot_right]; exact h a
      · exact (h a).max ih
  rcases h1 Finset.univ with ⟨_, e⟩ | h2
  · exact absurd e (Finset.univ_nonempty).ne_empty
  · exact h2

/-- The sum of the weights of a real row of scores is a positive real. -/
theorem weights_pos {s : Fin 512 → EReal} (h : ∀ j, IsReal (s j)) :
    ∃ r : ℝ, 0 < r ∧ ∑ i, weight s i = (r : EReal) := by
  obtain ⟨m, hm⟩ := isReal_top h
  choose t ht using h
  refine ⟨∑ i, Real.exp (t i - m), Finset.sum_pos (fun i _ => Real.exp_pos _) Finset.univ_nonempty, ?_⟩
  have h2 : ∀ i, weight s i = ((Real.exp (t i - m) : ℝ) : EReal) := fun i => by
    unfold weight; rw [hm, ht i, ← EReal.coe_sub, Ideal.exp_coe]
  simp only [h2]
  exact (coe_sum _ _).symm

theorem isReal_score {q : Fin 64 → EReal} {k : Fin 512 → Fin 64 → EReal} (hq : ∀ d, IsReal (q d))
    (hk : ∀ j d, IsReal (k j d)) (j : Fin 512) : IsReal (score q k j) := by
  unfold score; rw [sqrt_64]
  exact (IsReal.sum fun d => (hq d).mul (hk j d)).div (by norm_num)

theorem isReal_weight {s : Fin 512 → EReal} (h : ∀ j, IsReal (s j)) (j : Fin 512) : IsReal (weight s j) :=
  ((h j).sub (isReal_top h)).exp

theorem isReal_attend {q : Fin 64 → EReal} {k v : Fin 512 → Fin 64 → EReal} (hq : ∀ d, IsReal (q d))
    (hk : ∀ j d, IsReal (k j d)) (hv : ∀ j d, IsReal (v j d)) (d : Fin 64) : IsReal (attend q k v d) :=
  IsReal.sum fun j => ((isReal_weight (isReal_score hq hk) j).div_pos (weights_pos (isReal_score hq hk))).mul (hv j d)

/-- Scaling a real query by one eighth first, or its score by one eighth after, is the same. -/
theorem scaled_score {q : Fin 64 → EReal} {k : Fin 512 → Fin 64 → EReal} (hq : ∀ d, IsReal (q d))
    (hk : ∀ j d, IsReal (k j d)) (j : Fin 512) :
    ∑ d, q d * Ideal.ofBits .f32 0x3E000000#32 * k j d = score q k j := by
  unfold score
  rw [sqrt_64, lit_eighth, Ideal.div_coe (by norm_num)]
  choose a ha using hq
  choose b hb using hk
  simp only [ha, hb, ← EReal.coe_mul]
  rw [← coe_sum, ← coe_sum, ← EReal.coe_mul, Finset.sum_mul]
  congr 1
  exact Finset.sum_congr rfl fun d _ => by ring

/-- The kernel's attention, divided after the product with the values, is the reference's, divided before. -/
theorem attend_late {q : Fin 64 → EReal} {k v : Fin 512 → Fin 64 → EReal} (hq : ∀ d, IsReal (q d))
    (hk : ∀ j d, IsReal (k j d)) (hv : ∀ j d, IsReal (v j d)) (d : Fin 64) :
    (∑ j, weight (score q k) j * v j d) * Ideal.div 1 (∑ i, weight (score q k) i) = attend q k v d := by
  have hs := isReal_score hq hk
  obtain ⟨r, hr, hw⟩ := weights_pos hs
  unfold attend
  rw [hw]
  simp only [Ideal.div_coe hr.ne', one_mul]
  choose a ha using isReal_weight hs
  choose b hb using hv
  simp only [ha, hb, ← EReal.coe_mul]
  rw [← coe_sum, ← coe_sum, ← EReal.coe_mul, Finset.sum_mul]
  congr 1
  exact Finset.sum_congr rfl fun j _ => by ring

end Cert.Tie
-- ==== Proof.Finite.lean ====
/-
  The precondition: every element of the arrays it names is below infinity in magnitude, so a real number.
-/
module

public import proofs.«01_k».proof.Pre_finite
public import proofs.«01_k».proof.Proof.Real
public import Idealize.ShloMosaic.Lib.ReduceAll

@[expose] public section

noncomputable section

namespace Cert.Tie

open Idealize.ShloMosaic Cert.Pre_finite

/-- A magnitude below infinity is a real number's. -/
theorem isReal_of_abs_lt {x : EReal} (h : max x (-x) < ⊤) : IsReal x := by
  induction x with
  | bot => simp at h
  | coe r => exact ⟨r, rfl⟩
  | top => simp at h

/-- The pattern of infinity. -/
theorem inf_bits : Ideal.ofBits .f32 0x7F800000#32 = (⊤ : EReal) := rfl

/-- The index of the rank-0 shape. -/
def j0 : S_.Idx := fun a => a.elim0

instance : Subsingleton S_.Idx := ⟨fun a b => funext fun i => i.elim0⟩

/-- The conjunction over an array of `|x| < ∞`: every element is a real number. -/
theorem all_real {s : Shape} {axes : List (Fin s.rank)} (x : FVec Ideal s .f32) (hb : S_.BroadcastsInDim s ![]) (hr : s.ReducesTo axes S_) (hu : 0 < S_.numel) (j : S_.Idx)
    (h : Host.reduce IntOp.andi (cmpf .olt (Host.absf x) (broadcastInDim s ![] hb (constant S_ .f32 0x7F800000#32)))
      (constantI S_ 1 1#1) hr hu j = 1#1) (i : s.Idx) : IsReal (x i) := by
  have e := Host.reduce_andi_all _ _ hr hu j h i
  refine isReal_of_abs_lt ?_
  have e' : BitVec.ofBool (decide (max (x i) (-(x i)) < Ideal.ofBits .f32 0x7F800000#32)) = 1#1 := e
  rw [inf_bits] at e'
  by_contra hn
  rw [decide_eq_false hn] at e'
  exact absurd e' (by decide)

theorem and_one {s : Shape} (a b : IVec s 1) (j : s.Idx) : andi a b j = 1#1 ↔ a j = 1#1 ∧ b j = 1#1 := IntOp.andi_eq_one

/-- The precondition's shapes fit. -/
theorem finiteFacts : Cert.Pre_finite.Facts := by constructor <;> decide

/-- The arrays the precondition names hold real numbers. -/
theorem real_of_finite [Cert.Pre_finite.Facts] (x0 : FVec Ideal S4x512x256 .f32) (x1 : FVec Ideal S512x256 .f32) (x2 : FVec Ideal S512 .f32) (x3 : FVec Ideal S512x512 .f32) (x4 : FVec Ideal S2x1536x512 .f32) (x5 : FVec Ideal S2x1536 .f32) (x6 : FVec Ideal S2x512x512 .f32) (x7 : FVec Ideal S2x512 .f32) (x8 : FVec Ideal S2x512 .f32) (x9 : FVec Ideal S2x512 .f32) (x10 : FVec Ideal S2x512 .f32) (x11 : FVec Ideal S2x512 .f32) (x12 : FVec Ideal S2x2048x512 .f32) (x13 : FVec Ideal S2x2048 .f32) (x14 : FVec Ideal S2x512x2048 .f32) (x15 : FVec Ideal S2x512 .f32) (x16 : FVec Ideal S512 .f32) (x17 : FVec Ideal S512 .f32) (x18 : FVec Ideal S4x512 .f32) (x19 : FVec Ideal S4 .f32) (x20 : FVec Ideal S4x1024x512 .f32) (x21 : FVec Ideal S4x1024 .f32) (x22 : FVec Ideal S4x512x1024 .f32) (x23 : FVec Ideal S4x512 .f32) (x24 : FVec Ideal S512 .f32) (x25 : FVec Ideal S512 .f32) (x26 : FVec Ideal S256x512 .f32) (x27 : FVec Ideal S256 .f32)
    (h : Cert.Pre_finite.fn (F := Ideal) x0 x1 x2 x3 x4 x5 x6 x7 x8 x9 x10 x11 x12 x13 x14 x15 x16 x17 x18 x19 x20 x21 x22 x23 x24 x25 x26 x27 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀ i, IsReal (x6 i)) ∧ (∀ i, IsReal (x7 i)) ∧ (∀ i, IsReal (x8 i)) ∧ (∀ i, IsReal (x9 i)) ∧ (∀ i, IsReal (x10 i)) ∧ (∀ i, IsReal (x11 i)) ∧ (∀ i, IsReal (x12 i)) ∧ (∀ i, IsReal (x13 i)) ∧ (∀ i, IsReal (x14 i)) ∧ (∀ i, IsReal (x15 i)) ∧ (∀ i, IsReal (x16 i)) ∧ (∀ i, IsReal (x17 i)) ∧ (∀ i, IsReal (x18 i)) ∧ (∀ i, IsReal (x19 i)) := by
  have e := congrFun h j0
  unfold Cert.Pre_finite.fn Cert.Pre_finite.fn_part1 Cert.Pre_finite.fn_part2 Cert.Pre_finite.fn_part3 Cert.Pre_finite.fn_part4 Cert.Pre_finite.fn_part5 at e
  simp only [and_one, and_assoc] at e
  obtain ⟨e0, e1, e2, e3, e4, e5, e6, e7, e8, e9, e10, e11, e12, e13, e14, e15, e16, e17, e18, e19⟩ := e
  exact ⟨all_real x0 _ _ _ _ e0, all_real x1 _ _ _ _ e1, all_real x2 _ _ _ _ e2, all_real x3 _ _ _ _ e3, all_real x4 _ _ _ _ e4, all_real x5 _ _ _ _ e5, all_real x6 _ _ _ _ e6, all_real x7 _ _ _ _ e7, all_real x8 _ _ _ _ e8, all_real x9 _ _ _ _ e9, all_real x10 _ _ _ _ e10, all_real x11 _ _ _ _ e11, all_real x12 _ _ _ _ e12, all_real x13 _ _ _ _ e13, all_real x14 _ _ _ _ e14, all_real x15 _ _ _ _ e15, all_real x16 _ _ _ _ e16, all_real x17 _ _ _ _ e17, all_real x18 _ _ _ _ e18, all_real x19 _ _ _ _ e19⟩

end Cert.Tie
-- ==== Proof.KernelBlocks.lean ====
/-
  What the blocks of the two calls hold: the arguments as launched, read whole or a layer's slab at a time, and the small
  arrays the host reshapes or cuts between the calls.
-/
module

public import Idealize.ShloMosaic.Lib.Pipeline.ValueKit
public import proofs.«01_k».proof.Proof.KernelIdealRun

@[expose] public section

noncomputable section

namespace Cert.Tie

open Idealize.ShloMosaic Idealize.ShloMosaic.Pointwise Idealize.ShloMosaic.ValueKit
open Cert.KernelIdeal Cert.KernelIdeal.Gen

variable (m : (ℓ : Loc nD τ sig) → Buf (Elt Ideal) ℓ) (ρ : Dev nD → PrngReg) (c : Dev nD)

/-! ## What the host writes before each call -/

theorem W1_main_v0 : W1 m ρ c (Proc.devRef .tc main_v0)
    = (shapeCast S1x512 (m ((c.tc : Thread nD τ).loc main_arg2)) shapeCasts_S512_S1x512 : Vec Ideal S1x512 .f32) := rfl

theorem W3_main_v3 : W3 m ρ c (Proc.devRef .tc main_v3)
    = (shapeCast S1x512 (m ((c.tc : Thread nD τ).loc main_arg16)) shapeCasts_S512_S1x512 : Vec Ideal S1x512 .f32) := by
  show StableHlo.after hostOps1 (W2 m ρ c) (Proc.devRef .tc main_v3) = _
  have h := W2_args m ρ c main_arg16 (by decide)
  generalize W2 m ρ c = W at *
  rw [← h]
  rfl

theorem W3_main_v4 : W3 m ρ c (Proc.devRef .tc main_v4)
    = (shapeCast S1x512 (m ((c.tc : Thread nD τ).loc main_arg17)) shapeCasts_S512_S1x512 : Vec Ideal S1x512 .f32) := by
  show StableHlo.after hostOps1 (W2 m ρ c) (Proc.devRef .tc main_v4) = _
  have h := W2_args m ρ c main_arg17 (by decide)
  generalize W2 m ρ c = W at *
  rw [← h]
  rfl

theorem W3_main_v5 : W3 m ρ c (Proc.devRef .tc main_v5)
    = (shapeCast S1x4 (m ((c.tc : Thread nD τ).loc main_arg19)) shapeCasts_S4_S1x4 : Vec Ideal S1x4 .f32) := by
  show StableHlo.after hostOps1 (W2 m ρ c) (Proc.devRef .tc main_v5) = _
  have h := W2_args m ρ c main_arg19 (by decide)
  generalize W2 m ρ c = W at *
  rw [← h]
  rfl

theorem W3_main_v6 : W3 m ρ c (Proc.devRef .tc main_v6)
    = (shapeCast S4x1x1024 (m ((c.tc : Thread nD τ).loc main_arg21)) shapeCasts_S4x1024_S4x1x1024 : Vec Ideal S4x1x1024 .f32) := by
  show StableHlo.after hostOps1 (W2 m ρ c) (Proc.devRef .tc main_v6) = _
  have h := W2_args m ρ c main_arg21 (by decide)
  generalize W2 m ρ c = W at *
  rw [← h]
  rfl

theorem W3_main_v7 : W3 m ρ c (Proc.devRef .tc main_v7)
    = (shapeCast S4x1x512 (m ((c.tc : Thread nD τ).loc main_arg23)) shapeCasts_S4x512_S4x1x512 : Vec Ideal S4x1x512 .f32) := by
  show StableHlo.after hostOps1 (W2 m ρ c) (Proc.devRef .tc main_v7) = _
  have h := W2_args m ρ c main_arg23 (by decide)
  generalize W2 m ρ c = W at *
  rw [← h]
  rfl

theorem W3_main_v8 : W3 m ρ c (Proc.devRef .tc main_v8)
    = (shapeCast S1x512 (m ((c.tc : Thread nD τ).loc main_arg24)) shapeCasts_S512_S1x512 : Vec Ideal S1x512 .f32) := by
  show StableHlo.after hostOps1 (W2 m ρ c) (Proc.devRef .tc main_v8) = _
  have h := W2_args m ρ c main_arg24 (by decide)
  generalize W2 m ρ c = W at *
  rw [← h]
  rfl

theorem W3_main_v9 : W3 m ρ c (Proc.devRef .tc main_v9)
    = (shapeCast S1x512 (m ((c.tc : Thread nD τ).loc main_arg25)) shapeCasts_S512_S1x512 : Vec Ideal S1x512 .f32) := by
  show StableHlo.after hostOps1 (W2 m ρ c) (Proc.devRef .tc main_v9) = _
  have h := W2_args m ρ c main_arg25 (by decide)
  generalize W2 m ρ c = W at *
  rw [← h]
  rfl

theorem W3_main_v10 : W3 m ρ c (Proc.devRef .tc main_v10)
    = (shapeCast S1x256 (m ((c.tc : Thread nD τ).loc main_arg27)) shapeCasts_S256_S1x256 : Vec Ideal S1x256 .f32) := by
  show StableHlo.after hostOps1 (W2 m ρ c) (Proc.devRef .tc main_v10) = _
  have h := W2_args m ρ c main_arg27 (by decide)
  generalize W2 m ρ c = W at *
  rw [← h]
  rfl

theorem W3_main_v2 : W3 m ρ c (Proc.devRef .tc main_v2)
    = (extractStridedSlice S4x4x256 ![0, 508, 0] (m ((c.tc : Thread nD τ).loc main_arg0)) slices_S4x512x256_S4x4x256_0_508_0 : Vec Ideal S4x4x256 .f32) := by
  show StableHlo.after hostOps1 (W2 m ρ c) (Proc.devRef .tc main_v2) = _
  have h := W2_args m ρ c main_arg0 (by decide)
  generalize W2 m ρ c = W at *
  rw [← h]
  rfl

/-! ## The first call's blocks -/

theorem blk0_0 (i : Fin 4) (j : Fin 512) (k : Fin 256) :
    iblk0 (V1 m ρ) c 0 t0_0 (ix3 i j k) = m ((c.tc : Thread nD τ).loc main_arg0) (ix3 i j k) :=
  (congrFun (W1_args m ρ c main_arg0 (by decide)) _).trans (congrArg (m ((c.tc : Thread nD τ).loc main_arg0))
    (by blk_ext [show win0_0.index t0_0 = ![0, 0, 0] by decide]))

theorem blk0_1 (i : Fin 512) (j : Fin 512) :
    iblk0 (V1 m ρ) c 1 t0_0 (ix2 i j) = m ((c.tc : Thread nD τ).loc main_arg3) (ix2 i j) :=
  (congrFun (W1_args m ρ c main_arg3 (by decide)) _).trans (congrArg (m ((c.tc : Thread nD τ).loc main_arg3))
    (by blk_ext [show win0_1.index t0_0 = ![0, 0] by decide]))

theorem blk0_2 (i : Fin 512) (j : Fin 256) :
    iblk0 (V1 m ρ) c 2 t0_0 (ix2 i j) = m ((c.tc : Thread nD τ).loc main_arg1) (ix2 i j) :=
  (congrFun (W1_args m ρ c main_arg1 (by decide)) _).trans (congrArg (m ((c.tc : Thread nD τ).loc main_arg1))
    (by blk_ext [show win0_2.index t0_0 = ![0, 0] by decide]))

theorem blk0_4 (i : Fin 2) (j : Fin 1536) (k : Fin 512) :
    iblk0 (V1 m ρ) c 4 t0_0 (ix3 i j k) = m ((c.tc : Thread nD τ).loc main_arg4) (ix3 i j k) :=
  (congrFun (W1_args m ρ c main_arg4 (by decide)) _).trans (congrArg (m ((c.tc : Thread nD τ).loc main_arg4))
    (by blk_ext [show win0_4.index t0_0 = ![0, 0, 0] by decide]))

theorem blk0_5 (i : Fin 2) (j : Fin 1536) :
    iblk0 (V1 m ρ) c 5 t0_0 (ix2 i j) = m ((c.tc : Thread nD τ).loc main_arg5) (ix2 i j) :=
  (congrFun (W1_args m ρ c main_arg5 (by decide)) _).trans (congrArg (m ((c.tc : Thread nD τ).loc main_arg5))
    (by blk_ext [show win0_5.index t0_0 = ![0, 0] by decide]))

theorem blk0_6 (j : Fin 512) (k : Fin 512) :
    iblk0 (V1 m ρ) c 6 t0_0 (ix3 0 j k) = m ((c.tc : Thread nD τ).loc main_arg6) (ix3 0 j k) :=
  (congrFun (W1_args m ρ c main_arg6 (by decide)) _).trans (congrArg (m ((c.tc : Thread nD τ).loc main_arg6))
    (by blk_ext [show win0_6.index t0_0 = ![0, 0, 0] by decide]))

theorem blk0_7 (i : Fin 2) (j : Fin 512) :
    iblk0 (V1 m ρ) c 7 t0_0 (ix2 i j) = m ((c.tc : Thread nD τ).loc main_arg7) (ix2 i j) :=
  (congrFun (W1_args m ρ c main_arg7 (by decide)) _).trans (congrArg (m ((c.tc : Thread nD τ).loc main_arg7))
    (by blk_ext [show win0_7.index t0_0 = ![0, 0] by decide]))

theorem blk0_8 (i : Fin 2) (j : Fin 512) :
    iblk0 (V1 m ρ) c 8 t0_0 (ix2 i j) = m ((c.tc : Thread nD τ).loc main_arg8) (ix2 i j) :=
  (congrFun (W1_args m ρ c main_arg8 (by decide)) _).trans (congrArg (m ((c.tc : Thread nD τ).loc main_arg8))
    (by blk_ext [show win0_8.index t0_0 = ![0, 0] by decide]))

theorem blk0_9 (i : Fin 2) (j : Fin 512) :
    iblk0 (V1 m ρ) c 9 t0_0 (ix2 i j) = m ((c.tc : Thread nD τ).loc main_arg9) (ix2 i j) :=
  (congrFun (W1_args m ρ c main_arg9 (by decide)) _).trans (congrArg (m ((c.tc : Thread nD τ).loc main_arg9))
    (by blk_ext [show win0_9.index t0_0 = ![0, 0] by decide]))

theorem blk0_10 (j : Fin 2048) (k : Fin 512) :
    iblk0 (V1 m ρ) c 10 t0_0 (ix3 0 j k) = m ((c.tc : Thread nD τ).loc main_arg12) (ix3 0 j k) :=
  (congrFun (W1_args m ρ c main_arg12 (by decide)) _).trans (congrArg (m ((c.tc : Thread nD τ).loc main_arg12))
    (by blk_ext [show win0_10.index t0_0 = ![0, 0, 0] by decide]))

theorem blk0_11 (i : Fin 2) (j : Fin 2048) :
    iblk0 (V1 m ρ) c 11 t0_0 (ix2 i j) = m ((c.tc : Thread nD τ).loc main_arg13) (ix2 i j) :=
  (congrFun (W1_args m ρ c main_arg13 (by decide)) _).trans (congrArg (m ((c.tc : Thread nD τ).loc main_arg13))
    (by blk_ext [show win0_11.index t0_0 = ![0, 0] by decide]))

theorem blk0_12 (j : Fin 512) (k : Fin 2048) :
    iblk0 (V1 m ρ) c 12 t0_0 (ix3 0 j k) = m ((c.tc : Thread nD τ).loc main_arg14) (ix3 0 j k) :=
  (congrFun (W1_args m ρ c main_arg14 (by decide)) _).trans (congrArg (m ((c.tc : Thread nD τ).loc main_arg14))
    (by blk_ext [show win0_12.index t0_0 = ![0, 0, 0] by decide]))

theorem blk0_13 (i : Fin 2) (j : Fin 512) :
    iblk0 (V1 m ρ) c 13 t0_0 (ix2 i j) = m ((c.tc : Thread nD τ).loc main_arg15) (ix2 i j) :=
  (congrFun (W1_args m ρ c main_arg15 (by decide)) _).trans (congrArg (m ((c.tc : Thread nD τ).loc main_arg15))
    (by blk_ext [show win0_13.index t0_0 = ![0, 0] by decide]))

theorem blk0_14 (i : Fin 2) (j : Fin 512) :
    iblk0 (V1 m ρ) c 14 t0_0 (ix2 i j) = m ((c.tc : Thread nD τ).loc main_arg10) (ix2 i j) :=
  (congrFun (W1_args m ρ c main_arg10 (by decide)) _).trans (congrArg (m ((c.tc : Thread nD τ).loc main_arg10))
    (by blk_ext [show win0_14.index t0_0 = ![0, 0] by decide]))

theorem blk0_15 (i : Fin 2) (j : Fin 512) :
    iblk0 (V1 m ρ) c 15 t0_0 (ix2 i j) = m ((c.tc : Thread nD τ).loc main_arg11) (ix2 i j) :=
  (congrFun (W1_args m ρ c main_arg11 (by decide)) _).trans (congrArg (m ((c.tc : Thread nD τ).loc main_arg11))
    (by blk_ext [show win0_15.index t0_0 = ![0, 0] by decide]))

theorem blk0_3 (i : Fin 512) :
    iblk0 (V1 m ρ) c 3 t0_0 (ix2 0 i) = m ((c.tc : Thread nD τ).loc main_arg2) (ix1 i) := by
  refine (congrFun (W1_main_v0 m ρ c) _).trans ?_
  rw [show ((cfg0.win 3).blk t0_0).view.emb (ix2 0 i) = ix2 0 i from by
    blk_ext [show win0_3.index t0_0 = ![0, 0] by decide]]
  pointwise

/-! ## The second call's blocks -/

theorem blk1_2 (j : Fin 512) (k : Fin 512) :
    iblk1 (V3 m ρ) c 2 t1_0 (ix3 0 j k) = m ((c.tc : Thread nD τ).loc main_arg6) (ix3 1 j k) :=
  (congrFun (W3_args m ρ c main_arg6 (by decide)) _).trans (congrArg (m ((c.tc : Thread nD τ).loc main_arg6))
    (by blk_ext [show win1_2.index t1_0 = ![1, 0, 0] by decide]))

theorem blk1_3 (i : Fin 2) (j : Fin 512) :
    iblk1 (V3 m ρ) c 3 t1_0 (ix2 i j) = m ((c.tc : Thread nD τ).loc main_arg7) (ix2 i j) :=
  (congrFun (W3_args m ρ c main_arg7 (by decide)) _).trans (congrArg (m ((c.tc : Thread nD τ).loc main_arg7))
    (by blk_ext [show win1_3.index t1_0 = ![0, 0] by decide]))

theorem blk1_4 (i : Fin 2) (j : Fin 512) :
    iblk1 (V3 m ρ) c 4 t1_0 (ix2 i j) = m ((c.tc : Thread nD τ).loc main_arg8) (ix2 i j) :=
  (congrFun (W3_args m ρ c main_arg8 (by decide)) _).trans (congrArg (m ((c.tc : Thread nD τ).loc main_arg8))
    (by blk_ext [show win1_4.index t1_0 = ![0, 0] by decide]))

theorem blk1_5 (i : Fin 2) (j : Fin 512) :
    iblk1 (V3 m ρ) c 5 t1_0 (ix2 i j) = m ((c.tc : Thread nD τ).loc main_arg9) (ix2 i j) :=
  (congrFun (W3_args m ρ c main_arg9 (by decide)) _).trans (congrArg (m ((c.tc : Thread nD τ).loc main_arg9))
    (by blk_ext [show win1_5.index t1_0 = ![0, 0] by decide]))

theorem blk1_6 (j : Fin 2048) (k : Fin 512) :
    iblk1 (V3 m ρ) c 6 t1_0 (ix3 0 j k) = m ((c.tc : Thread nD τ).loc main_arg12) (ix3 1 j k) :=
  (congrFun (W3_args m ρ c main_arg12 (by decide)) _).trans (congrArg (m ((c.tc : Thread nD τ).loc main_arg12))
    (by blk_ext [show win1_6.index t1_0 = ![1, 0, 0] by decide]))

theorem blk1_7 (i : Fin 2) (j : Fin 2048) :
    iblk1 (V3 m ρ) c 7 t1_0 (ix2 i j) = m ((c.tc : Thread nD τ).loc main_arg13) (ix2 i j) :=
  (congrFun (W3_args m ρ c main_arg13 (by decide)) _).trans (congrArg (m ((c.tc : Thread nD τ).loc main_arg13))
    (by blk_ext [show win1_7.index t1_0 = ![0, 0] by decide]))

theorem blk1_8 (j : Fin 512) (k : Fin 2048) :
    iblk1 (V3 m ρ) c 8 t1_0 (ix3 0 j k) = m ((c.tc : Thread nD τ).loc main_arg14) (ix3 1 j k) :=
  (congrFun (W3_args m ρ c main_arg14 (by decide)) _).trans (congrArg (m ((c.tc : Thread nD τ).loc main_arg14))
    (by blk_ext [show win1_8.index t1_0 = ![1, 0, 0] by decide]))

theorem blk1_9 (i : Fin 2) (j : Fin 512) :
    iblk1 (V3 m ρ) c 9 t1_0 (ix2 i j) = m ((c.tc : Thread nD τ).loc main_arg15) (ix2 i j) :=
  (congrFun (W3_args m ρ c main_arg15 (by decide)) _).trans (congrArg (m ((c.tc : Thread nD τ).loc main_arg15))
    (by blk_ext [show win1_9.index t1_0 = ![0, 0] by decide]))

theorem blk1_10 (i : Fin 2) (j : Fin 512) :
    iblk1 (V3 m ρ) c 10 t1_0 (ix2 i j) = m ((c.tc : Thread nD τ).loc main_arg10) (ix2 i j) :=
  (congrFun (W3_args m ρ c main_arg10 (by decide)) _).trans (congrArg (m ((c.tc : Thread nD τ).loc main_arg10))
    (by blk_ext [show win1_10.index t1_0 = ![0, 0] by decide]))

theorem blk1_11 (i : Fin 2) (j : Fin 512) :
    iblk1 (V3 m ρ) c 11 t1_0 (ix2 i j) = m ((c.tc : Thread nD τ).loc main_arg11) (ix2 i j) :=
  (congrFun (W3_args m ρ c main_arg11 (by decide)) _).trans (congrArg (m ((c.tc : Thread nD τ).loc main_arg11))
    (by blk_ext [show win1_11.index t1_0 = ![0, 0] by decide]))

theorem blk1_14 (i : Fin 4) (j : Fin 512) :
    iblk1 (V3 m ρ) c 14 t1_0 (ix2 i j) = m ((c.tc : Thread nD τ).loc main_arg18) (ix2 i j) :=
  (congrFun (W3_args m ρ c main_arg18 (by decide)) _).trans (congrArg (m ((c.tc : Thread nD τ).loc main_arg18))
    (by blk_ext [show win1_14.index t1_0 = ![0, 0] by decide]))

theorem blk1_16 (i : Fin 4) (j : Fin 1024) (k : Fin 512) :
    iblk1 (V3 m ρ) c 16 t1_0 (ix3 i j k) = m ((c.tc : Thread nD τ).loc main_arg20) (ix3 i j k) :=
  (congrFun (W3_args m ρ c main_arg20 (by decide)) _).trans (congrArg (m ((c.tc : Thread nD τ).loc main_arg20))
    (by blk_ext [show win1_16.index t1_0 = ![0, 0, 0] by decide]))

theorem blk1_18 (i : Fin 4) (j : Fin 512) (k : Fin 1024) :
    iblk1 (V3 m ρ) c 18 t1_0 (ix3 i j k) = m ((c.tc : Thread nD τ).loc main_arg22) (ix3 i j k) :=
  (congrFun (W3_args m ρ c main_arg22 (by decide)) _).trans (congrArg (m ((c.tc : Thread nD τ).loc main_arg22))
    (by blk_ext [show win1_18.index t1_0 = ![0, 0, 0] by decide]))

theorem blk1_22 (i : Fin 256) (j : Fin 512) :
    iblk1 (V3 m ρ) c 22 t1_0 (ix2 i j) = m ((c.tc : Thread nD τ).loc main_arg26) (ix2 i j) :=
  (congrFun (W3_args m ρ c main_arg26 (by decide)) _).trans (congrArg (m ((c.tc : Thread nD τ).loc main_arg26))
    (by blk_ext [show win1_22.index t1_0 = ![0, 0] by decide]))

theorem blk1_12 (i : Fin 512) :
    iblk1 (V3 m ρ) c 12 t1_0 (ix2 0 i) = m ((c.tc : Thread nD τ).loc main_arg16) (ix1 i) := by
  refine (congrFun (W3_main_v3 m ρ c) _).trans ?_
  rw [show ((cfg1.win 12).blk t1_0).view.emb (ix2 0 i) = ix2 0 i from by
    blk_ext [show win1_12.index t1_0 = ![0, 0] by decide]]
  pointwise

theorem blk1_13 (i : Fin 512) :
    iblk1 (V3 m ρ) c 13 t1_0 (ix2 0 i) = m ((c.tc : Thread nD τ).loc main_arg17) (ix1 i) := by
  refine (congrFun (W3_main_v4 m ρ c) _).trans ?_
  rw [show ((cfg1.win 13).blk t1_0).view.emb (ix2 0 i) = ix2 0 i from by
    blk_ext [show win1_13.index t1_0 = ![0, 0] by decide]]
  pointwise

theorem blk1_15 (i : Fin 4) :
    iblk1 (V3 m ρ) c 15 t1_0 (ix2 0 i) = m ((c.tc : Thread nD τ).loc main_arg19) (ix1 i) := by
  refine (congrFun (W3_main_v5 m ρ c) _).trans ?_
  rw [show ((cfg1.win 15).blk t1_0).view.emb (ix2 0 i) = ix2 0 i from by
    blk_ext [show win1_15.index t1_0 = ![0, 0] by decide]]
  pointwise

theorem blk1_17 (i : Fin 4) (j : Fin 1024) :
    iblk1 (V3 m ρ) c 17 t1_0 (ix3 i 0 j) = m ((c.tc : Thread nD τ).loc main_arg21) (ix2 i j) := by
  refine (congrFun (W3_main_v6 m ρ c) _).trans ?_
  rw [show ((cfg1.win 17).blk t1_0).view.emb (ix3 i 0 j) = ix3 i 0 j from by
    blk_ext [show win1_17.index t1_0 = ![0, 0, 0] by decide]]
  pointwise

theorem blk1_19 (i : Fin 4) (j : Fin 512) :
    iblk1 (V3 m ρ) c 19 t1_0 (ix3 i 0 j) = m ((c.tc : Thread nD τ).loc main_arg23) (ix2 i j) := by
  refine (congrFun (W3_main_v7 m ρ c) _).trans ?_
  rw [show ((cfg1.win 19).blk t1_0).view.emb (ix3 i 0 j) = ix3 i 0 j from by
    blk_ext [show win1_19.index t1_0 = ![0, 0, 0] by decide]]
  pointwise

theorem blk1_20 (i : Fin 512) :
    iblk1 (V3 m ρ) c 20 t1_0 (ix2 0 i) = m ((c.tc : Thread nD τ).loc main_arg24) (ix1 i) := by
  refine (congrFun (W3_main_v8 m ρ c) _).trans ?_
  rw [show ((cfg1.win 20).blk t1_0).view.emb (ix2 0 i) = ix2 0 i from by
    blk_ext [show win1_20.index t1_0 = ![0, 0] by decide]]
  pointwise

theorem blk1_21 (i : Fin 512) :
    iblk1 (V3 m ρ) c 21 t1_0 (ix2 0 i) = m ((c.tc : Thread nD τ).loc main_arg25) (ix1 i) := by
  refine (congrFun (W3_main_v9 m ρ c) _).trans ?_
  rw [show ((cfg1.win 21).blk t1_0).view.emb (ix2 0 i) = ix2 0 i from by
    blk_ext [show win1_21.index t1_0 = ![0, 0] by decide]]
  pointwise

theorem blk1_23 (i : Fin 256) :
    iblk1 (V3 m ρ) c 23 t1_0 (ix2 0 i) = m ((c.tc : Thread nD τ).loc main_arg27) (ix1 i) := by
  refine (congrFun (W3_main_v10 m ρ c) _).trans ?_
  rw [show ((cfg1.win 23).blk t1_0).view.emb (ix2 0 i) = ix2 0 i from by
    blk_ext [show win1_23.index t1_0 = ![0, 0] by decide]]
  pointwise

theorem blk1_24 (i : Fin 4) (j : Fin 4) (k : Fin 256) :
    iblk1 (V3 m ρ) c 24 t1_0 (ix3 i j k) = m ((c.tc : Thread nD τ).loc main_arg0) (ix3 i ⟨508 + j.val, by omega⟩ k) := by
  refine (congrFun (W3_main_v2 m ρ c) _).trans ?_
  rw [show ((cfg1.win 24).blk t1_0).view.emb (ix3 i j k) = ix3 i j k from by
    blk_ext [show win1_24.index t1_0 = ![0, 0, 0] by decide]]
  pointwise

/-! ## What the calls leave -/

/-- The first call's two outputs, as the second call reads them. -/
theorem blk1_0 (i : Fin 4) (j : Fin 512) : iblk1 (V3 m ρ) c 0 t1_0 (ix2 i j) = (outsAt0 (V1 m ρ) c t0_0).1 (ix2 i j) := by
  have h : W3 m ρ c (Proc.devRef .tc main_v1_0) = (outsAt0 (V1 m ρ) c t0_0).1 := by
    rw [W3_of m ρ c main_v1_0 (by decide)]
    refine (W2_arr m ρ c 16).trans ?_
    refine (dat0 (V1 m ρ) c).arrAt_eq_of_after_last 16 t0_0 (by decide +kernel) _ fun j => ?_
    rw [after0_16]
    rfl
  refine (congrFun h _).trans (congrArg _ ?_)
  blk_ext [show win1_0.index t1_0 = ![0, 0] by decide]

theorem blk1_1 (i : Fin 4) (j : Fin 512) : iblk1 (V3 m ρ) c 1 t1_0 (ix2 i j) = (outsAt0 (V1 m ρ) c t0_0).2 (ix2 i j) := by
  have h : W3 m ρ c (Proc.devRef .tc main_v1_1) = (outsAt0 (V1 m ρ) c t0_0).2 := by
    rw [W3_of m ρ c main_v1_1 (by decide)]
    refine (W2_arr m ρ c 17).trans ?_
    refine (dat0 (V1 m ρ) c).arrAt_eq_of_after_last 17 t0_0 (by decide +kernel) _ fun j => ?_
    rw [after0_17]
    rfl
  refine (congrFun h _).trans (congrArg _ ?_)
  blk_ext [show win1_1.index t1_0 = ![0, 0] by decide]

/-- The result array holds what the second call's one point wrote. -/
theorem W4_main_v11 : W4 m ρ c (Proc.devRef .tc main_v11) = (dat1 (V3 m ρ) c).after 25 t1_0 := by
  refine (W4_arr m ρ c 25).trans ?_
  refine (dat1 (V3 m ρ) c).arrAt_eq_of_after_last 25 t1_0 (by decide +kernel) _ fun j => ?_
  rfl

end Cert.Tie
-- ==== Proof.FirstCall.lean ====
/-
  WHAT THE FIRST CALL COMPUTES, AS ARRAYS. The stages of the first call's body over its input blocks — the rows that enter the
  encoder, the projections, one head, the context, the two normalizations, the last rows' attention of the second layer — and
  the two theorems that the call's two outputs are these stages composed.
-/
module

public import proofs.«01_k».proof.Proof.KernelIdealCall0
public import Idealize.ShloMosaic.Lib.Pipeline.ValueKit
public import Idealize.ShloMosaic.Lib.Pipeline.ReadBack

@[expose] public section

set_option maxRecDepth 16384

noncomputable section

namespace Cert.Tie

open Idealize.ShloMosaic Idealize.ShloMosaic.TcCoe Idealize.ShloMosaic.Tactic
open Cert.KernelIdeal Cert.KernelIdeal.Gen

/-! ## Reading back what the body stored -/

/-- A staging buffer filled with an array is read as that array. -/
theorem read_unread_tc {sp : Space} {S : Shape} {e : EltTy} (m : Memref sig .tc sp S e) (h : m.IsWhole) (X : S.Idx → Elt Ideal e) :
    @View.read sig (Elt Ideal) (@Proc.kind τ (@Proc.tc τ)) sp S e (@Memref.view sig (@Proc.kind τ (@Proc.tc τ)) sp S e m)
      (@Memref.IsWhole.unread sig (Elt Ideal) Kind.tc sp S e m h X) = X := h.read_unread X

/-- A load of a part of a scratch array that one whole store filled is that part of what was stored. -/
theorem readCov_part {κ : Kind} {sp : Space} {S : Shape} {e : EltTy} (v : View sig κ sp S e) {off : Fin S.rank → Nat}
    (inb : ∀ a, off a + S.size a ≤ S.size a) (w : S.Idx → Elt Ideal e) (off' sz : Fin S.rank → Nat) (inb') (h : ∀ a, off a = 0) :
    v.readCov [(⟨Rect.unit off (no_index S.size) inb, w⟩ : View.Piece (Elt Ideal) S e)] (Rect.unit off' sz inb').toLoadRect =
      View.ld w (Rect.unit off' sz inb') := by
  obtain rfl : off = fun _ => 0 := funext h
  rw [View.readCov_eq_canon_ld _ _ _ (fun y => ⟨_, List.mem_cons_self, by
    show y ∈ (Rect.whole S).set; rw [Rect.set_whole]; exact Finset.mem_univ y⟩), View.canon_cons_unit_zero rfl]

/-- 2 pieces laid side by side, with the pieces as arguments. -/
def cat2 {α : Type} (t : Shape) (a : Fin t.rank) {s0 s1 : Shape} (h : Shape.Concatenates [s0, s1] t a) (x0 : s0.Idx → α) (x1 : s1.Idx → α) : t.Idx → α :=
  concatenate t a [⟨s0, x0⟩, ⟨s1, x1⟩] h

/-- It is the concatenation. -/
theorem cat2_eq {α : Type} (t : Shape) (a : Fin t.rank) {s0 s1 : Shape} (x0 : s0.Idx → α) (x1 : s1.Idx → α) (h) :
  concatenate t a [⟨s0, x0⟩, ⟨s1, x1⟩] h = cat2 t a h x0 x1 := rfl

/-- 4 pieces laid side by side, with the pieces as arguments. -/
def cat4 {α : Type} (t : Shape) (a : Fin t.rank) {s0 s1 s2 s3 : Shape} (h : Shape.Concatenates [s0, s1, s2, s3] t a) (x0 : s0.Idx → α) (x1 : s1.Idx → α) (x2 : s2.Idx → α) (x3 : s3.Idx → α) : t.Idx → α :=
  concatenate t a [⟨s0, x0⟩, ⟨s1, x1⟩, ⟨s2, x2⟩, ⟨s3, x3⟩] h

/-- It is the concatenation. -/
theorem cat4_eq {α : Type} (t : Shape) (a : Fin t.rank) {s0 s1 s2 s3 : Shape} (x0 : s0.Idx → α) (x1 : s1.Idx → α) (x2 : s2.Idx → α) (x3 : s3.Idx → α) (h) :
  concatenate t a [⟨s0, x0⟩, ⟨s1, x1⟩, ⟨s2, x2⟩, ⟨s3, x3⟩] h = cat4 t a h x0 x1 x2 x3 := rfl

/-- 8 pieces laid side by side, with the pieces as arguments. -/
def cat8 {α : Type} (t : Shape) (a : Fin t.rank) {s0 s1 s2 s3 s4 s5 s6 s7 : Shape} (h : Shape.Concatenates [s0, s1, s2, s3, s4, s5, s6, s7] t a) (x0 : s0.Idx → α) (x1 : s1.Idx → α) (x2 : s2.Idx → α) (x3 : s3.Idx → α) (x4 : s4.Idx → α) (x5 : s5.Idx → α) (x6 : s6.Idx → α) (x7 : s7.Idx → α) : t.Idx → α :=
  concatenate t a [⟨s0, x0⟩, ⟨s1, x1⟩, ⟨s2, x2⟩, ⟨s3, x3⟩, ⟨s4, x4⟩, ⟨s5, x5⟩, ⟨s6, x6⟩, ⟨s7, x7⟩] h

/-- It is the concatenation. -/
theorem cat8_eq {α : Type} (t : Shape) (a : Fin t.rank) {s0 s1 s2 s3 s4 s5 s6 s7 : Shape} (x0 : s0.Idx → α) (x1 : s1.Idx → α) (x2 : s2.Idx → α) (x3 : s3.Idx → α) (x4 : s4.Idx → α) (x5 : s5.Idx → α) (x6 : s6.Idx → α) (x7 : s7.Idx → α) (h) :
  concatenate t a [⟨s0, x0⟩, ⟨s1, x1⟩, ⟨s2, x2⟩, ⟨s3, x3⟩, ⟨s4, x4⟩, ⟨s5, x5⟩, ⟨s6, x6⟩, ⟨s7, x7⟩] h = cat8 t a h x0 x1 x2 x3 x4 x5 x6 x7 := rfl
/-! ## The stages of the first layer, of the values loaded -/

/-- The series less its moving average, and the rest of the rows that enter the encoder. -/
def entryText (x0 : Vec Ideal S4x512x256 .f32) (x1 : Vec Ideal S512x512 .f32) (x2 : FVec Ideal S512x256 .f32)
    (x3 : Vec Ideal S1x512 .f32) : FVec Ideal S2048x512 .f32 :=
  k0_pay19 x1 (k0_pay15 (View.ld x0 (Rect.unit ![0, 0, 0] S1x512x256.size inb_S4x512x256_S1x512x256_0_0_0)))
    (k0_pay15 (View.ld x0 (Rect.unit ![1, 0, 0] S1x512x256.size inb_S4x512x256_S1x512x256_1_0_0)))
    (k0_pay16 (View.ld x0 (Rect.unit ![2, 0, 0] S1x512x256.size inb_S4x512x256_S1x512x256_2_0_0)))
    (k0_pay17 (View.ld x0 (Rect.unit ![2, 0, 0] S1x512x256.size inb_S4x512x256_S1x512x256_2_0_0))) k0_pay18
    (View.ld x0 (Rect.unit ![3, 0, 0] S1x512x256.size inb_S4x512x256_S1x512x256_3_0_0))
    (shapeCast S512x256 (truncf .bf16 x2 bitsLt_bf16_f32 : FVec Ideal S512x256 .bf16) shapeCasts_S512x256_S512x256) x3

/-- The sum of a sequence and of its six shifts, then the residual: the first sequence is written out. -/
theorem resid_fold (y : Vec Ideal S1x512x256 .f32) :
    k0_pay14 (shapeCast S512x256 y shapeCasts_S1x512x256_S512x256) (addf (addf (addf (addf (addf (addf
      (shapeCast S512x256 y shapeCasts_S1x512x256_S512x256)
      (cat2 S512x256 0 concatenates_S1x256_S511x256_S512x256_d0 (broadcast S1x256 (Scalar.ofBits .f32 0x00000000#32 : Ideal .f32))
        (extractStridedSlice S511x256 ![0, 0] (shapeCast S512x256 y shapeCasts_S1x512x256_S512x256) slices_S512x256_o0_0_S511x256)))
      (cat2 S512x256 0 concatenates_S511x256_S1x256_S512x256_d0
        (extractStridedSlice S511x256 ![1, 0] (shapeCast S512x256 y shapeCasts_S1x512x256_S512x256) slices_S512x256_o1_0_S511x256)
        (broadcast S1x256 (Scalar.ofBits .f32 0x00000000#32 : Ideal .f32))))
      (cat2 S512x256 0 concatenates_S2x256_S510x256_S512x256_d0 (broadcast S2x256 (Scalar.ofBits .f32 0x00000000#32 : Ideal .f32))
        (extractStridedSlice S510x256 ![0, 0] (shapeCast S512x256 y shapeCasts_S1x512x256_S512x256) slices_S512x256_o0_0_S510x256)))
      (cat2 S512x256 0 concatenates_S510x256_S2x256_S512x256_d0
        (extractStridedSlice S510x256 ![2, 0] (shapeCast S512x256 y shapeCasts_S1x512x256_S512x256) slices_S512x256_o2_0_S510x256)
        (broadcast S2x256 (Scalar.ofBits .f32 0x00000000#32 : Ideal .f32))))
      (cat2 S512x256 0 concatenates_S3x256_S509x256_S512x256_d0 (broadcast S3x256 (Scalar.ofBits .f32 0x00000000#32 : Ideal .f32))
        (extractStridedSlice S509x256 ![0, 0] (shapeCast S512x256 y shapeCasts_S1x512x256_S512x256) slices_S512x256_o0_0_S509x256)))
      (cat2 S512x256 0 concatenates_S509x256_S3x256_S512x256_d0
        (extractStridedSlice S509x256 ![3, 0] (shapeCast S512x256 y shapeCasts_S1x512x256_S512x256) slices_S512x256_o3_0_S509x256)
        (broadcast S3x256 (Scalar.ofBits .f32 0x00000000#32 : Ideal .f32)))) = k0_pay15 y := rfl

/-- The queries, keys and values of the first layer. -/
def qkvText (z : FVec Ideal S2048x512 .f32) (w : FVec Ideal S1x1536x512 .f32) (b : FVec Ideal S1x1536 .f32) :
    FVec Ideal S2048x1536 .bf16 :=
  shapeCast S2048x1536 (truncf .bf16 (addf (matmul dot_S2048x512_S1536x512_S2048x1536_1_1_0_0_n_n none
      (truncf .bf16 z bitsLt_bf16_f32)
      (shapeCast S1536x512 (truncf .bf16 (shapeCast S1536x512 w shapeCasts_S1x1536x512_S1536x512 : FVec Ideal S1536x512 .f32)
        bitsLt_bf16_f32 : FVec Ideal S1536x512 .bf16) shapeCasts_S1536x512_S1536x512)
      (constant S2048x1536 .f32 0x00000000#32))
    (broadcastTo S2048x1536 b broadcasts_S1x1536_S2048x1536)) bitsLt_bf16_f32 : FVec Ideal S2048x1536 .bf16)
    shapeCasts_S2048x1536_S2048x1536

/-- The scores of a head's queries, scaled first, against its keys. -/
def scoreText (q k : FVec Ideal S512x64 .bf16) : FVec Ideal S512x512 .f32 :=
  matmul dot_S512x64_S512x64_S512x512_1_1_0_0_n_n none
    (mulf q (broadcast S512x64 (Scalar.ofBits .bf16 0x3E00#16 : Ideal .bf16))) k (constant S512x512 .f32 0x00000000#32)

/-- The weights, not yet divided by their sum. -/
def weightText (s : FVec Ideal S512x512 .f32) : FVec Ideal S512x512 .bf16 :=
  exp (truncf .bf16 (subf s (broadcastTo S512x512 (shapeCast S512x1
    (multiReduction .maximumf [1] S512 s 0xFF800000#32 reduces_S512x512_S512 (.inl rfl) rfl) shapeCasts_S512_S512x1)
    broadcasts_S512x1_S512x512)) bitsLt_bf16_f32)

/-- The weighted values, divided by the weights' sum after the product. -/
def mixText (p : FVec Ideal S512x512 .bf16) (v : FVec Ideal S512x64 .bf16) : FVec Ideal S512x64 .f32 :=
  mulf (matmul dot_S512x512_S512x64_S512x64_1_0_0_1_n_n none p v (constant S512x64 .f32 0x00000000#32))
    (broadcastTo S512x64 (divf (broadcast S512x1 (Scalar.ofBits .f32 0x3F800000#32 : Ideal .f32)) (shapeCast S512x1
      (multiReduction .add [1] S512 (extf .f32 p bitsLt_bf16_f32) 0x00000000#32 reduces_S512x512_S512 (.inl rfl) rfl)
      shapeCasts_S512_S512x1)) broadcasts_S512x1_S512x64)

/-- The rows after the attention's projection, of the rows that enter, the heads side by side and the projection's weights. -/
def midPreText (z c : FVec Ideal S2048x512 .f32) (w : FVec Ideal S1x512x512 .f32) (b : FVec Ideal S1x512 .f32) :
    FVec Ideal S2048x512 .f32 :=
  addf (addf z (matmul dot_S2048x512_S512x512_S2048x512_1_1_0_0_n_n none (truncf .bf16 c bitsLt_bf16_f32)
      (shapeCast S512x512 (truncf .bf16 (shapeCast S512x512 w shapeCasts_S1x512x512_S512x512 : FVec Ideal S512x512 .f32)
        bitsLt_bf16_f32 : FVec Ideal S512x512 .bf16) shapeCasts_S512x512_S512x512)
      (constant S2048x512 .f32 0x00000000#32)))
    (broadcastTo S2048x512 b broadcasts_S1x512_S2048x512)

/-- The mean of each row. -/
def meanText (m : FVec Ideal S2048x512 .f32) : FVec Ideal S2048x1 .f32 :=
  divf (shapeCast S2048x1 (multiReduction .add [1] S2048 m 0x00000000#32 reduces_S2048x512_S2048 (.inl rfl) rfl)
    shapeCasts_S2048_S2048x1) (broadcast S2048x1 (Scalar.ofBits .f32 0x44000000#32 : Ideal .f32))

/-- The rows less their means. -/
def devText (m : FVec Ideal S2048x512 .f32) : FVec Ideal S2048x512 .f32 :=
  subf m (broadcastTo S2048x512 (meanText m) broadcasts_S2048x1_S2048x512)

/-- The variance of each row. -/
def varText (m : FVec Ideal S2048x512 .f32) : FVec Ideal S2048x1 .f32 := meanText (mulf (devText m) (devText m))

/-- The hidden rows of the feed-forward block. -/
def hidText (m : FVec Ideal S2048x512 .f32) (g b : Vec Ideal S1x512 .f32) (w : FVec Ideal S1x2048x512 .f32)
    (c : Vec Ideal S1x2048 .f32) : FVec Ideal S2048x2048 .bf16 :=
  k0_pay73 g b (varText m) (devText m)
    (shapeCast S2048x512 (truncf .bf16 (shapeCast S2048x512 w shapeCasts_S1x2048x512_S2048x512 : FVec Ideal S2048x512 .f32)
      bitsLt_bf16_f32 : FVec Ideal S2048x512 .bf16) shapeCasts_S2048x512_S2048x512) c

/-- The rows after the feed-forward block. -/
def ffPreText (m : FVec Ideal S2048x512 .f32) (hid : FVec Ideal S2048x2048 .bf16) (g b : Vec Ideal S1x512 .f32)
    (w : FVec Ideal S1x512x2048 .f32) (c : Vec Ideal S1x512 .f32) : FVec Ideal S2048x512 .f32 :=
  k0_pay74 g b (varText m) (devText m) hid
    (shapeCast S512x2048 (truncf .bf16 (shapeCast S512x2048 w shapeCasts_S1x512x2048_S512x2048 : FVec Ideal S512x2048 .f32)
      bitsLt_bf16_f32 : FVec Ideal S512x2048 .bf16) shapeCasts_S512x2048_S512x2048) c

/-- The normalization that closes the layer. -/
def outText (f : FVec Ideal S2048x512 .f32) (g b : FVec Ideal S1x512 .f32) : FVec Ideal S2048x512 .f32 :=
  addf (mulf (mulf (devText f) (broadcastTo S2048x512 (rsqrt (addf (varText f) (broadcast S2048x1
      (Scalar.ofBits .f32 0x3727C5AC#32 : Ideal .f32)))) broadcasts_S2048x1_S2048x512))
    (broadcastTo S2048x512 g broadcasts_S1x512_S2048x512))
    (broadcastTo S2048x512 b broadcasts_S1x512_S2048x512)

/-! ## The stages of the second layer's attention of the last rows -/

/-- The keys and values of the second layer. -/
def kvText (o : FVec Ideal S2048x512 .f32) (w : FVec Ideal S1x1024x512 .f32) (b : FVec Ideal S1x1536 .f32) :
    FVec Ideal S2048x1024 .bf16 :=
  shapeCast S2048x1024 (truncf .bf16 (addf (matmul dot_S2048x512_S1024x512_S2048x1024_1_1_0_0_n_n none
      (truncf .bf16 o bitsLt_bf16_f32)
      (shapeCast S1024x512 (truncf .bf16 (shapeCast S1024x512 w shapeCasts_S1x1024x512_S1024x512 : FVec Ideal S1024x512 .f32)
        bitsLt_bf16_f32 : FVec Ideal S1024x512 .bf16) shapeCasts_S1024x512_S1024x512)
      (constant S2048x1024 .f32 0x00000000#32))
    (broadcastTo S2048x1024 (extractStridedSlice S1x1024 ![0, 512] b slices_S1x1536_o0_512_S1x1024)
      broadcasts_S1x1024_S2048x1024)) bitsLt_bf16_f32 : FVec Ideal S2048x1024 .bf16)
    shapeCasts_S2048x1024_S2048x1024

/-- The query of a last row. -/
def qText (r : FVec Ideal S1x512 .f32) (w : FVec Ideal S1x512x512 .f32) (b : FVec Ideal S1x1536 .f32) :
    FVec Ideal S1x512 .f32 :=
  addf (matmul dot_S1x512_S512x512_S1x512_1_1_0_0_n_n none (truncf .bf16 r bitsLt_bf16_f32)
      (shapeCast S512x512 (truncf .bf16 (shapeCast S512x512 w shapeCasts_S1x512x512_S512x512 : FVec Ideal S512x512 .f32)
        bitsLt_bf16_f32 : FVec Ideal S512x512 .bf16) shapeCasts_S512x512_S512x512)
      (constant S1x512 .f32 0x00000000#32))
    (extractStridedSlice S1x512 ![0, 0] b slices_S1x1536_o0_0_S1x512)

/-- The scores of a last row's 64 queries, scaled first. -/
def lastScoreText (q : FVec Ideal S1x64 .f32) (k : FVec Ideal S512x64 .bf16) : FVec Ideal S1x512 .f32 :=
  matmul dot_S1x64_S512x64_S1x512_1_1_0_0_n_n none
    (truncf .bf16 (mulf q (broadcast S1x64 (Scalar.ofBits .f32 0x3E000000#32 : Ideal .f32))) bitsLt_bf16_f32) k
    (constant S1x512 .f32 0x00000000#32)

/-- The weights of a last row, not yet divided by their sum. -/
def lastWeightText (s : FVec Ideal S1x512 .f32) : FVec Ideal S1x512 .bf16 :=
  exp (truncf .bf16 (subf s (broadcastTo S1x512 (shapeCast S1x1
    (multiReduction .maximumf [1] S1 s 0xFF800000#32 reduces_S1x512_S1 (.inl rfl) rfl) shapeCasts_S1_S1x1)
    broadcasts_S1x1_S1x512)) bitsLt_bf16_f32)

/-- The weighted values of a last row. -/
def lastMixText (p : FVec Ideal S1x512 .bf16) (v : FVec Ideal S512x64 .bf16) : FVec Ideal S1x64 .f32 :=
  mulf (matmul dot_S1x512_S512x64_S1x64_1_0_0_1_n_n none p v (constant S1x64 .f32 0x00000000#32))
    (broadcastTo S1x64 (divf (broadcast S1x1 (Scalar.ofBits .f32 0x3F800000#32 : Ideal .f32)) (shapeCast S1x1
      (multiReduction .add [1] S1 (extf .f32 p bitsLt_bf16_f32) 0x00000000#32 reduces_S1x512_S1 (.inl rfl) rfl)
      shapeCasts_S1_S1x1)) broadcasts_S1x1_S1x64)

/-! ## The stages composed -/

theorem part_inb (b : Fin 4) (k : Fin 24) (a : Fin 2) :
    (![512 * b.val, 64 * k.val] : Fin 2 → Nat) a + S512x64.size a ≤ S2048x1536.size a := by
  have := b.isLt; have := k.isLt
  fin_cases a
  · show 512 * b.val + 512 ≤ 2048; omega
  · show 64 * k.val + 64 ≤ 1536; omega

/-- The rows of sequence `b` and the columns `64 k … 64 k + 63` of the projections. -/
def part (w : FVec Ideal S2048x1536 .bf16) (b : Fin 4) (k : Fin 24) : FVec Ideal S512x64 .bf16 :=
  View.ld (Val := Elt Ideal) (e' := .bf16) w (Rect.unit (s := S2048x1536) ![512 * b.val, 64 * k.val] S512x64.size (part_inb b k))

/-- Head `h` of sequence `b`. -/
def headAt (w : FVec Ideal S2048x1536 .bf16) (b : Fin 4) (h : Fin 8) : FVec Ideal S512x64 .f32 :=
  mixText (weightText (scoreText (part w b ⟨h.val, by omega⟩) (part w b ⟨8 + h.val, by omega⟩))) (part w b ⟨16 + h.val, by omega⟩)

/-- The heads of sequence `b` side by side. -/
def ctxAt (w : FVec Ideal S2048x1536 .bf16) (b : Fin 4) : FVec Ideal S512x512 .f32 :=
  cat8 S512x512 1 concatenates_S512x64_S512x64_S512x64_S512x64_S512x64_S512x64_S512x64_S512x64_S512x512_d1 (headAt w b 0) (headAt w b 1) (headAt w b 2) (headAt w b 3) (headAt w b 4) (headAt w b 5) (headAt w b 6) (headAt w b 7)

/-- The heads side by side, of the four sequences one under the other. -/
def ctxText (w : FVec Ideal S2048x1536 .bf16) : FVec Ideal S2048x512 .f32 :=
  cat4 S2048x512 0 concatenates_S512x512_S512x512_S512x512_S512x512_S2048x512_d0 (ctxAt w 0) (ctxAt w 1) (ctxAt w 2) (ctxAt w 3)

/-- The first layer's rows, from the call's blocks. -/
def layerText (x0 : Vec Ideal S4x512x256 .f32) (x1 : Vec Ideal S512x512 .f32) (x2 : Vec Ideal S512x256 .f32) (x3 : Vec Ideal S1x512 .f32) (x4 : Vec Ideal S2x1536x512 .f32) (x5 : Vec Ideal S2x1536 .f32) (x6 : Vec Ideal S1x512x512 .f32) (x7 x8 x9 : Vec Ideal S2x512 .f32) (x10 : Vec Ideal S1x2048x512 .f32) (x11 : Vec Ideal S2x2048 .f32) (x12 : Vec Ideal S1x512x2048 .f32) (x13 x14 x15 : Vec Ideal S2x512 .f32) : FVec Ideal S2048x512 .f32 :=
  outText (ffPreText
      (midPreText (entryText x0 x1 x2 x3) (ctxText (qkvText (entryText x0 x1 x2 x3) (View.ld x4 (Rect.unit ![0, 0, 0]
        S1x1536x512.size inb_S2x1536x512_S1x1536x512_0_0_0)) (View.ld x5 (Rect.unit ![0, 0] S1x1536.size inb_S2x1536_S1x1536_0_0))))
        x6 (View.ld x7 (Rect.unit ![0, 0] S1x512.size inb_S2x512_S1x512_0_0)))
      (hidText
        (midPreText (entryText x0 x1 x2 x3) (ctxText (qkvText (entryText x0 x1 x2 x3) (View.ld x4 (Rect.unit ![0, 0, 0]
          S1x1536x512.size inb_S2x1536x512_S1x1536x512_0_0_0)) (View.ld x5 (Rect.unit ![0, 0] S1x1536.size inb_S2x1536_S1x1536_0_0))))
          x6 (View.ld x7 (Rect.unit ![0, 0] S1x512.size inb_S2x512_S1x512_0_0)))
        (View.ld x8 (Rect.unit ![0, 0] S1x512.size inb_S2x512_S1x512_0_0))
        (View.ld x9 (Rect.unit ![0, 0] S1x512.size inb_S2x512_S1x512_0_0)) x10
        (View.ld x11 (Rect.unit ![0, 0] S1x2048.size inb_S2x2048_S1x2048_0_0)))
      (View.ld x8 (Rect.unit ![0, 0] S1x512.size inb_S2x512_S1x512_0_0))
      (View.ld x9 (Rect.unit ![0, 0] S1x512.size inb_S2x512_S1x512_0_0)) x12
      (View.ld x13 (Rect.unit ![0, 0] S1x512.size inb_S2x512_S1x512_0_0)))
    (View.ld x14 (Rect.unit ![0, 0] S1x512.size inb_S2x512_S1x512_0_0))
    (View.ld x15 (Rect.unit ![0, 0] S1x512.size inb_S2x512_S1x512_0_0))

/-- The last row of each sequence. -/
def lastText (o : FVec Ideal S2048x512 .f32) (b : Fin 4) : FVec Ideal S1x512 .f32 :=
  match b with
  | 0 => extractStridedSlice S1x512 ![511, 0] o slices_S2048x512_o511_0_S1x512
  | 1 => extractStridedSlice S1x512 ![1023, 0] o slices_S2048x512_o1023_0_S1x512
  | 2 => extractStridedSlice S1x512 ![1535, 0] o slices_S2048x512_o1535_0_S1x512
  | 3 => extractStridedSlice S1x512 ![2047, 0] o slices_S2048x512_o2047_0_S1x512

theorem kvPart_inb (b : Fin 4) (k : Fin 16) (a : Fin 2) :
    (![512 * b.val, 64 * k.val] : Fin 2 → Nat) a + S512x64.size a ≤ S2048x1024.size a := by
  have := b.isLt; have := k.isLt
  fin_cases a
  · show 512 * b.val + 512 ≤ 2048; omega
  · show 64 * k.val + 64 ≤ 1024; omega

/-- The rows of sequence `b` and the columns `64 k … 64 k + 63` of the keys and values. -/
def kvPart (w : FVec Ideal S2048x1024 .bf16) (b : Fin 4) (k : Fin 16) : FVec Ideal S512x64 .bf16 :=
  View.ld (Val := Elt Ideal) (e' := .bf16) w (Rect.unit (s := S2048x1024) ![512 * b.val, 64 * k.val] S512x64.size (kvPart_inb b k))

theorem qPart_slices (h : Fin 8) : S1x512.Slices ![0, 64 * h.val] S1x64 := by revert h; decide

/-- The 64 queries of head `h`. -/
def qPart (q : FVec Ideal S1x512 .f32) (h : Fin 8) : FVec Ideal S1x64 .f32 :=
  extractStridedSlice S1x64 ![0, 64 * h.val] q (qPart_slices h)

/-- Head `h` of the last row of sequence `b`. -/
def lastHeadAt (q : FVec Ideal S1x512 .f32) (w : FVec Ideal S2048x1024 .bf16) (b : Fin 4) (h : Fin 8) : FVec Ideal S1x64 .f32 :=
  lastMixText (lastWeightText (lastScoreText (qPart q h) (kvPart w b ⟨h.val, by omega⟩))) (kvPart w b ⟨8 + h.val, by omega⟩)

/-- The heads of a last row side by side. -/
def lastCtxText (q : FVec Ideal S1x512 .f32) (w : FVec Ideal S2048x1024 .bf16) (b : Fin 4) : FVec Ideal S1x512 .f32 :=
  cat8 S1x512 1 concatenates_S1x64_S1x64_S1x64_S1x64_S1x64_S1x64_S1x64_S1x64_S1x512_d1 (lastHeadAt q w b 0) (lastHeadAt q w b 1) (lastHeadAt q w b 2) (lastHeadAt q w b 3) (lastHeadAt q w b 4) (lastHeadAt q w b 5) (lastHeadAt q w b 6) (lastHeadAt q w b 7)

/-- Four rows, one under the other. -/
def rowsText (r : Fin 4 → FVec Ideal S1x512 .f32) : FVec Ideal S4x512 .f32 :=
  cat4 S4x512 0 concatenates_S1x512_S1x512_S1x512_S1x512_S4x512_d0 (r 0) (r 1) (r 2) (r 3)

end Cert.Tie
-- ==== Proof.FirstCallText.lean ====
/-
  THE FIRST CALL'S TWO OUTPUTS are the stages composed.
-/
module
public import proofs.«01_k».proof.Proof.FirstCall
@[expose] public section
set_option maxRecDepth 16384
noncomputable section
namespace Cert.Tie
open Idealize.ShloMosaic Idealize.ShloMosaic.TcCoe Idealize.ShloMosaic.Tactic
open Cert.KernelIdeal Cert.KernelIdeal.Gen

set_option maxHeartbeats 1000000 in
/-- The call's first output: the last rows of the first layer. -/
theorem out16_eq (c : Dev nD) (i : grid0.Coords) (arg1 : Memref sig .tc .vmem S4x512x256 .f32) (harg1 : arg1.IsWhole) (arg2 : Memref sig .tc .vmem S512x512 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2x1536x512 .f32) (harg5 : arg5.IsWhole) (arg6 : Memref sig .tc .vmem S2x1536 .f32) (harg6 : arg6.IsWhole) (arg7 : Memref sig .tc .vmem S1x512x512 .f32) (harg7 : arg7.IsWhole) (arg8 : Memref sig .tc .vmem S2x512 .f32) (harg8 : arg8.IsWhole) (arg9 : Memref sig .tc .vmem S2x512 .f32) (harg9 : arg9.IsWhole) (arg10 : Memref sig .tc .vmem S2x512 .f32) (harg10 : arg10.IsWhole) (arg11 : Memref sig .tc .vmem S1x2048x512 .f32) (harg11 : arg11.IsWhole) (arg12 : Memref sig .tc .vmem S2x2048 .f32) (harg12 : arg12.IsWhole) (arg13 : Memref sig .tc .vmem S1x512x2048 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S2x512 .f32) (harg16 : arg16.IsWhole) (arg17 : Memref sig .tc .vmem S4x512 .f32) (harg17 : arg17.IsWhole) (arg18 : Memref sig .tc .vmem S4x512 .f32) (harg18 : arg18.IsWhole) (arg19 : Memref sig .tc .vmem S512x256 .bf16) (harg19 : arg19.IsWhole) (arg20 : Memref sig .tc .vmem S1536x512 .bf16) (harg20 : arg20.IsWhole) (arg21 : Memref sig .tc .vmem S512x512 .bf16) (harg21 : arg21.IsWhole) (arg22 : Memref sig .tc .vmem S2048x512 .bf16) (harg22 : arg22.IsWhole) (arg23 : Memref sig .tc .vmem S512x2048 .bf16) (harg23 : arg23.IsWhole) (arg24 : Memref sig .tc .vmem S1024x512 .bf16) (harg24 : arg24.IsWhole) (arg25 : Memref sig .tc .vmem S512x512 .bf16) (harg25 : arg25.IsWhole) (arg26 : Memref sig .tc .vmem S2048x1536 .bf16) (harg26 : arg26.IsWhole) (arg27 : Memref sig .tc .vmem S2048x2048 .bf16) (harg27 : arg27.IsWhole) (arg28 : Memref sig .tc .vmem S2048x1024 .bf16) (harg28 : arg28.IsWhole)
    (x0 : Vec Ideal S4x512x256 .f32) (x1 : Vec Ideal S512x512 .f32) (x2 : Vec Ideal S512x256 .f32) (x3 : Vec Ideal S1x512 .f32) (x4 : Vec Ideal S2x1536x512 .f32) (x5 : Vec Ideal S2x1536 .f32) (x6 : Vec Ideal S1x512x512 .f32) (x7 : Vec Ideal S2x512 .f32) (x8 : Vec Ideal S2x512 .f32) (x9 : Vec Ideal S2x512 .f32) (x10 : Vec Ideal S1x2048x512 .f32) (x11 : Vec Ideal S2x2048 .f32) (x12 : Vec Ideal S1x512x2048 .f32) (x13 : Vec Ideal S2x512 .f32) (x14 : Vec Ideal S2x512 .f32) (x15 : Vec Ideal S2x512 .f32) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 = rowsText fun b => lastText (layerText x0 x1 x2 x3 x4 x5 x6 x7 x8 x9 x10 x11 x12 x13 x14 x15) b := by
  unfold out0_A_16
  frame_open
  simp (disch := decide) only [↓ cat2_eq, ↓ cat4_eq, ↓ cat8_eq, View.read_writes_junk_eq_canon, View.canon_cons_unit_lit',
    View.ld_unit_lit', View.readCov_unit_lit', View.readCov_cons_unit_lit', View.readAt_eq_ld, read_unread_tc, readCov_part,
    resid_fold, ← entryText.eq_1, ← qkvText.eq_1, ← scoreText.eq_1, ← weightText.eq_1, ← mixText.eq_1, ← midPreText.eq_1, ← meanText.eq_1, ← devText.eq_1, ← varText.eq_1,
    ← hidText.eq_1, ← ffPreText.eq_1, ← outText.eq_1]
  rfl

set_option maxHeartbeats 1000000 in
/-- The call's second output: the attention of the last rows in the second layer, before its projection. -/
theorem out17_eq (c : Dev nD) (i : grid0.Coords) (arg1 : Memref sig .tc .vmem S4x512x256 .f32) (harg1 : arg1.IsWhole) (arg2 : Memref sig .tc .vmem S512x512 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2x1536x512 .f32) (harg5 : arg5.IsWhole) (arg6 : Memref sig .tc .vmem S2x1536 .f32) (harg6 : arg6.IsWhole) (arg7 : Memref sig .tc .vmem S1x512x512 .f32) (harg7 : arg7.IsWhole) (arg8 : Memref sig .tc .vmem S2x512 .f32) (harg8 : arg8.IsWhole) (arg9 : Memref sig .tc .vmem S2x512 .f32) (harg9 : arg9.IsWhole) (arg10 : Memref sig .tc .vmem S2x512 .f32) (harg10 : arg10.IsWhole) (arg11 : Memref sig .tc .vmem S1x2048x512 .f32) (harg11 : arg11.IsWhole) (arg12 : Memref sig .tc .vmem S2x2048 .f32) (harg12 : arg12.IsWhole) (arg13 : Memref sig .tc .vmem S1x512x2048 .f32) (harg13 : arg13.IsWhole) (arg14 : Memref sig .tc .vmem S2x512 .f32) (harg14 : arg14.IsWhole) (arg15 : Memref sig .tc .vmem S2x512 .f32) (harg15 : arg15.IsWhole) (arg16 : Memref sig .tc .vmem S2x512 .f32) (harg16 : arg16.IsWhole) (arg17 : Memref sig .tc .vmem S4x512 .f32) (harg17 : arg17.IsWhole) (arg18 : Memref sig .tc .vmem S4x512 .f32) (harg18 : arg18.IsWhole) (arg19 : Memref sig .tc .vmem S512x256 .bf16) (harg19 : arg19.IsWhole) (arg20 : Memref sig .tc .vmem S1536x512 .bf16) (harg20 : arg20.IsWhole) (arg21 : Memref sig .tc .vmem S512x512 .bf16) (harg21 : arg21.IsWhole) (arg22 : Memref sig .tc .vmem S2048x512 .bf16) (harg22 : arg22.IsWhole) (arg23 : Memref sig .tc .vmem S512x2048 .bf16) (harg23 : arg23.IsWhole) (arg24 : Memref sig .tc .vmem S1024x512 .bf16) (harg24 : arg24.IsWhole) (arg25 : Memref sig .tc .vmem S512x512 .bf16) (harg25 : arg25.IsWhole) (arg26 : Memref sig .tc .vmem S2048x1536 .bf16) (harg26 : arg26.IsWhole) (arg27 : Memref sig .tc .vmem S2048x2048 .bf16) (harg27 : arg27.IsWhole) (arg28 : Memref sig .tc .vmem S2048x1024 .bf16) (harg28 : arg28.IsWhole)
    (x0 : Vec Ideal S4x512x256 .f32) (x1 : Vec Ideal S512x512 .f32) (x2 : Vec Ideal S512x256 .f32) (x3 : Vec Ideal S1x512 .f32) (x4 : Vec Ideal S2x1536x512 .f32) (x5 : Vec Ideal S2x1536 .f32) (x6 : Vec Ideal S1x512x512 .f32) (x7 : Vec Ideal S2x512 .f32) (x8 : Vec Ideal S2x512 .f32) (x9 : Vec Ideal S2x512 .f32) (x10 : Vec Ideal S1x2048x512 .f32) (x11 : Vec Ideal S2x2048 .f32) (x12 : Vec Ideal S1x512x2048 .f32) (x13 : Vec Ideal S2x512 .f32) (x14 : Vec Ideal S2x512 .f32) (x15 : Vec Ideal S2x512 .f32) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 = rowsText fun b =>
      lastCtxText (qText (lastText (layerText x0 x1 x2 x3 x4 x5 x6 x7 x8 x9 x10 x11 x12 x13 x14 x15) b) (View.ld x4 (Rect.unit ![1, 0, 0] S1x512x512.size inb_S2x1536x512_S1x512x512_1_0_0))
          (View.ld x5 (Rect.unit ![1, 0] S1x1536.size inb_S2x1536_S1x1536_1_0)))
        (kvText (layerText x0 x1 x2 x3 x4 x5 x6 x7 x8 x9 x10 x11 x12 x13 x14 x15) (View.ld x4 (Rect.unit ![1, 512, 0] S1x1024x512.size inb_S2x1536x512_S1x1024x512_1_512_0))
          (View.ld x5 (Rect.unit ![1, 0] S1x1536.size inb_S2x1536_S1x1536_1_0))) b := by
  unfold out0_A_17
  frame_open
  simp (disch := decide) only [↓ cat2_eq, ↓ cat4_eq, ↓ cat8_eq, View.read_writes_junk_eq_canon, View.canon_cons_unit_lit',
    View.ld_unit_lit', View.readCov_unit_lit', View.readCov_cons_unit_lit', View.readAt_eq_ld, read_unread_tc, readCov_part,
    resid_fold, ← entryText.eq_1, ← qkvText.eq_1, ← scoreText.eq_1, ← weightText.eq_1, ← mixText.eq_1, ← midPreText.eq_1, ← meanText.eq_1, ← devText.eq_1, ← varText.eq_1,
    ← hidText.eq_1, ← ffPreText.eq_1, ← outText.eq_1, ← kvText.eq_1, ← qText.eq_1, ← lastScoreText.eq_1, ← lastWeightText.eq_1, ← lastMixText.eq_1, k0_pay2, k0_pay134, k0_pay135]
  rfl

end Cert.Tie
-- ==== Proof.Spec.lean ====
/-
  The network as functions of its arrays' elements: the seasonal part of the series, an encoder layer, the router's
  logits, the mixture of two experts and the head; and where their values are real numbers.
-/
module

public import proofs.«01_k».proof.Proof.Real

@[expose] public section

noncomputable section

namespace Cert.Tie

open Idealize.ShloMosaic
open scoped BigOperators

/-- A linear map of a row with offsets. -/
def lin {n m : ℕ} (x : Fin n → EReal) (w : Fin m → Fin n → EReal) (b : Fin m → EReal) (j : Fin m) : EReal :=
  (∑ k, x k * w j k) + b j

/-- The arrays of one encoder layer. -/
structure Layer where
  wqkv : Fin 1536 → Fin 512 → EReal
  bqkv : Fin 1536 → EReal
  wo : Fin 512 → Fin 512 → EReal
  bo : Fin 512 → EReal
  g1 : Fin 512 → EReal
  o1 : Fin 512 → EReal
  g2 : Fin 512 → EReal
  o2 : Fin 512 → EReal
  w1 : Fin 2048 → Fin 512 → EReal
  b1 : Fin 2048 → EReal
  w2 : Fin 512 → Fin 2048 → EReal
  b2 : Fin 512 → EReal

/-- All arrays of a layer hold real numbers. -/
structure Layer.Real (l : Layer) : Prop where
  wqkv : ∀ i k, IsReal (l.wqkv i k)
  bqkv : ∀ i, IsReal (l.bqkv i)
  wo : ∀ i k, IsReal (l.wo i k)
  bo : ∀ i, IsReal (l.bo i)
  g1 : ∀ i, IsReal (l.g1 i)
  o1 : ∀ i, IsReal (l.o1 i)
  g2 : ∀ i, IsReal (l.g2 i)
  o2 : ∀ i, IsReal (l.o2 i)
  w1 : ∀ i k, IsReal (l.w1 i k)
  b1 : ∀ i, IsReal (l.b1 i)
  w2 : ∀ i k, IsReal (l.w2 i k)
  b2 : ∀ i, IsReal (l.b2 i)

/-- A sequence of 512 rows of 512 numbers. -/
abbrev Rows := Fin 512 → Fin 512 → EReal

/-- The head and the lane of a column. -/
def hd (j : Fin 512) : Fin 8 := ⟨j.val / 64, by omega⟩
def ln (j : Fin 512) : Fin 64 := ⟨j.val % 64, by omega⟩

/-- The columns of a query, a key and a value of a head. -/
def qcol (h : Fin 8) (d : Fin 64) : Fin 1536 := ⟨h.val * 64 + d.val, by omega⟩
def kcol (h : Fin 8) (d : Fin 64) : Fin 1536 := ⟨512 + (h.val * 64 + d.val), by omega⟩
def vcol (h : Fin 8) (d : Fin 64) : Fin 1536 := ⟨1024 + (h.val * 64 + d.val), by omega⟩

theorem vcol_hd (k : Fin 512) (h : 1024 + k.val < 1536) : (⟨1024 + k.val, h⟩ : Fin 1536) = vcol (hd k) (ln k) :=
  Fin.ext (by simp only [vcol, hd, ln]; omega)

namespace Layer
variable (l : Layer)

/-- The queries, keys and values of a sequence. -/
def qkv (z : Rows) (t : Fin 512) : Fin 1536 → EReal := lin (z t) l.wqkv l.bqkv

/-- The attention's output of head `h` for the query of row `t`. -/
def head (z : Rows) (t : Fin 512) (h : Fin 8) (d : Fin 64) : EReal :=
  attend (fun e => l.qkv z t (qcol h e)) (fun s e => l.qkv z s (kcol h e)) (fun s e => l.qkv z s (vcol h e)) d

/-- The attention's output, the heads side by side. -/
def ctx (z : Rows) (t : Fin 512) (j : Fin 512) : EReal := l.head z t (hd j) (ln j)

/-- A row and the projection of its attention. -/
def midPre (x c : Fin 512 → EReal) (j : Fin 512) : EReal := x j + (∑ k, c k * l.wo j k) + l.bo j

/-- A row after the attention: projected, added to the row, normalized. -/
def mid (x c : Fin 512 → EReal) : Fin 512 → EReal := lnorm (l.midPre x c) l.g1 l.o1

/-- A row and the two-layer perceptron of it. -/
def ffPre (x : Fin 512 → EReal) (j : Fin 512) : EReal :=
  x j + ((∑ k, gelu (lin x l.w1 l.b1 k) * l.w2 j k) + l.b2 j)

/-- A row after the two-layer perceptron: added to the row, normalized. -/
def ff (x : Fin 512 → EReal) : Fin 512 → EReal := lnorm (l.ffPre x) l.g2 l.o2

/-- A row of a sequence after the layer. -/
def out (z : Rows) (t : Fin 512) : Fin 512 → EReal := l.ff (l.mid (z t) (l.ctx z t))

end Layer

theorem isReal_lin {n m : ℕ} {x : Fin n → EReal} {w : Fin m → Fin n → EReal} {b : Fin m → EReal}
    (hx : ∀ k, IsReal (x k)) (hw : ∀ j k, IsReal (w j k)) (hb : ∀ j, IsReal (b j)) (j : Fin m) :
    IsReal (lin x w b j) := (IsReal.sum fun k => (hx k).mul (hw j k)).add (hb j)

namespace Layer
variable {l : Layer}

theorem Real.qkv (hl : l.Real) {z : Rows} (hz : ∀ t j, IsReal (z t j)) (t : Fin 512) (j : Fin 1536) :
    IsReal (l.qkv z t j) := isReal_lin (hz t) hl.wqkv hl.bqkv j

theorem Real.ctx (hl : l.Real) {z : Rows} (hz : ∀ t j, IsReal (z t j)) (t j : Fin 512) : IsReal (l.ctx z t j) := by
  unfold Layer.ctx Layer.head
  exact isReal_attend (fun d => hl.qkv hz t (qcol _ d)) (fun s d => hl.qkv hz s (kcol _ d))
    (fun s d => hl.qkv hz s (vcol _ d)) _

theorem Real.mid (hl : l.Real) {x c : Fin 512 → EReal} (hx : ∀ j, IsReal (x j)) (hc : ∀ j, IsReal (c j)) (j : Fin 512) :
    IsReal (l.mid x c j) :=
  isReal_lnorm (fun j => ((hx j).add (IsReal.sum fun k => (hc k).mul (hl.wo j k))).add (hl.bo j)) hl.g1 hl.o1 j

theorem Real.ff (hl : l.Real) {x : Fin 512 → EReal} (hx : ∀ j, IsReal (x j)) (j : Fin 512) : IsReal (l.ff x j) :=
  isReal_lnorm (fun j => (hx j).add ((IsReal.sum fun k =>
    (isReal_gelu (isReal_lin hx hl.w1 hl.b1 k)).mul (hl.w2 j k)).add (hl.b2 j))) hl.g2 hl.o2 j

/-- A layer of real arrays takes real rows to real rows. -/
theorem Real.out (hl : l.Real) {z : Rows} (hz : ∀ t j, IsReal (z t j)) (t j : Fin 512) : IsReal (l.out z t j) :=
  hl.ff (hl.mid (hz t) (hl.ctx hz t)) j

end Layer

/-- The arrays of the network other than the layers'. -/
structure Net where
  x : Fin 4 → Fin 512 → Fin 256 → EReal
  wp : Fin 512 → Fin 256 → EReal
  bp : Fin 512 → EReal
  pe : Fin 512 → Fin 512 → EReal
  l0 : Layer
  l1 : Layer
  fg : Fin 512 → EReal
  fo : Fin 512 → EReal
  gw : Fin 4 → Fin 512 → EReal
  gb : Fin 4 → EReal
  ew1 : Fin 4 → Fin 1024 → Fin 512 → EReal
  eb1 : Fin 4 → Fin 1024 → EReal
  ew2 : Fin 4 → Fin 512 → Fin 1024 → EReal
  eb2 : Fin 4 → Fin 512 → EReal
  mg : Fin 512 → EReal
  mo : Fin 512 → EReal
  wd : Fin 256 → Fin 512 → EReal
  bd : Fin 256 → EReal

/-- The arrays from which scores and logits are computed hold real numbers. -/
structure Net.Real (n : Net) : Prop where
  x : ∀ b t f, IsReal (n.x b t f)
  wp : ∀ i k, IsReal (n.wp i k)
  bp : ∀ i, IsReal (n.bp i)
  pe : ∀ i k, IsReal (n.pe i k)
  l0 : n.l0.Real
  l1 : n.l1.Real
  fg : ∀ i, IsReal (n.fg i)
  fo : ∀ i, IsReal (n.fo i)
  gw : ∀ i k, IsReal (n.gw i k)
  gb : ∀ i, IsReal (n.gb i)

/-- A series at a position counted from three places before its start, zero outside it. -/
def padded (x : Fin 512 → EReal) (i : ℕ) : EReal := if h : 3 ≤ i ∧ i < 515 then x ⟨i - 3, by omega⟩ else 0

/-- The sum of the seven places about `t`. -/
def window (x : Fin 512 → EReal) (t : ℕ) : EReal :=
  padded x t + padded x (t + 1) + padded x (t + 2) + padded x (t + 3) + padded x (t + 4) + padded x (t + 5)
    + padded x (t + 6)

/-- The trend: the mean of the seven places about `t`. -/
def trend (x : Fin 512 → EReal) (t : ℕ) : EReal := window x t * ((1 / 7 : ℝ) : EReal)

namespace Net
variable (n : Net)

/-- The series without its trend. -/
def resid (b : Fin 4) (t : Fin 512) (f : Fin 256) : EReal := n.x b t f - trend (fun s => n.x b s f) t.val

/-- The rows that enter the encoder. -/
def z0 (b : Fin 4) : Rows := fun t j => lin (n.resid b t) n.wp n.bp j + n.pe t j

/-- The rows after the first layer and after both. -/
def z1 (b : Fin 4) : Rows := n.l0.out (n.z0 b)
def z2 (b : Fin 4) : Rows := n.l1.out (n.z1 b)

/-- The encoder's output at the last row of a sequence, normalized. -/
def zf (b : Fin 4) : Fin 512 → EReal := lnorm (n.z2 b 511) n.fg n.fo

/-- The router's logits. -/
def logit (b : Fin 4) : Fin 4 → EReal := lin (n.zf b) n.gw n.gb

/-- One expert's output. -/
def expert (b : Fin 4) (e : Fin 4) : Fin 512 → EReal :=
  lin (fun k => max (lin (n.zf b) (n.ew1 e) (n.eb1 e) k) 0) (n.ew2 e) (n.eb2 e)

end Net

theorem isReal_padded {x : Fin 512 → EReal} (h : ∀ t, IsReal (x t)) (i : ℕ) : IsReal (padded x i) := by
  unfold padded; split
  · exact h _
  · exact IsReal.zero

theorem isReal_trend {x : Fin 512 → EReal} (h : ∀ t, IsReal (x t)) (i : ℕ) : IsReal (trend x i) := by
  have p := isReal_padded h
  exact (((((((p _).add (p _)).add (p _)).add (p _)).add (p _)).add (p _)).add (p _)).mul (isReal_coe _)

namespace Net
variable {n : Net} (h : n.Real)
include h

theorem Real.z0 (b : Fin 4) (t j : Fin 512) : IsReal (n.z0 b t j) :=
  (isReal_lin (fun f => (h.x b t f).sub (isReal_trend (fun s => h.x b s f) _)) h.wp h.bp j).add (h.pe t j)

theorem Real.z1 (b : Fin 4) (t j : Fin 512) : IsReal (n.z1 b t j) := h.l0.out (h.z0 b) t j

theorem Real.z2 (b : Fin 4) (t j : Fin 512) : IsReal (n.z2 b t j) := h.l1.out (h.z1 b) t j

theorem Real.zf (b : Fin 4) (j : Fin 512) : IsReal (n.zf b j) := isReal_lnorm (h.z2 b 511) h.fg h.fo j

/-- The logits are real. -/
theorem Real.logit (b : Fin 4) (e : Fin 4) : IsReal (n.logit b e) := isReal_lin (h.zf b) h.gw h.gb e

end Net

end Cert.Tie
-- ==== Proof.FirstCallValue.lean ====
/-
  THE FIRST CALL'S STAGES READ AT AN INDEX, as the network's functions of their operands' elements.
-/
module

public import proofs.«01_k».proof.Proof.FirstCall
public import proofs.«01_k».proof.Proof.Spec
public import Idealize.ShloMosaic.Lib.Pointwise

@[expose] public section

set_option maxRecDepth 16384

noncomputable section

namespace Cert.Tie

open Idealize.ShloMosaic Idealize.ShloMosaic.TcCoe Idealize.ShloMosaic.Pointwise
open Cert.KernelIdeal Cert.KernelIdeal.Gen
open scoped BigOperators

/-- The row of position `t` of sequence `b` when the four sequences lie one under the other. -/
def row (b : Fin 4) (t : Fin 512) : Fin 2048 := ⟨512 * b.val + t.val, by omega⟩

/-- The literal one eighth of a sixteen-bit float. -/
theorem lit_eighth_bf16 : Ideal.ofBits .bf16 0x3E00#16 = Ideal.ofBits .f32 0x3E000000#32 := by
  rw [lit_eighth]; simp [Ideal.ofBits, Ideal.ieee, -EReal.coe_mul]; norm_num

/-- The literal one. -/
theorem lit_1 : Ideal.ofBits .f32 0x3F800000#32 = 1 := by
  simp [Ideal.ofBits, Ideal.ieee, -EReal.coe_mul]; norm_num

/-- Queries, keys and values. -/
theorem qkvText_apply (z : FVec Ideal S2048x512 .f32) (w : FVec Ideal S1x1536x512 .f32) (b : FVec Ideal S1x1536 .f32)
    (r : Fin 2048) (j : Fin 1536) :
    qkvText z w b (ix2 r j) = lin (fun k => z (ix2 r k)) (fun i k => w (ix3 0 i k)) (fun i => b (ix2 0 i)) j := by
  unfold qkvText
  pointwise
  rfl

/-- The scores. -/
theorem scoreText_apply (q k : FVec Ideal S512x64 .bf16) (t s : Fin 512) :
    scoreText q k (ix2 t s) = ∑ d, q (ix2 t d) * Ideal.ofBits .f32 0x3E000000#32 * k (ix2 s d) := by
  unfold scoreText
  pointwise
  rw [lit_eighth_bf16]

/-- The weights. -/
theorem weightText_apply (s : FVec Ideal S512x512 .f32) (t j : Fin 512) :
    weightText s (ix2 t j) = weight (fun j => s (ix2 t j)) j := by
  unfold weightText
  pointwise
  rw [lit_bot]
  rfl

/-- The weighted values. -/
theorem mixText_apply (p : FVec Ideal S512x512 .bf16) (v : FVec Ideal S512x64 .bf16) (t : Fin 512) (d : Fin 64) :
    mixText p v (ix2 t d) = (∑ s, p (ix2 t s) * v (ix2 s d)) * Ideal.div 1 (∑ s, p (ix2 t s)) := by
  unfold mixText
  pointwise

/-- A row after the attention's projection. -/
theorem midPreText_apply (z c : FVec Ideal S2048x512 .f32) (w : FVec Ideal S1x512x512 .f32) (b : FVec Ideal S1x512 .f32)
    (r : Fin 2048) (j : Fin 512) :
    midPreText z c w b (ix2 r j) = z (ix2 r j) + (∑ k, c (ix2 r k) * w (ix3 0 j k)) + b (ix2 0 j) := by
  unfold midPreText
  pointwise

/-- The mean of a row. -/
theorem meanText_apply (m : FVec Ideal S2048x512 .f32) (r : Fin 2048) :
    meanText m (ix2 r 0) = mean fun j => m (ix2 r j) := by
  unfold meanText
  pointwise
  rfl

/-- A row about its mean. -/
theorem devText_apply (m : FVec Ideal S2048x512 .f32) (r : Fin 2048) (j : Fin 512) :
    devText m (ix2 r j) = m (ix2 r j) - mean fun j => m (ix2 r j) := by
  unfold devText
  pointwise
  rw [meanText_apply]

/-- The variance of a row. -/
theorem varText_apply (m : FVec Ideal S2048x512 .f32) (r : Fin 2048) :
    varText m (ix2 r 0) = var fun j => m (ix2 r j) := by
  unfold varText
  rw [meanText_apply]
  pointwise
  simp only [devText_apply]
  rfl

/-- The kernel's normalization is layer normalization. -/
theorem lnorm_of (x g b : Fin 512 → EReal) (j : Fin 512) :
    (x j - mean x) * Ideal.rsqrt (var x + Ideal.ofBits .f32 0x3727C5AC#32) * g j + b j = lnorm x g b j :=
  lnorm_rsqrt x g b j

/-- Layer normalization. -/
theorem outText_apply (f : FVec Ideal S2048x512 .f32) (g b : FVec Ideal S1x512 .f32) (r : Fin 2048) (j : Fin 512) :
    outText f g b (ix2 r j) = lnorm (fun j => f (ix2 r j)) (fun j => g (ix2 0 j)) (fun j => b (ix2 0 j)) j := by
  unfold outText
  pointwise
  rw [devText_apply, varText_apply]
  exact lnorm_of (fun j => f (ix2 r j)) (fun j => g (ix2 0 j)) (fun j => b (ix2 0 j)) j

/-- The kernel's gelu, with the square root's reciprocal named, is the reference's. -/
theorem gelu_bf16 (x : EReal) :
    Ideal.ofBits .bf16 0x3F00#16 * x * (1 + Ideal.erf (x * (Named.named κ "root_half" 0x3F35#16 : Ideal .bf16))) = gelu x := by
  rw [show (Named.named κ "root_half" 0x3F35#16 : Ideal .bf16) = (((Real.sqrt 2)⁻¹ : ℝ) : EReal) from rfl]
  unfold gelu
  rw [div_sqrt_2, lit_half, lit_half_bf16]

theorem gelu_f32 (x : EReal) :
    Ideal.ofBits .f32 0x3F000000#32 * x * (1 + Ideal.erf (x * (Named.named κ "root_half" 0x3F3504F3#32 : Ideal .f32))) = gelu x := by
  rw [show (Named.named κ "root_half" 0x3F3504F3#32 : Ideal .f32) = (((Real.sqrt 2)⁻¹ : ℝ) : EReal) from rfl]
  unfold gelu
  rw [div_sqrt_2]

/-- The hidden rows of the perceptron. -/
theorem hidText_apply (m : FVec Ideal S2048x512 .f32) (g b : Vec Ideal S1x512 .f32) (w : FVec Ideal S1x2048x512 .f32)
    (c : Vec Ideal S1x2048 .f32) (r : Fin 2048) (k : Fin 2048) :
    hidText m g b w c (ix2 r k) = gelu (lin (lnorm (fun j => m (ix2 r j)) (fun j => g (ix2 0 j)) (fun j => b (ix2 0 j)))
      (fun i k => w (ix3 0 i k)) (fun i => c (ix2 0 i)) k) := by
  unfold hidText k0_pay73 k0_pay72
  pointwise
  simp only [devText_apply, varText_apply]
  rw [← gelu_bf16]
  simp only [lin, ← lnorm_of]
  rfl

/-- The rows after the perceptron. -/
theorem ffPreText_apply (m : FVec Ideal S2048x512 .f32) (hid : FVec Ideal S2048x2048 .bf16) (g b : Vec Ideal S1x512 .f32)
    (w : FVec Ideal S1x512x2048 .f32) (c : Vec Ideal S1x512 .f32) (r : Fin 2048) (j : Fin 512) :
    ffPreText m hid g b w c (ix2 r j) = lnorm (fun j => m (ix2 r j)) (fun j => g (ix2 0 j)) (fun j => b (ix2 0 j)) j
      + (∑ k, hid (ix2 r k) * w (ix3 0 j k)) + c (ix2 0 j) := by
  unfold ffPreText k0_pay74 k0_pay72
  pointwise
  simp only [devText_apply, varText_apply]
  rw [← lnorm_of]

/-! ## The entry -/

/-- The padded series at a place, at an earlier and at a later one. -/
theorem padded_at (x : Fin 512 → EReal) (t : Fin 512) : padded x (t.val + 3) = x t := by
  unfold padded; rw [dif_pos (by omega)]; exact congrArg x (Fin.ext (by simp))

theorem padded_before (x : Fin 512 → EReal) (t : Fin 512) {s k : ℕ} (hk : s + k = 3) :
    padded x (t.val + k) = if h : t.val < s then 0 else x ⟨t.val - s, by omega⟩ := by
  unfold padded
  by_cases h : t.val < s
  · rw [dif_pos h, dif_neg (by omega)]
  · rw [dif_neg h, dif_pos (by omega)]; exact congrArg x (Fin.ext (by show t.val + k - 3 = t.val - s; omega))

theorem padded_after (x : Fin 512 → EReal) (t : Fin 512) {s k n : ℕ} (hk : k = s + 3) (hn : n + s = 512) :
    padded x (t.val + k) = if h : t.val < n then x ⟨s + t.val, by omega⟩ else 0 := by
  unfold padded
  by_cases h : t.val < n
  · rw [dif_pos h, dif_pos (by omega)]; exact congrArg x (Fin.ext (by show t.val + k - 3 = s + t.val; omega))
  · rw [dif_neg h, dif_neg (by omega)]

/-- The named seventh. -/
theorem seventh : (Named.named κ "seventh" 0x3E124925#32 : Ideal .f32) = ((1 / 7 : ℝ) : EReal) := rfl

/-- The series of one sequence less its moving average. -/
theorem resid_apply (y : Vec Ideal S1x512x256 .f32) (t : Fin 512) (f : Fin 256) :
    k0_pay15 y (ix2 t f) = y (ix3 0 t f) - trend (fun s => y (ix3 0 s f)) t.val := by
  unfold k0_pay15
  pointwise
  rw [seventh]
  unfold trend window
  have e0 := padded_before (fun s => y (ix3 0 s f)) t (s := 3) (k := 0) rfl
  rw [Nat.add_zero] at e0
  rw [e0, padded_before _ t (s := 2) (k := 1) rfl, padded_before _ t (s := 1) (k := 2) rfl, padded_at,
    padded_after _ t (s := 1) (k := 4) (n := 511) rfl rfl, padded_after _ t (s := 2) (k := 5) (n := 510) rfl rfl,
    padded_after _ t (s := 3) (k := 6) (n := 509) rfl rfl]
  refine congrArg (fun w => y (ix3 0 t f) - w * ((1 / 7 : ℝ) : EReal)) ?_
  abel

/-- The entry as one product over the four sequences, one under the other. -/
theorem entryText_eq (x0 : Vec Ideal S4x512x256 .f32) (x1 : Vec Ideal S512x512 .f32) (x2 : FVec Ideal S512x256 .f32)
    (x3 : FVec Ideal S1x512 .f32) :
    entryText x0 x1 x2 x3 = addf (addf (matmul dot_S2048x256_S512x256_S2048x512_1_1_0_0_n_n none
      (truncf .bf16 (cat4 S2048x256 0 concatenates_S512x256_S512x256_S512x256_S512x256_S2048x256_d0
        (k0_pay15 (View.ld x0 (Rect.unit ![0, 0, 0] S1x512x256.size inb_S4x512x256_S1x512x256_0_0_0)))
        (k0_pay15 (View.ld x0 (Rect.unit ![1, 0, 0] S1x512x256.size inb_S4x512x256_S1x512x256_1_0_0)))
        (k0_pay15 (View.ld x0 (Rect.unit ![2, 0, 0] S1x512x256.size inb_S4x512x256_S1x512x256_2_0_0)))
        (k0_pay15 (View.ld x0 (Rect.unit ![3, 0, 0] S1x512x256.size inb_S4x512x256_S1x512x256_3_0_0)))
        : FVec Ideal S2048x256 .f32) bitsLt_bf16_f32)
      (shapeCast S512x256 (truncf .bf16 x2 bitsLt_bf16_f32 : FVec Ideal S512x256 .bf16) shapeCasts_S512x256_S512x256)
      (constant S2048x512 .f32 0x00000000#32))
      (broadcastTo S2048x512 (shapeCast S1x512 x3 shapeCasts_S1x512_S1x512) broadcasts_S1x512_S2048x512))
      (cat4 S2048x512 0 concatenates_S512x512_S512x512_S512x512_S512x512_S2048x512_d0 x1 x1 x1 x1) := rfl

/-- Four arrays of 256 columns one under the other, read in one of them. -/
theorem cat4_row256 (h) (x0 x1 x2 x3 : FVec Ideal S512x256 .f32) (b : Fin 4) (t : Fin 512) (j : Fin 256) :
    (cat4 S2048x256 0 h x0 x1 x2 x3 : FVec Ideal S2048x256 .f32) (ix2 (row b t) j) = (![x0, x1, x2, x3] b) (ix2 t j) := by
  unfold cat4
  pointwise
  obtain ⟨t, ht⟩ := t
  fin_cases b
  · refine (dif_pos (show 512 * 0 + t < 512 by omega)).trans ?_
    exact congrArg (fun i => x0 (ix2 i j)) (Fin.ext (show 512 * 0 + t = t by omega))
  · refine (dif_neg (show ¬ 512 * 1 + t < 512 by omega)).trans ?_
    refine (dif_pos (show 512 * 1 + t - 512 < 512 by omega)).trans ?_
    exact congrArg (fun i => x1 (ix2 i j)) (Fin.ext (show 512 * 1 + t - 512 = t by omega))
  · refine (dif_neg (show ¬ 512 * 2 + t < 512 by omega)).trans ?_
    refine (dif_neg (show ¬ 512 * 2 + t - 512 < 512 by omega)).trans ?_
    refine (dif_pos (show 512 * 2 + t - 512 - 512 < 512 by omega)).trans ?_
    exact congrArg (fun i => x2 (ix2 i j)) (Fin.ext (show 512 * 2 + t - 512 - 512 = t by omega))
  · refine (dif_neg (show ¬ 512 * 3 + t < 512 by omega)).trans ?_
    refine (dif_neg (show ¬ 512 * 3 + t - 512 < 512 by omega)).trans ?_
    refine (dif_neg (show ¬ 512 * 3 + t - 512 - 512 < 512 by omega)).trans ?_
    exact congrArg (fun i => x3 (ix2 i j)) (Fin.ext (show 512 * 3 + t - 512 - 512 - 512 = t by omega))

/-- Four arrays of 512 columns one under the other, read in one of them. -/
theorem cat4_row512 (h) (x0 x1 x2 x3 : FVec Ideal S512x512 .f32) (b : Fin 4) (t : Fin 512) (j : Fin 512) :
    (cat4 S2048x512 0 h x0 x1 x2 x3 : FVec Ideal S2048x512 .f32) (ix2 (row b t) j) = (![x0, x1, x2, x3] b) (ix2 t j) := by
  unfold cat4
  pointwise
  obtain ⟨t, ht⟩ := t
  fin_cases b
  · refine (dif_pos (show 512 * 0 + t < 512 by omega)).trans ?_
    exact congrArg (fun i => x0 (ix2 i j)) (Fin.ext (show 512 * 0 + t = t by omega))
  · refine (dif_neg (show ¬ 512 * 1 + t < 512 by omega)).trans ?_
    refine (dif_pos (show 512 * 1 + t - 512 < 512 by omega)).trans ?_
    exact congrArg (fun i => x1 (ix2 i j)) (Fin.ext (show 512 * 1 + t - 512 = t by omega))
  · refine (dif_neg (show ¬ 512 * 2 + t < 512 by omega)).trans ?_
    refine (dif_neg (show ¬ 512 * 2 + t - 512 < 512 by omega)).trans ?_
    refine (dif_pos (show 512 * 2 + t - 512 - 512 < 512 by omega)).trans ?_
    exact congrArg (fun i => x2 (ix2 i j)) (Fin.ext (show 512 * 2 + t - 512 - 512 = t by omega))
  · refine (dif_neg (show ¬ 512 * 3 + t < 512 by omega)).trans ?_
    refine (dif_neg (show ¬ 512 * 3 + t - 512 < 512 by omega)).trans ?_
    refine (dif_neg (show ¬ 512 * 3 + t - 512 - 512 < 512 by omega)).trans ?_
    exact congrArg (fun i => x3 (ix2 i j)) (Fin.ext (show 512 * 3 + t - 512 - 512 - 512 = t by omega))

/-- A row of an array, loaded as a one-row array. -/
theorem ld2_row {L n : Nat} (X : Shape.Idx ⟨2, ![L, n]⟩ → EReal) (l : Nat) (hl : l < L) (inb) (j : Fin n) :
    View.ld (Val := Elt Ideal) (e' := .f32) X (Rect.unit (s := ⟨2, ![L, n]⟩) ![l, 0] ![1, n] inb) (ix2 0 j) = X (ix2 ⟨l, hl⟩ j) := by
  refine View.ld_unit_apply_of (Val := Elt Ideal) (e := .f32) (S := ⟨2, ![L, n]⟩) X ![l, 0] ![1, n] inb (ix2 0 j) (ix2 ⟨l, hl⟩ j) fun a => ?_
  fin_cases a <;> simp

/-- Rows of one slab of an array, loaded as a slab. -/
theorem ld3_row {L m n k : Nat} (X : Shape.Idx ⟨3, ![L, m, n]⟩ → EReal) (l o : Nat) (hl : l < L) (inb) (i : Fin k) (j : Fin n)
    (ho : o + i.val < m) :
    View.ld (Val := Elt Ideal) (e' := .f32) X (Rect.unit (s := ⟨3, ![L, m, n]⟩) ![l, o, 0] ![1, k, n] inb) (ix3 0 i j)
      = X (ix3 ⟨l, hl⟩ ⟨o + i.val, ho⟩ j) := by
  refine View.ld_unit_apply_of (Val := Elt Ideal) (e := .f32) (S := ⟨3, ![L, m, n]⟩) X ![l, o, 0] ![1, k, n] inb (ix3 0 i j) (ix3 ⟨l, hl⟩ ⟨o + i.val, ho⟩ j) fun a => ?_
  fin_cases a <;> simp

/-- One slab of an array. -/
theorem ld3_slab {L m n : Nat} (X : Shape.Idx ⟨3, ![L, m, n]⟩ → EReal) (l : Nat) (hl : l < L) (inb) (i : Fin m) (j : Fin n) :
    View.ld (Val := Elt Ideal) (e' := .f32) X (Rect.unit (s := ⟨3, ![L, m, n]⟩) ![l, 0, 0] ![1, m, n] inb) (ix3 0 i j)
      = X (ix3 ⟨l, hl⟩ i j) := by
  refine View.ld_unit_apply_of (Val := Elt Ideal) (e := .f32) (S := ⟨3, ![L, m, n]⟩) X ![l, 0, 0] ![1, m, n] inb (ix3 0 i j) (ix3 ⟨l, hl⟩ i j) fun a => ?_
  fin_cases a <;> simp

/-- The entry. -/
theorem entryText_apply (x0 : Vec Ideal S4x512x256 .f32) (x1 : Vec Ideal S512x512 .f32) (x2 : FVec Ideal S512x256 .f32)
    (x3 : FVec Ideal S1x512 .f32) (b : Fin 4) (t j : Fin 512) :
    entryText x0 x1 x2 x3 (ix2 (row b t) j) = lin (fun f => x0 (ix3 b t f) - trend (fun s => x0 (ix3 b s f)) t.val)
      (fun i k => x2 (ix2 i k)) (fun i => x3 (ix2 0 i)) j + x1 (ix2 t j) := by
  rw [entryText_eq]
  pointwise
  simp only [cat4_row256, cat4_row512]
  have e : (![x1, x1, x1, x1] b) = x1 := by fin_cases b <;> rfl
  rw [e]
  unfold lin
  refine congrArg (fun w => w + x3 (ix2 0 j) + x1 (ix2 t j)) (Finset.sum_congr rfl fun f _ => congrArg (· * x2 (ix2 j f)) ?_)
  have r : ∀ l : Fin 4, ∀ inb, k0_pay15 (View.ld x0 (Rect.unit (s := S4x512x256) ![l.val, 0, 0] S1x512x256.size inb)) (ix2 t f)
      = x0 (ix3 l t f) - trend (fun s => x0 (ix3 l s f)) t.val := by
    intro l inb
    rw [resid_apply]
    refine congrArg₂ (· - ·) (ld3_slab x0 l.val l.isLt inb t f) (congrArg (fun g => trend g t.val) ?_)
    funext s
    exact ld3_slab x0 l.val l.isLt inb s f
  fin_cases b
  · exact r 0 _
  · exact r 1 _
  · exact r 2 _
  · exact r 3 _

/-! ## The attention -/

/-- A part of the projections. -/
theorem part_apply (w : FVec Ideal S2048x1536 .bf16) (b : Fin 4) (k : Fin 24) (t : Fin 512) (d : Fin 64)
    (c : Fin 1536) (hc : c.val = 64 * k.val + d.val) : part w b k (ix2 t d) = w (ix2 (row b t) c) := by
  unfold part
  refine View.ld_unit_apply_of (Val := Elt Ideal) (e := .bf16) (S := S2048x1536) w ![512 * b.val, 64 * k.val] S512x64.size
    (part_inb b k) (ix2 t d) (ix2 (row b t) c) fun a => ?_
  fin_cases a
  · rfl
  · exact hc

/-- One head of one sequence is the attention of the projections' columns, on real projections. -/
theorem headAt_apply (w : FVec Ideal S2048x1536 .bf16) (hw : ∀ r c, IsReal (w (ix2 r c))) (b : Fin 4) (h : Fin 8)
    (t : Fin 512) (d : Fin 64) :
    headAt w b h (ix2 t d) = attend (fun e => w (ix2 (row b t) (qcol h e))) (fun s e => w (ix2 (row b s) (kcol h e)))
      (fun s e => w (ix2 (row b s) (vcol h e))) d := by
  have hq : ∀ t e, part w b ⟨h.val, by omega⟩ (ix2 t e) = w (ix2 (row b t) (qcol h e)) :=
    fun t e => part_apply w b _ t e _ (by show h.val * 64 + e.val = 64 * h.val + e.val; omega)
  have hk : ∀ t e, part w b ⟨8 + h.val, by omega⟩ (ix2 t e) = w (ix2 (row b t) (kcol h e)) :=
    fun t e => part_apply w b _ t e _ (by show 512 + (h.val * 64 + e.val) = 64 * (8 + h.val) + e.val; omega)
  have hv : ∀ t e, part w b ⟨16 + h.val, by omega⟩ (ix2 t e) = w (ix2 (row b t) (vcol h e)) :=
    fun t e => part_apply w b _ t e _ (by show 1024 + (h.val * 64 + e.val) = 64 * (16 + h.val) + e.val; omega)
  have hs : ∀ s, scoreText (part w b ⟨h.val, by omega⟩) (part w b ⟨8 + h.val, by omega⟩) (ix2 t s)
      = score (fun e => w (ix2 (row b t) (qcol h e))) (fun s e => w (ix2 (row b s) (kcol h e))) s := by
    intro s
    rw [scoreText_apply]
    simp only [hq, hk]
    exact scaled_score (q := fun e => w (ix2 (row b t) (qcol h e))) (k := fun s e => w (ix2 (row b s) (kcol h e)))
      (fun _ => hw _ _) (fun _ _ => hw _ _) s
  unfold headAt
  rw [mixText_apply]
  simp only [weightText_apply, hs, hv]
  exact attend_late (q := fun e => w (ix2 (row b t) (qcol h e))) (k := fun s e => w (ix2 (row b s) (kcol h e)))
    (v := fun s e => w (ix2 (row b s) (vcol h e))) (fun _ => hw _ _) (fun _ _ => hw _ _) (fun _ _ => hw _ _) d

/-- Eight arrays of 64 columns side by side, read in one of them. -/
theorem cat8_col (h) (x0 x1 x2 x3 x4 x5 x6 x7 : FVec Ideal S512x64 .f32) (t j : Fin 512) :
    (cat8 S512x512 1 h x0 x1 x2 x3 x4 x5 x6 x7 : FVec Ideal S512x512 .f32) (ix2 t j)
      = (![x0, x1, x2, x3, x4, x5, x6, x7] (hd j)) (ix2 t (ln j)) := by
  obtain ⟨g, d, rfl⟩ : ∃ (g : Fin 8) (d : Fin 64), j = ⟨64 * g.val + d.val, by omega⟩ :=
    ⟨hd j, ln j, Fin.ext (by simp only [hd, ln]; omega)⟩
  have e1 : hd ⟨64 * g.val + d.val, by omega⟩ = g := Fin.ext (by simp only [hd]; omega)
  have e2 : ln ⟨64 * g.val + d.val, by omega⟩ = d := Fin.ext (by simp only [ln]; omega)
  rw [e1, e2]
  unfold cat8
  pointwise
  obtain ⟨d, hd⟩ := d
  fin_cases g
  · refine (dif_pos (show 64 * 0 + d < 64 by omega)).trans ?_
    exact congrArg (fun i => x0 (ix2 t i)) (Fin.ext (show 64 * 0 + d = d by omega))
  · refine (dif_neg (show ¬ 64 * 1 + d < 64 by omega)).trans ?_
    refine (dif_pos (show 64 * 1 + d - 64 < 64 by omega)).trans ?_
    exact congrArg (fun i => x1 (ix2 t i)) (Fin.ext (show 64 * 1 + d - 64 = d by omega))
  · refine (dif_neg (show ¬ 64 * 2 + d < 64 by omega)).trans ?_
    refine (dif_neg (show ¬ 64 * 2 + d - 64 < 64 by omega)).trans ?_
    refine (dif_pos (show 64 * 2 + d - 64 - 64 < 64 by omega)).trans ?_
    exact congrArg (fun i => x2 (ix2 t i)) (Fin.ext (show 64 * 2 + d - 64 - 64 = d by omega))
  · refine (dif_neg (show ¬ 64 * 3 + d < 64 by omega)).trans ?_
    refine (dif_neg (show ¬ 64 * 3 + d - 64 < 64 by omega)).trans ?_
    refine (dif_neg (show ¬ 64 * 3 + d - 64 - 64 < 64 by omega)).trans ?_
    refine (dif_pos (show 64 * 3 + d - 64 - 64 - 64 < 64 by omega)).trans ?_
    exact congrArg (fun i => x3 (ix2 t i)) (Fin.ext (show 64 * 3 + d - 64 - 64 - 64 = d by omega))
  · refine (dif_neg (show ¬ 64 * 4 + d < 64 by omega)).trans ?_
    refine (dif_neg (show ¬ 64 * 4 + d - 64 < 64 by omega)).trans ?_
    refine (dif_neg (show ¬ 64 * 4 + d - 64 - 64 < 64 by omega)).trans ?_
    refine (dif_neg (show ¬ 64 * 4 + d - 64 - 64 - 64 < 64 by omega)).trans ?_
    refine (dif_pos (show 64 * 4 + d - 64 - 64 - 64 - 64 < 64 by omega)).trans ?_
    exact congrArg (fun i => x4 (ix2 t i)) (Fin.ext (show 64 * 4 + d - 64 - 64 - 64 - 64 = d by omega))
  · refine (dif_neg (show ¬ 64 * 5 + d < 64 by omega)).trans ?_
    refine (dif_neg (show ¬ 64 * 5 + d - 64 < 64 by omega)).trans ?_
    refine (dif_neg (show ¬ 64 * 5 + d - 64 - 64 < 64 by omega)).trans ?_
    refine (dif_neg (show ¬ 64 * 5 + d - 64 - 64 - 64 < 64 by omega)).trans ?_
    refine (dif_neg (show ¬ 64 * 5 + d - 64 - 64 - 64 - 64 < 64 by omega)).trans ?_
    refine (dif_pos (show 64 * 5 + d - 64 - 64 - 64 - 64 - 64 < 64 by omega)).trans ?_
    exact congrArg (fun i => x5 (ix2 t i)) (Fin.ext (show 64 * 5 + d - 64 - 64 - 64 - 64 - 64 = d by omega))
  · refine (dif_neg (show ¬ 64 * 6 + d < 64 by omega)).trans ?_
    refine (dif_neg (show ¬ 64 * 6 + d - 64 < 64 by omega)).trans ?_
    refine (dif_neg (show ¬ 64 * 6 + d - 64 - 64 < 64 by omega)).trans ?_
    refine (dif_neg (show ¬ 64 * 6 + d - 64 - 64 - 64 < 64 by omega)).trans ?_
    refine (dif_neg (show ¬ 64 * 6 + d - 64 - 64 - 64 - 64 < 64 by omega)).trans ?_
    refine (dif_neg (show ¬ 64 * 6 + d - 64 - 64 - 64 - 64 - 64 < 64 by omega)).trans ?_
    refine (dif_pos (show 64 * 6 + d - 64 - 64 - 64 - 64 - 64 - 64 < 64 by omega)).trans ?_
    exact congrArg (fun i => x6 (ix2 t i)) (Fin.ext (show 64 * 6 + d - 64 - 64 - 64 - 64 - 64 - 64 = d by omega))
  · refine (dif_neg (show ¬ 64 * 7 + d < 64 by omega)).trans ?_
    refine (dif_neg (show ¬ 64 * 7 + d - 64 < 64 by omega)).trans ?_
    refine (dif_neg (show ¬ 64 * 7 + d - 64 - 64 < 64 by omega)).trans ?_
    refine (dif_neg (show ¬ 64 * 7 + d - 64 - 64 - 64 < 64 by omega)).trans ?_
    refine (dif_neg (show ¬ 64 * 7 + d - 64 - 64 - 64 - 64 < 64 by omega)).trans ?_
    refine (dif_neg (show ¬ 64 * 7 + d - 64 - 64 - 64 - 64 - 64 < 64 by omega)).trans ?_
    refine (dif_neg (show ¬ 64 * 7 + d - 64 - 64 - 64 - 64 - 64 - 64 < 64 by omega)).trans ?_
    exact congrArg (fun i => x7 (ix2 t i)) (Fin.ext (show 64 * 7 + d - 64 - 64 - 64 - 64 - 64 - 64 - 64 = d by omega))

/-- The heads side by side. -/
theorem ctxAt_apply (w : FVec Ideal S2048x1536 .bf16) (b : Fin 4) (t j : Fin 512) :
    ctxAt w b (ix2 t j) = headAt w b (hd j) (ix2 t (ln j)) := by
  unfold ctxAt
  rw [cat8_col]
  generalize hd j = g
  fin_cases g <;> rfl

theorem ctxText_apply (w : FVec Ideal S2048x1536 .bf16) (b : Fin 4) (t j : Fin 512) :
    ctxText w (ix2 (row b t) j) = headAt w b (hd j) (ix2 t (ln j)) := by
  unfold ctxText
  rw [cat4_row512, ← ctxAt_apply]
  fin_cases b <;> rfl

/-! ## The layer -/

/-- The first layer's arrays as the call's blocks hold them. -/
def blockLayer (x4 : Vec Ideal S2x1536x512 .f32) (x5 : Vec Ideal S2x1536 .f32) (x6 : Vec Ideal S1x512x512 .f32)
    (x7 x8 x9 : Vec Ideal S2x512 .f32) (x10 : Vec Ideal S1x2048x512 .f32) (x11 : Vec Ideal S2x2048 .f32)
    (x12 : Vec Ideal S1x512x2048 .f32) (x13 x14 x15 : Vec Ideal S2x512 .f32) : Layer where
  wqkv i k := x4 (ix3 0 i k)
  bqkv i := x5 (ix2 0 i)
  wo i k := x6 (ix3 0 i k)
  bo i := x7 (ix2 0 i)
  g1 i := x8 (ix2 0 i)
  o1 i := x9 (ix2 0 i)
  g2 i := x14 (ix2 0 i)
  o2 i := x15 (ix2 0 i)
  w1 i k := x10 (ix3 0 i k)
  b1 i := x11 (ix2 0 i)
  w2 i k := x12 (ix3 0 i k)
  b2 i := x13 (ix2 0 i)

/-- The rows that enter, as the call's blocks hold them. -/
def blockEntry (x0 : Vec Ideal S4x512x256 .f32) (x1 : Vec Ideal S512x512 .f32) (x2 : Vec Ideal S512x256 .f32)
    (x3 : Vec Ideal S1x512 .f32) (b : Fin 4) : Rows := fun t j =>
  lin (fun f => x0 (ix3 b t f) - trend (fun s => x0 (ix3 b s f)) t.val) (fun i k => x2 (ix2 i k)) (fun i => x3 (ix2 0 i)) j
    + x1 (ix2 t j)

/-- The rows after the first layer. -/
theorem layerText_apply (x0 : Vec Ideal S4x512x256 .f32) (x1 : Vec Ideal S512x512 .f32) (x2 : Vec Ideal S512x256 .f32) (x3 : Vec Ideal S1x512 .f32) (x4 : Vec Ideal S2x1536x512 .f32) (x5 : Vec Ideal S2x1536 .f32) (x6 : Vec Ideal S1x512x512 .f32) (x7 x8 x9 : Vec Ideal S2x512 .f32) (x10 : Vec Ideal S1x2048x512 .f32) (x11 : Vec Ideal S2x2048 .f32) (x12 : Vec Ideal S1x512x2048 .f32) (x13 x14 x15 : Vec Ideal S2x512 .f32)
    (hz : ∀ b t j, IsReal (blockEntry x0 x1 x2 x3 b t j)) (hw : ∀ i k, IsReal (x4 (ix3 0 i k))) (hb : ∀ i, IsReal (x5 (ix2 0 i)))
    (b : Fin 4) (t j : Fin 512) :
    layerText x0 x1 x2 x3 x4 x5 x6 x7 x8 x9 x10 x11 x12 x13 x14 x15 (ix2 (row b t) j)
      = (blockLayer x4 x5 x6 x7 x8 x9 x10 x11 x12 x13 x14 x15).out (blockEntry x0 x1 x2 x3 b) t j := by
  unfold layerText
  have r7 : ∀ j, View.ld x7 (Rect.unit ![0, 0] S1x512.size inb_S2x512_S1x512_0_0) (ix2 0 j) = x7 (ix2 0 j) := fun j => ld2_row x7 0 (by decide) _ j
  generalize View.ld x7 (Rect.unit ![0, 0] S1x512.size inb_S2x512_S1x512_0_0) = L7 at r7 ⊢
  have r8 : ∀ j, View.ld x8 (Rect.unit ![0, 0] S1x512.size inb_S2x512_S1x512_0_0) (ix2 0 j) = x8 (ix2 0 j) := fun j => ld2_row x8 0 (by decide) _ j
  generalize View.ld x8 (Rect.unit ![0, 0] S1x512.size inb_S2x512_S1x512_0_0) = L8 at r8 ⊢
  have r9 : ∀ j, View.ld x9 (Rect.unit ![0, 0] S1x512.size inb_S2x512_S1x512_0_0) (ix2 0 j) = x9 (ix2 0 j) := fun j => ld2_row x9 0 (by decide) _ j
  generalize View.ld x9 (Rect.unit ![0, 0] S1x512.size inb_S2x512_S1x512_0_0) = L9 at r9 ⊢
  have r13 : ∀ j, View.ld x13 (Rect.unit ![0, 0] S1x512.size inb_S2x512_S1x512_0_0) (ix2 0 j) = x13 (ix2 0 j) := fun j => ld2_row x13 0 (by decide) _ j
  generalize View.ld x13 (Rect.unit ![0, 0] S1x512.size inb_S2x512_S1x512_0_0) = L13 at r13 ⊢
  have r14 : ∀ j, View.ld x14 (Rect.unit ![0, 0] S1x512.size inb_S2x512_S1x512_0_0) (ix2 0 j) = x14 (ix2 0 j) := fun j => ld2_row x14 0 (by decide) _ j
  generalize View.ld x14 (Rect.unit ![0, 0] S1x512.size inb_S2x512_S1x512_0_0) = L14 at r14 ⊢
  have r15 : ∀ j, View.ld x15 (Rect.unit ![0, 0] S1x512.size inb_S2x512_S1x512_0_0) (ix2 0 j) = x15 (ix2 0 j) := fun j => ld2_row x15 0 (by decide) _ j
  generalize View.ld x15 (Rect.unit ![0, 0] S1x512.size inb_S2x512_S1x512_0_0) = L15 at r15 ⊢
  have r5 : ∀ j, View.ld x5 (Rect.unit ![0, 0] S1x1536.size inb_S2x1536_S1x1536_0_0) (ix2 0 j) = x5 (ix2 0 j) := fun j => ld2_row x5 0 (by decide) _ j
  generalize View.ld x5 (Rect.unit ![0, 0] S1x1536.size inb_S2x1536_S1x1536_0_0) = L5 at r5 ⊢
  have r11 : ∀ j, View.ld x11 (Rect.unit ![0, 0] S1x2048.size inb_S2x2048_S1x2048_0_0) (ix2 0 j) = x11 (ix2 0 j) := fun j => ld2_row x11 0 (by decide) _ j
  generalize View.ld x11 (Rect.unit ![0, 0] S1x2048.size inb_S2x2048_S1x2048_0_0) = L11 at r11 ⊢
  have r4 : ∀ i j, View.ld x4 (Rect.unit ![0, 0, 0] S1x1536x512.size inb_S2x1536x512_S1x1536x512_0_0_0) (ix3 0 i j) = x4 (ix3 0 i j) := fun i j => ld3_slab x4 0 (by decide) _ i j
  generalize View.ld x4 (Rect.unit ![0, 0, 0] S1x1536x512.size inb_S2x1536x512_S1x1536x512_0_0_0) = L4 at r4 ⊢
  have he : ∀ b t j, entryText x0 x1 x2 x3 (ix2 (row b t) j) = blockEntry x0 x1 x2 x3 b t j := entryText_apply x0 x1 x2 x3
  generalize hE : entryText x0 x1 x2 x3 = E
  rw [hE] at he
  generalize hQ : qkvText E _ _ = Q
  have hq : ∀ b t c, Q (ix2 (row b t) c)
      = (blockLayer x4 x5 x6 x7 x8 x9 x10 x11 x12 x13 x14 x15).qkv (blockEntry x0 x1 x2 x3 b) t c := by
    intro b t c
    rw [← hQ, qkvText_apply]
    simp only [r4, r5, he]
    rfl
  have hqr : ∀ r c, IsReal (Q (ix2 r c)) := by
    intro r c
    have e : r = row ⟨r.val / 512, by omega⟩ ⟨r.val % 512, by omega⟩ := Fin.ext (by simp only [row]; omega)
    rw [e, hq]
    exact isReal_lin (hz _ _) hw hb c
  generalize hM : midPreText E (ctxText Q) x6 _ = M
  have hm : ∀ b t j, M (ix2 (row b t) j) = (blockLayer x4 x5 x6 x7 x8 x9 x10 x11 x12 x13 x14 x15).midPre
      (blockEntry x0 x1 x2 x3 b t) ((blockLayer x4 x5 x6 x7 x8 x9 x10 x11 x12 x13 x14 x15).ctx (blockEntry x0 x1 x2 x3 b) t) j := by
    intro b t j
    rw [← hM, midPreText_apply]
    simp only [he, ctxText_apply, headAt_apply Q hqr, hq, r7]
    rfl
  rw [outText_apply]
  simp only [ffPreText_apply, hidText_apply, hm, r8, r9, r13, r14, r15, r11]
  unfold Layer.out Layer.ff
  refine congrFun (congrArg (fun f => lnorm f (blockLayer x4 x5 x6 x7 x8 x9 x10 x11 x12 x13 x14 x15).g2
    (blockLayer x4 x5 x6 x7 x8 x9 x10 x11 x12 x13 x14 x15).o2) (funext fun j => ?_)) j
  unfold Layer.ffPre
  rw [← add_assoc]
  rfl

end Cert.Tie
-- ==== Proof.FirstCallLast.lean ====
module

public import proofs.«01_k».proof.Proof.FirstCallValue

@[expose] public section

/-!
# The first call's two outputs, index by index

The last row of each sequence after the first layer, and the second layer's attention at that row.
-/

open Idealize Idealize.ShloMosaic Idealize.ShloMosaic.Pointwise Cert.KernelIdeal Cert.KernelIdeal.Gen

noncomputable section
namespace Cert.Tie

/-- The last row of a sequence. -/
theorem lastText_apply (o : FVec Ideal S2048x512 .f32) (b : Fin 4) (j : Fin 512) :
    lastText o b (ix2 0 j) = o (ix2 (row b 511) j) := by
  unfold lastText
  fin_cases b <;> dsimp only <;> pointwise <;> rfl

/-- Four rows, one under the other. -/
theorem rowsText_apply (r : Fin 4 → FVec Ideal S1x512 .f32) (b : Fin 4) (j : Fin 512) :
    rowsText r (ix2 b j) = r b (ix2 0 j) := by
  unfold rowsText cat4
  pointwise
  fin_cases b <;> rfl

/-- The keys and values of a row. -/
theorem kvText_apply (o : FVec Ideal S2048x512 .f32) (w : FVec Ideal S1x1024x512 .f32) (b : FVec Ideal S1x1536 .f32)
    (r : Fin 2048) (j : Fin 1024) :
    kvText o w b (ix2 r j) = (∑ k, o (ix2 r k) * w (ix3 0 j k)) + b (ix2 0 ⟨512 + j.val, by omega⟩) := by
  unfold kvText
  pointwise

/-- The query of a last row. -/
theorem qText_apply (o : FVec Ideal S1x512 .f32) (w : FVec Ideal S1x512x512 .f32) (b : FVec Ideal S1x1536 .f32)
    (j : Fin 512) :
    qText o w b (ix2 0 j) = (∑ k, o (ix2 0 k) * w (ix3 0 j k)) + b (ix2 0 ⟨j.val, by omega⟩) := by
  unfold qText
  pointwise

/-- The scores of a last row. -/
theorem lastScoreText_apply (q : FVec Ideal S1x64 .f32) (k : FVec Ideal S512x64 .bf16) (s : Fin 512) :
    lastScoreText q k (ix2 0 s) = ∑ d, q (ix2 0 d) * Ideal.ofBits .f32 0x3E000000#32 * k (ix2 s d) := by
  unfold lastScoreText
  pointwise

/-- The weights of a last row. -/
theorem lastWeightText_apply (s : FVec Ideal S1x512 .f32) (j : Fin 512) :
    lastWeightText s (ix2 0 j) = weight (fun j => s (ix2 0 j)) j := by
  unfold lastWeightText
  pointwise
  rw [lit_bot]
  rfl

/-- The weighted values of a last row. -/
theorem lastMixText_apply (p : FVec Ideal S1x512 .bf16) (v : FVec Ideal S512x64 .bf16) (d : Fin 64) :
    lastMixText p v (ix2 0 d) = (∑ s, p (ix2 0 s) * v (ix2 s d)) * Ideal.div 1 (∑ s, p (ix2 0 s)) := by
  unfold lastMixText
  pointwise

/-- A part of the keys and values. -/
theorem kvPart_apply (w : FVec Ideal S2048x1024 .bf16) (b : Fin 4) (k : Fin 16) (t : Fin 512) (d : Fin 64)
    (c : Fin 1024) (hc : c.val = 64 * k.val + d.val) : kvPart w b k (ix2 t d) = w (ix2 (row b t) c) := by
  unfold kvPart
  refine View.ld_unit_apply_of (Val := Elt Ideal) (e := .bf16) (S := S2048x1024) w ![512 * b.val, 64 * k.val] S512x64.size
    (kvPart_inb b k) (ix2 t d) (ix2 (row b t) c) fun a => ?_
  fin_cases a
  · rfl
  · exact hc

/-- The queries of a head. -/
theorem qPart_apply (q : FVec Ideal S1x512 .f32) (h : Fin 8) (d : Fin 64) :
    qPart q h (ix2 0 d) = q (ix2 0 ⟨h.val * 64 + d.val, by omega⟩) := by
  unfold qPart extractStridedSlice
  refine congrArg q (funext fun a => Fin.ext ?_)
  fin_cases a
  · rfl
  · show 64 * h.val + d.val = h.val * 64 + d.val
    omega

/-- One head of a last row is the attention of its queries, on reals. -/
theorem lastHeadAt_apply (q : FVec Ideal S1x512 .f32) (w : FVec Ideal S2048x1024 .bf16) (b : Fin 4) (h : Fin 8) (d : Fin 64)
    {Q : Fin 1536 → EReal} {K : Fin 512 → Fin 1536 → EReal}
    (hQ : ∀ j : Fin 512, q (ix2 0 j) = Q ⟨j.val, by omega⟩) (hK : ∀ (s : Fin 512) (j : Fin 1024), w (ix2 (row b s) j) = K s ⟨512 + j.val, by omega⟩)
    (rQ : ∀ c, IsReal (Q c)) (rK : ∀ s c, IsReal (K s c)) :
    lastHeadAt q w b h (ix2 0 d) = attend (fun e => Q (qcol h e)) (fun s e => K s (kcol h e)) (fun s e => K s (vcol h e)) d := by
  have hq : ∀ e, qPart q h (ix2 0 e) = Q (qcol h e) := fun e => by rw [qPart_apply, hQ]; rfl
  have hk : ∀ t e, kvPart w b ⟨h.val, by omega⟩ (ix2 t e) = K t (kcol h e) := fun t e => by
    rw [kvPart_apply w b _ t e ⟨h.val * 64 + e.val, by omega⟩ (by show h.val * 64 + e.val = 64 * h.val + e.val; omega), hK]
    rfl
  have hv : ∀ t e, kvPart w b ⟨8 + h.val, by omega⟩ (ix2 t e) = K t (vcol h e) := fun t e => by
    rw [kvPart_apply w b _ t e ⟨512 + (h.val * 64 + e.val), by omega⟩
      (by show 512 + (h.val * 64 + e.val) = 64 * (8 + h.val) + e.val; omega), hK]
    exact congrArg (K t) (Fin.ext (by show 512 + (512 + (h.val * 64 + e.val)) = 1024 + (h.val * 64 + e.val); omega))
  have hs : ∀ s, lastScoreText (qPart q h) (kvPart w b ⟨h.val, by omega⟩) (ix2 0 s)
      = score (fun e => Q (qcol h e)) (fun s e => K s (kcol h e)) s := by
    intro s
    rw [lastScoreText_apply]
    simp only [hq, hk]
    exact scaled_score (q := fun e => Q (qcol h e)) (k := fun s e => K s (kcol h e)) (fun _ => rQ _) (fun _ _ => rK _ _) s
  unfold lastHeadAt
  rw [lastMixText_apply]
  simp only [lastWeightText_apply, hs, hv]
  exact attend_late (q := fun e => Q (qcol h e)) (k := fun s e => K s (kcol h e)) (v := fun s e => K s (vcol h e))
    (fun _ => rQ _) (fun _ _ => rK _ _) (fun _ _ => rK _ _) d

/-- Eight rows of 64 columns side by side, read in one of them. -/
theorem cat8_lane (h) (x0 x1 x2 x3 x4 x5 x6 x7 : FVec Ideal S1x64 .f32) (j : Fin 512) :
    (cat8 S1x512 1 h x0 x1 x2 x3 x4 x5 x6 x7 : FVec Ideal S1x512 .f32) (ix2 0 j)
      = (![x0, x1, x2, x3, x4, x5, x6, x7] (hd j)) (ix2 0 (ln j)) := by
  obtain ⟨g, d, rfl⟩ : ∃ (g : Fin 8) (d : Fin 64), j = ⟨64 * g.val + d.val, by omega⟩ :=
    ⟨hd j, ln j, Fin.ext (by simp only [hd, ln]; omega)⟩
  have e1 : hd ⟨64 * g.val + d.val, by omega⟩ = g := Fin.ext (by simp only [hd]; omega)
  have e2 : ln ⟨64 * g.val + d.val, by omega⟩ = d := Fin.ext (by simp only [ln]; omega)
  rw [e1, e2]
  unfold cat8
  pointwise
  obtain ⟨d, hd⟩ := d
  fin_cases g
  · refine (dif_pos (show 64 * 0 + d < 64 by omega)).trans ?_
    exact congrArg (fun i => x0 (ix2 0 i)) (Fin.ext (show 64 * 0 + d = d by omega))
  · refine (dif_neg (show ¬ 64 * 1 + d < 64 by omega)).trans ?_
    refine (dif_pos (show 64 * 1 + d - 64 < 64 by omega)).trans ?_
    exact congrArg (fun i => x1 (ix2 0 i)) (Fin.ext (show 64 * 1 + d - 64 = d by omega))
  · refine (dif_neg (show ¬ 64 * 2 + d < 64 by omega)).trans ?_
    refine (dif_neg (show ¬ 64 * 2 + d - 64 < 64 by omega)).trans ?_
    refine (dif_pos (show 64 * 2 + d - 64 - 64 < 64 by omega)).trans ?_
    exact congrArg (fun i => x2 (ix2 0 i)) (Fin.ext (show 64 * 2 + d - 64 - 64 = d by omega))
  · refine (dif_neg (show ¬ 64 * 3 + d < 64 by omega)).trans ?_
    refine (dif_neg (show ¬ 64 * 3 + d - 64 < 64 by omega)).trans ?_
    refine (dif_neg (show ¬ 64 * 3 + d - 64 - 64 < 64 by omega)).trans ?_
    refine (dif_pos (show 64 * 3 + d - 64 - 64 - 64 < 64 by omega)).trans ?_
    exact congrArg (fun i => x3 (ix2 0 i)) (Fin.ext (show 64 * 3 + d - 64 - 64 - 64 = d by omega))
  · refine (dif_neg (show ¬ 64 * 4 + d < 64 by omega)).trans ?_
    refine (dif_neg (show ¬ 64 * 4 + d - 64 < 64 by omega)).trans ?_
    refine (dif_neg (show ¬ 64 * 4 + d - 64 - 64 < 64 by omega)).trans ?_
    refine (dif_neg (show ¬ 64 * 4 + d - 64 - 64 - 64 < 64 by omega)).trans ?_
    refine (dif_pos (show 64 * 4 + d - 64 - 64 - 64 - 64 < 64 by omega)).trans ?_
    exact congrArg (fun i => x4 (ix2 0 i)) (Fin.ext (show 64 * 4 + d - 64 - 64 - 64 - 64 = d by omega))
  · refine (dif_neg (show ¬ 64 * 5 + d < 64 by omega)).trans ?_
    refine (dif_neg (show ¬ 64 * 5 + d - 64 < 64 by omega)).trans ?_
    refine (dif_neg (show ¬ 64 * 5 + d - 64 - 64 < 64 by omega)).trans ?_
    refine (dif_neg (show ¬ 64 * 5 + d - 64 - 64 - 64 < 64 by omega)).trans ?_
    refine (dif_neg (show ¬ 64 * 5 + d - 64 - 64 - 64 - 64 < 64 by omega)).trans ?_
    refine (dif_pos (show 64 * 5 + d - 64 - 64 - 64 - 64 - 64 < 64 by omega)).trans ?_
    exact congrArg (fun i => x5 (ix2 0 i)) (Fin.ext (show 64 * 5 + d - 64 - 64 - 64 - 64 - 64 = d by omega))
  · refine (dif_neg (show ¬ 64 * 6 + d < 64 by omega)).trans ?_
    refine (dif_neg (show ¬ 64 * 6 + d - 64 < 64 by omega)).trans ?_
    refine (dif_neg (show ¬ 64 * 6 + d - 64 - 64 < 64 by omega)).trans ?_
    refine (dif_neg (show ¬ 64 * 6 + d - 64 - 64 - 64 < 64 by omega)).trans ?_
    refine (dif_neg (show ¬ 64 * 6 + d - 64 - 64 - 64 - 64 < 64 by omega)).trans ?_
    refine (dif_neg (show ¬ 64 * 6 + d - 64 - 64 - 64 - 64 - 64 < 64 by omega)).trans ?_
    refine (dif_pos (show 64 * 6 + d - 64 - 64 - 64 - 64 - 64 - 64 < 64 by omega)).trans ?_
    exact congrArg (fun i => x6 (ix2 0 i)) (Fin.ext (show 64 * 6 + d - 64 - 64 - 64 - 64 - 64 - 64 = d by omega))
  · refine (dif_neg (show ¬ 64 * 7 + d < 64 by omega)).trans ?_
    refine (dif_neg (show ¬ 64 * 7 + d - 64 < 64 by omega)).trans ?_
    refine (dif_neg (show ¬ 64 * 7 + d - 64 - 64 < 64 by omega)).trans ?_
    refine (dif_neg (show ¬ 64 * 7 + d - 64 - 64 - 64 < 64 by omega)).trans ?_
    refine (dif_neg (show ¬ 64 * 7 + d - 64 - 64 - 64 - 64 < 64 by omega)).trans ?_
    refine (dif_neg (show ¬ 64 * 7 + d - 64 - 64 - 64 - 64 - 64 < 64 by omega)).trans ?_
    refine (dif_neg (show ¬ 64 * 7 + d - 64 - 64 - 64 - 64 - 64 - 64 < 64 by omega)).trans ?_
    exact congrArg (fun i => x7 (ix2 0 i)) (Fin.ext (show 64 * 7 + d - 64 - 64 - 64 - 64 - 64 - 64 - 64 = d by omega))

/-- The heads of a last row side by side. -/
theorem lastCtxText_apply (q : FVec Ideal S1x512 .f32) (w : FVec Ideal S2048x1024 .bf16) (b : Fin 4) (j : Fin 512) :
    lastCtxText q w b (ix2 0 j) = lastHeadAt q w b (hd j) (ix2 0 (ln j)) := by
  unfold lastCtxText
  rw [cat8_lane]
  generalize hd j = g
  fin_cases g <;> rfl

/-- The call's first output. -/
theorem out16_apply (x0 : Vec Ideal S4x512x256 .f32) (x1 : Vec Ideal S512x512 .f32) (x2 : Vec Ideal S512x256 .f32) (x3 : Vec Ideal S1x512 .f32) (x4 : Vec Ideal S2x1536x512 .f32) (x5 : Vec Ideal S2x1536 .f32) (x6 : Vec Ideal S1x512x512 .f32) (x7 x8 x9 : Vec Ideal S2x512 .f32) (x10 : Vec Ideal S1x2048x512 .f32) (x11 : Vec Ideal S2x2048 .f32) (x12 : Vec Ideal S1x512x2048 .f32) (x13 x14 x15 : Vec Ideal S2x512 .f32)
    (hz : ∀ b t j, IsReal (blockEntry x0 x1 x2 x3 b t j)) (hw : ∀ i k, IsReal (x4 (ix3 0 i k))) (hb : ∀ i, IsReal (x5 (ix2 0 i)))
    (b : Fin 4) (j : Fin 512) :
    (rowsText fun b => lastText (layerText x0 x1 x2 x3 x4 x5 x6 x7 x8 x9 x10 x11 x12 x13 x14 x15) b) (ix2 b j)
      = (blockLayer x4 x5 x6 x7 x8 x9 x10 x11 x12 x13 x14 x15).out (blockEntry x0 x1 x2 x3 b) 511 j := by
  rw [rowsText_apply, lastText_apply]
  exact layerText_apply x0 x1 x2 x3 x4 x5 x6 x7 x8 x9 x10 x11 x12 x13 x14 x15 hz hw hb b 511 j

/-- The call's second output: the second layer's attention, on real rows. -/
theorem out17_apply (x0 : Vec Ideal S4x512x256 .f32) (x1 : Vec Ideal S512x512 .f32) (x2 : Vec Ideal S512x256 .f32) (x3 : Vec Ideal S1x512 .f32) (x4 : Vec Ideal S2x1536x512 .f32) (x5 : Vec Ideal S2x1536 .f32) (x6 : Vec Ideal S1x512x512 .f32) (x7 x8 x9 : Vec Ideal S2x512 .f32) (x10 : Vec Ideal S1x2048x512 .f32) (x11 : Vec Ideal S2x2048 .f32) (x12 : Vec Ideal S1x512x2048 .f32) (x13 x14 x15 : Vec Ideal S2x512 .f32)
    (hz : ∀ b t j, IsReal (blockEntry x0 x1 x2 x3 b t j)) (hw : ∀ l i k, IsReal (x4 (ix3 l i k))) (hb : ∀ l i, IsReal (x5 (ix2 l i)))
    (hl : (blockLayer x4 x5 x6 x7 x8 x9 x10 x11 x12 x13 x14 x15).Real) (l1 : Layer)
    (e4 : ∀ i k, l1.wqkv i k = x4 (ix3 1 i k)) (e5 : ∀ i, l1.bqkv i = x5 (ix2 1 i)) (b : Fin 4) (j : Fin 512) :
    (rowsText fun b =>
      lastCtxText (qText (lastText (layerText x0 x1 x2 x3 x4 x5 x6 x7 x8 x9 x10 x11 x12 x13 x14 x15) b) (View.ld x4 (Rect.unit ![1, 0, 0] S1x512x512.size inb_S2x1536x512_S1x512x512_1_0_0))
          (View.ld x5 (Rect.unit ![1, 0] S1x1536.size inb_S2x1536_S1x1536_1_0)))
        (kvText (layerText x0 x1 x2 x3 x4 x5 x6 x7 x8 x9 x10 x11 x12 x13 x14 x15) (View.ld x4 (Rect.unit ![1, 512, 0] S1x1024x512.size inb_S2x1536x512_S1x1024x512_1_512_0))
          (View.ld x5 (Rect.unit ![1, 0] S1x1536.size inb_S2x1536_S1x1536_1_0))) b) (ix2 b j)
      = l1.ctx ((blockLayer x4 x5 x6 x7 x8 x9 x10 x11 x12 x13 x14 x15).out (blockEntry x0 x1 x2 x3 b)) 511 j := by
  have hrow : ∀ t j, layerText x0 x1 x2 x3 x4 x5 x6 x7 x8 x9 x10 x11 x12 x13 x14 x15 (ix2 (row b t) j)
      = (blockLayer x4 x5 x6 x7 x8 x9 x10 x11 x12 x13 x14 x15).out (blockEntry x0 x1 x2 x3 b) t j :=
    fun t j => layerText_apply x0 x1 x2 x3 x4 x5 x6 x7 x8 x9 x10 x11 x12 x13 x14 x15 hz (hw 0) (hb 0) b t j
  have rz : ∀ t j, IsReal ((blockLayer x4 x5 x6 x7 x8 x9 x10 x11 x12 x13 x14 x15).out (blockEntry x0 x1 x2 x3 b) t j) :=
    hl.out (hz b)
  generalize layerText x0 x1 x2 x3 x4 x5 x6 x7 x8 x9 x10 x11 x12 x13 x14 x15 = Z at hrow ⊢
  generalize (blockLayer x4 x5 x6 x7 x8 x9 x10 x11 x12 x13 x14 x15).out (blockEntry x0 x1 x2 x3 b) = z at hrow rz ⊢
  have r5 : ∀ j, View.ld x5 (Rect.unit ![1, 0] S1x1536.size inb_S2x1536_S1x1536_1_0) (ix2 0 j) = x5 (ix2 1 j) :=
    fun j => ld2_row x5 1 (by decide) _ j
  generalize View.ld x5 (Rect.unit ![1, 0] S1x1536.size inb_S2x1536_S1x1536_1_0) = L5 at r5 ⊢
  have rq : ∀ (i : Fin 512) k, View.ld x4 (Rect.unit ![1, 0, 0] S1x512x512.size inb_S2x1536x512_S1x512x512_1_0_0) (ix3 0 i k)
      = x4 (ix3 1 ⟨i.val, by omega⟩ k) := fun i k => (ld3_row x4 1 0 (by decide) _ i k (by omega)).trans
        (congrArg (fun i => x4 (ix3 1 i k)) (Fin.ext (Nat.zero_add _)))
  generalize View.ld x4 (Rect.unit ![1, 0, 0] S1x512x512.size inb_S2x1536x512_S1x512x512_1_0_0) = Lq at rq ⊢
  have rk : ∀ (i : Fin 1024) k, View.ld x4 (Rect.unit ![1, 512, 0] S1x1024x512.size inb_S2x1536x512_S1x1024x512_1_512_0) (ix3 0 i k)
      = x4 (ix3 1 ⟨512 + i.val, by omega⟩ k) := fun i k => ld3_row x4 1 512 (by decide) _ i k (by omega)
  generalize View.ld x4 (Rect.unit ![1, 512, 0] S1x1024x512.size inb_S2x1536x512_S1x1024x512_1_512_0) = Lk at rk ⊢
  have rr : ∀ t c, IsReal (l1.qkv z t c) := fun t c =>
    isReal_lin (rz t) (fun i k => by rw [e4]; exact hw 1 i k) (fun i => by rw [e5]; exact hb 1 i) c
  rw [rowsText_apply, lastCtxText_apply]
  refine (lastHeadAt_apply _ _ b (hd j) (ln j) (Q := l1.qkv z 511) (K := fun s => l1.qkv z s) ?_ ?_ (rr _) rr).trans rfl
  · intro j
    rw [qText_apply]
    simp only [lastText_apply, hrow, rq, r5, Layer.qkv, lin, e4, e5]
  · intro s j
    rw [kvText_apply]
    simp only [hrow, rk, r5, Layer.qkv, lin, e4, e5]

end Cert.Tie
-- ==== Proof.Mixture.lean ====
/-
  The two experts of the greatest logits, and the mixture of their outputs: as functions of the four logits.
-/
module

public import proofs.«01_k».proof.Proof.Spec

@[expose] public section

noncomputable section

namespace Cert.Tie

open Idealize.ShloMosaic
open scoped BigOperators Classical

/-- The positions of four numbers in order, the greatest first, equal numbers by position. -/
def order (g : Fin 4 → EReal) (r : Fin 4) : Fin 4 := sortedFrom (fun k k' => decide (g k' < g k)) r

/-- How many of the four numbers are less than one of them. -/
def below (g : Fin 4 → EReal) (i : Fin 4) : Fin 4 :=
  ⟨(Finset.univ.filter fun k => g k < g i).card, by
    refine lt_of_lt_of_le (Finset.card_lt_card (t := Finset.univ) ?_) (by simp)
    refine Finset.filter_ssubset.2 ⟨i, Finset.mem_univ _, lt_irrefl _⟩⟩

theorem below_lt (g : Fin 4 → EReal) (i j : Fin 4) : below g i < below g j ↔ g i < g j := by
  change (Finset.univ.filter fun k => g k < g i).card < (Finset.univ.filter fun k => g k < g j).card ↔ _
  constructor
  · intro h
    by_contra hn
    refine absurd h (not_lt.2 (Finset.card_le_card fun k hk => ?_))
    simp only [Finset.mem_filter, Finset.mem_univ, true_and] at hk ⊢
    exact lt_of_lt_of_le hk (not_lt.1 hn)
  · intro h
    refine Finset.card_lt_card (Finset.ssubset_iff_of_subset (fun k hk => ?_) |>.2 ⟨i, ?_, ?_⟩)
    · simp only [Finset.mem_filter, Finset.mem_univ, true_and] at hk ⊢
      exact hk.trans h
    · simpa using h
    · simp

/-- Of four small numbers: the first in order is a greatest one, the least such position; the second is the same of
    the other three. -/
theorem order_small : ∀ r0 r1 r2 r3 : Fin 4,
    let r : Fin 4 → Fin 4 := ![r0, r1, r2, r3]
    let B : Fin 4 → Fin 4 → Bool := fun k k' => Decidable.decide (r k' < r k)
    let f := sortedFrom B 0
    let s := sortedFrom B 1
    s ≠ f ∧ (∀ j, ¬ r f < r j) ∧ (∀ j, j < f → r j < r f) ∧ (∀ j, j ≠ f → ¬ r s < r j)
      ∧ ∀ j, j < s → j ≠ f → r j < r s := by
  decide +kernel

/-- What the order's first two positions are. -/
theorem order_spec (g : Fin 4 → EReal) :
    order g 1 ≠ order g 0 ∧ (∀ j, g j ≤ g (order g 0)) ∧ (∀ j, j < order g 0 → g j < g (order g 0))
      ∧ (∀ j, j ≠ order g 0 → g j ≤ g (order g 1))
      ∧ ∀ j, j < order g 1 → j ≠ order g 0 → g j < g (order g 1) := by
  have h := order_small (below g 0) (below g 1) (below g 2) (below g 3)
  have e : (![below g 0, below g 1, below g 2, below g 3] : Fin 4 → Fin 4) = below g := by
    funext i; fin_cases i <;> rfl
  have hB : (fun k k' : Fin 4 => decide (below g k' < below g k)) = fun k k' => decide (g k' < g k) := by
    funext k k'; exact decide_eq_decide.2 (below_lt g k' k)
  simp only [e] at h
  rw [hB] at h
  simp only [below_lt, not_lt] at h
  exact h

/-- The share of the first of the two experts. -/
def share (g : Fin 4 → EReal) : EReal := Ideal.div 1 (1 + Ideal.exp (g (order g 1) - g (order g 0)))

/-- The mixture of the two experts' values. -/
def mixture (g y : Fin 4 → EReal) : EReal := share g * y (order g 0) + (1 - share g) * y (order g 1)

/-- What the network returns: the head of the last row, with the trend's last value. -/
def Net.result (n : Net) (b : Fin 4) (f : Fin 256) : EReal :=
  lin (lnorm (fun j => mixture (n.logit b) (fun e => n.expert b e j) + n.zf b j) n.mg n.mo) n.wd n.bd f
    + trend (fun s => n.x b s f) 511

/-- The two exponentials over their sum are the two shares. -/
theorem share_softmax (g : Fin 4 → EReal) (hg : ∀ e, IsReal (g e)) :
    Ideal.div (Ideal.exp (g (order g 0) - g (order g 0)))
        (Ideal.exp (g (order g 0) - g (order g 0)) + Ideal.exp (g (order g 1) - g (order g 0))) = share g
    ∧ Ideal.div (Ideal.exp (g (order g 1) - g (order g 0)))
        (Ideal.exp (g (order g 0) - g (order g 0)) + Ideal.exp (g (order g 1) - g (order g 0))) = 1 - share g := by
  unfold share
  obtain ⟨a, ha⟩ := hg (order g 0)
  obtain ⟨c, hc⟩ := hg (order g 1)
  rw [ha, hc]
  have e1 : ((a : EReal) - a) = ((0 : ℝ) : EReal) := by rw [← EReal.coe_sub, sub_self]
  have e2 : ((c : EReal) - a) = ((c - a : ℝ) : EReal) := by rw [← EReal.coe_sub]
  have hp := Real.exp_pos (c - a)
  have o : (1 : EReal) = ((1 : ℝ) : EReal) := rfl
  rw [e1, e2, Ideal.exp_coe, Ideal.exp_coe, Real.exp_zero, o]
  simp only [← EReal.coe_add, ← EReal.coe_sub]
  rw [Ideal.div_coe (by positivity), Ideal.div_coe (by positivity)]
  simp only [← EReal.coe_mul, ← EReal.coe_sub]
  refine ⟨trivial, ?_⟩
  rw [EReal.coe_eq_coe_iff]
  field_simp
  ring

end Cert.Tie
-- ==== Proof.Router.lean ====
/-
  The kernel's choice of two experts, from comparisons of the four logits: its flags mark the first two positions in
  the order of the logits.
-/
module

public import proofs.«01_k».proof.Proof.FirstCallValue
public import proofs.«01_k».proof.Proof.Mixture

@[expose] public section

set_option maxRecDepth 16384

noncomputable section

namespace Cert.Tie

open Idealize Idealize.ShloMosaic Idealize.ShloMosaic.Pointwise
open Cert.KernelIdeal Cert.KernelIdeal.Gen
open scoped BigOperators

/-- The greatest of four numbers is the first in their order. -/
theorem max_first (g : Fin 4 → EReal) : max (max (max (g 0) (g 1)) (g 2)) (g 3) = g (order g 0) := by
  obtain ⟨-, A, -⟩ := order_spec g
  refine le_antisymm (max_le (max_le (max_le (A 0) (A 1)) (A 2)) (A 3)) ?_
  generalize order g 0 = f
  fin_cases f <;> simp

/-- The greatest of the numbers left when the first in order is masked is the second in order. -/
theorem max_second (g : Fin 4 → EReal) :
    max (max (max (if order g 0 = 0 then ⊥ else g 0) (if order g 0 = 1 then ⊥ else g 1))
      (if order g 0 = 2 then ⊥ else g 2)) (if order g 0 = 3 then ⊥ else g 3) = g (order g 1) := by
  obtain ⟨hne, -, -, C, -⟩ := order_spec g
  have c : ∀ j, (if order g 0 = j then (⊥ : EReal) else g j) ≤ g (order g 1) := fun j => by
    split
    · exact bot_le
    · next h => exact C j (Ne.symm h)
  refine le_antisymm (max_le (max_le (max_le (c 0) (c 1)) (c 2)) (c 3)) ?_
  generalize order g 0 = f at *
  generalize order g 1 = s at *
  fin_cases f <;> fin_cases s <;> simp at hne <;> simp

theorem named_mask : (Named.named κ "mask" 0xF149F2CA#32 : Ideal .f32) = (⊥ : EReal) := rfl

section
variable (v118 v119 v120 v121 : FVec Ideal S4x1 .f32) (b : Fin 4) (g : Fin 4 → EReal)
  (h0 : v118 (ix2 b 0) = g 0) (h1 : v119 (ix2 b 0) = g 1) (h2 : v120 (ix2 b 0) = g 2) (h3 : v121 (ix2 b 0) = g 3)
include h0 h1 h2 h3

theorem greatest_apply : k1_pay13 v118 v119 v120 v121 (ix2 b 0) = g (order g 0) := by
  rw [← max_first g]
  unfold k1_pay13
  pointwise
  rw [h0, h1, h2, h3]

/-- The flags of the first expert. -/
theorem first_apply :
    k1_pay14 v118 v119 v120 v121 (ix2 b 0) = BitVec.ofBool (decide (order g 0 = 0))
    ∧ k1_pay15 v118 v119 v120 v121 (ix2 b 0) = BitVec.ofBool (decide (order g 0 = 1))
    ∧ k1_pay17 v118 v119 v120 v121 (ix2 b 0) = BitVec.ofBool (decide (order g 0 = 2))
    ∧ k1_pay18 v118 v119 v120 v121 (ix2 b 0) = BitVec.ofBool (decide (order g 0 = 3)) := by
  have m := greatest_apply v118 v119 v120 v121 b g h0 h1 h2 h3
  obtain ⟨-, -, B, -⟩ := order_spec g
  have n : ∀ j, j < order g 0 → g j ≠ g (order g 0) := fun j h => (B j h).ne
  unfold k1_pay18 k1_pay17 k1_pay16 k1_pay15 k1_pay14
  generalize k1_pay13 v118 v119 v120 v121 = M at m ⊢
  pointwise
  rw [h0, h1, h2, h3, m]
  clear m B
  generalize order g 0 = f at *
  have n0 := n 0; have n1 := n 1; have n2 := n 2
  fin_cases f <;> simp at n0 n1 n2 <;> simp [n0, n1, n2, IntOp.andi, IntOp.ori, IntOp.xori]

/-- The logits with the first expert's masked. -/
theorem masked_apply :
    k1_pay19 v118 v119 v120 v121 (ix2 b 0) = (if order g 0 = 0 then ⊥ else g 0)
    ∧ k1_pay20 v118 v119 v120 v121 (ix2 b 0) = (if order g 0 = 1 then ⊥ else g 1)
    ∧ k1_pay21 v118 v119 v120 v121 (ix2 b 0) = (if order g 0 = 2 then ⊥ else g 2)
    ∧ k1_pay22 v118 v119 v120 v121 (ix2 b 0) = (if order g 0 = 3 then ⊥ else g 3) := by
  obtain ⟨f0, f1, f2, f3⟩ := first_apply v118 v119 v120 v121 b g h0 h1 h2 h3
  unfold k1_pay22 k1_pay21 k1_pay20 k1_pay19
  generalize k1_pay14 v118 v119 v120 v121 = F0 at *
  generalize k1_pay15 v118 v119 v120 v121 = F1 at *
  generalize k1_pay17 v118 v119 v120 v121 = F2 at *
  generalize k1_pay18 v118 v119 v120 v121 = F3 at *
  pointwise
  rw [h0, h1, h2, h3, f0, f1, f2, f3, named_mask]
  generalize order g 0 = f
  fin_cases f <;> simp [Scalar.select]

theorem second_greatest_apply : k1_pay23 v118 v119 v120 v121 (ix2 b 0) = g (order g 1) := by
  obtain ⟨f0, f1, f2, f3⟩ := masked_apply v118 v119 v120 v121 b g h0 h1 h2 h3
  rw [← max_second g, ← f0, ← f1, ← f2, ← f3]
  unfold k1_pay23
  pointwise

/-- The flags of the second expert. -/
theorem second_apply (hg : ∀ e, IsReal (g e)) :
    k1_pay24 v118 v119 v120 v121 (ix2 b 0) = BitVec.ofBool (decide (order g 1 = 0))
    ∧ k1_pay25 v118 v119 v120 v121 (ix2 b 0) = BitVec.ofBool (decide (order g 1 = 1))
    ∧ k1_pay27 v118 v119 v120 v121 (ix2 b 0) = BitVec.ofBool (decide (order g 1 = 2))
    ∧ k1_pay28 v118 v119 v120 v121 (ix2 b 0) = BitVec.ofBool (decide (order g 1 = 3)) := by
  have m := second_greatest_apply v118 v119 v120 v121 b g h0 h1 h2 h3
  obtain ⟨f0, f1, f2, f3⟩ := masked_apply v118 v119 v120 v121 b g h0 h1 h2 h3
  obtain ⟨hne, -, -, -, D⟩ := order_spec g
  have hb : (⊥ : EReal) ≠ g (order g 1) := by
    obtain ⟨r, hr⟩ := hg (order g 1)
    rw [hr]; exact (EReal.bot_lt_coe r).ne
  have n : ∀ j, j < order g 1 → j ≠ order g 0 → g j ≠ g (order g 1) := fun j h h' => (D j h h').ne
  unfold k1_pay28 k1_pay27 k1_pay26 k1_pay25 k1_pay24
  generalize k1_pay23 v118 v119 v120 v121 = M at m ⊢
  generalize k1_pay19 v118 v119 v120 v121 = F0 at *
  generalize k1_pay20 v118 v119 v120 v121 = F1 at *
  generalize k1_pay21 v118 v119 v120 v121 = F2 at *
  generalize k1_pay22 v118 v119 v120 v121 = F3 at *
  pointwise
  rw [f0, f1, f2, f3, m]
  clear m D f0 f1 f2 f3
  generalize order g 0 = f at *
  generalize order g 1 = s at *
  have n0 := n 0; have n1 := n 1; have n2 := n 2
  fin_cases f <;> fin_cases s <;> simp at hne <;> simp at n0 n1 n2 hb <;>
    simp [n0, n1, n2, hb, IntOp.andi, IntOp.ori, IntOp.xori]

/-- The first expert's share. -/
theorem share_apply : k1_pay29 v118 v119 v120 v121 (ix2 b 0) = share g := by
  have m := greatest_apply v118 v119 v120 v121 b g h0 h1 h2 h3
  have m' := second_greatest_apply v118 v119 v120 v121 b g h0 h1 h2 h3
  unfold k1_pay29 share
  generalize k1_pay13 v118 v119 v120 v121 = M at *
  generalize k1_pay23 v118 v119 v120 v121 = M' at *
  pointwise
  rw [m, m']
end

/-- A flag as a number. -/
theorem flag_number (p : Prop) [Decidable p] :
    (FloatOps.sitofp FTy.f32 (BitVec.setWidth 32 (BitVec.ofBool (decide p))) : Ideal .f32) = (if p then (1 : EReal) else 0) := by
  change (((BitVec.setWidth 32 (BitVec.ofBool (decide p))).toInt : ℝ) : EReal) = _
  by_cases h : p <;> simp [h]

/-- The sum over the four experts weighted by the flags is the mixture of the two. -/
theorem sum_flags (g y : Fin 4 → EReal) :
    (((0 + (share g * (if order g 0 = 0 then 1 else 0) + (1 - share g) * (if order g 1 = 0 then 1 else 0)) * y 0)
      + (share g * (if order g 0 = 1 then 1 else 0) + (1 - share g) * (if order g 1 = 1 then 1 else 0)) * y 1)
      + (share g * (if order g 0 = 2 then 1 else 0) + (1 - share g) * (if order g 1 = 2 then 1 else 0)) * y 2)
      + (share g * (if order g 0 = 3 then 1 else 0) + (1 - share g) * (if order g 1 = 3 then 1 else 0)) * y 3
    = mixture g y := by
  obtain ⟨hne, -⟩ := order_spec g
  unfold mixture
  generalize share g = w
  generalize order g 0 = f at *
  generalize order g 1 = s at *
  fin_cases f <;> fin_cases s <;> simp at hne <;> simp <;> exact add_comm _ _

end Cert.Tie
-- ==== Proof.SecondCall.lean ====
/-
  What the second call writes: the second layer's projection and perceptron at the last rows, the final normalization,
  the router, the experts, the head and the trend's last value.
-/
module

public import proofs.«01_k».proof.Proof.Router
public import proofs.«01_k».proof.Proof.KernelIdealRun

@[expose] public section

set_option maxRecDepth 16384

noncomputable section

namespace Cert.Tie

open Idealize Idealize.ShloMosaic Idealize.ShloMosaic.Pointwise
open Cert.KernelIdeal Cert.KernelIdeal.Gen
open scoped BigOperators

/-- An array of rows loaded whole. -/
theorem ld2_all {m n : Nat} (X : Shape.Idx ⟨2, ![m, n]⟩ → EReal) (inb) (i : Fin m) (j : Fin n) :
    View.ld (Val := Elt Ideal) (e' := .f32) X (Rect.unit (s := ⟨2, ![m, n]⟩) ![0, 0] ![m, n] inb) (ix2 i j) = X (ix2 i j) := by
  refine View.ld_unit_apply_of (Val := Elt Ideal) (e := .f32) (S := ⟨2, ![m, n]⟩) X ![0, 0] ![m, n] inb (ix2 i j) (ix2 i j) fun a => ?_
  fin_cases a <;> simp

/-- An array of slabs loaded whole. -/
theorem ld3_all {l m n : Nat} (X : Shape.Idx ⟨3, ![l, m, n]⟩ → EReal) (inb) (h : Fin l) (i : Fin m) (j : Fin n) :
    View.ld (Val := Elt Ideal) (e' := .f32) X (Rect.unit (s := ⟨3, ![l, m, n]⟩) ![0, 0, 0] ![l, m, n] inb) (ix3 h i j) = X (ix3 h i j) := by
  refine View.ld_unit_apply_of (Val := Elt Ideal) (e := .f32) (S := ⟨3, ![l, m, n]⟩) X ![0, 0, 0] ![l, m, n] inb (ix3 h i j) (ix3 h i j) fun a => ?_
  fin_cases a <;> simp

/-! ## The last rows through the second layer and the final normalization -/

/-- After the attention. -/
theorem mid2_apply (l : Layer) (x c : Fin 512 → EReal) (v0 v2 : Vec Ideal S4x512 .f32) (v4 : Vec Ideal S1x512x512 .f32)
    (v10 v13 v14 : Vec Ideal S1x512 .f32) (b : Fin 4) (h0 : ∀ j, v0 (ix2 b j) = x j) (h2 : ∀ j, v2 (ix2 b j) = c j)
    (h4 : ∀ i k, v4 (ix3 0 i k) = l.wo i k) (h10 : ∀ j, v10 (ix2 0 j) = l.bo j) (h13 : ∀ j, v13 (ix2 0 j) = l.g1 j)
    (h14 : ∀ j, v14 (ix2 0 j) = l.o1 j) (j : Fin 512) : k1_pay2 v0 v2 v4 v10 v13 v14 (ix2 b j) = l.mid x c j := by
  unfold k1_pay2
  pointwise
  simp only [h0, h2, h4, h10, h13, h14]
  exact lnorm_of (l.midPre x c) l.g1 l.o1 j

/-- A row and its perceptron. -/
theorem ffPre2_apply (l : Layer) (x : Fin 512 → EReal) (v36 : FVec Ideal S4x512 .f32) (v37 : Vec Ideal S1x2048x512 .f32)
    (v42 : Vec Ideal S1x2048 .f32) (v53 : Vec Ideal S1x512x2048 .f32) (v59 : Vec Ideal S1x512 .f32) (b : Fin 4)
    (h36 : ∀ j, v36 (ix2 b j) = x j) (h37 : ∀ i k, v37 (ix3 0 i k) = l.w1 i k) (h42 : ∀ j, v42 (ix2 0 j) = l.b1 j)
    (h53 : ∀ i k, v53 (ix3 0 i k) = l.w2 i k) (h59 : ∀ j, v59 (ix2 0 j) = l.b2 j) (j : Fin 512) :
    k1_pay3 v36 v37 v42 v53 v59 (ix2 b j) = l.ffPre x j := by
  unfold k1_pay3
  pointwise
  simp only [h36, h37, h42, h53, h59]
  unfold Layer.ffPre
  rw [← add_assoc]
  refine congrArg (fun s => x j + s + l.b2 j) (Finset.sum_congr rfl fun k _ => ?_)
  rw [← gelu_f32]
  rfl

/-- The last rows normalized by the second layer and once more at the end. -/
theorem final2_apply (l : Layer) (x fg fo : Fin 512 → EReal) (v36 : FVec Ideal S4x512 .f32) (v37 : Vec Ideal S1x2048x512 .f32)
    (v42 : Vec Ideal S1x2048 .f32) (v53 : Vec Ideal S1x512x2048 .f32) (v59 v62 v63 v86 v88 : Vec Ideal S1x512 .f32) (b : Fin 4)
    (h36 : ∀ j, v36 (ix2 b j) = x j) (h37 : ∀ i k, v37 (ix3 0 i k) = l.w1 i k) (h42 : ∀ j, v42 (ix2 0 j) = l.b1 j)
    (h53 : ∀ i k, v53 (ix3 0 i k) = l.w2 i k) (h59 : ∀ j, v59 (ix2 0 j) = l.b2 j) (h62 : ∀ j, v62 (ix2 0 j) = l.g2 j)
    (h63 : ∀ j, v63 (ix2 0 j) = l.o2 j) (h86 : ∀ j, v86 (ix2 0 j) = fg j) (h88 : ∀ j, v88 (ix2 0 j) = fo j) (j : Fin 512) :
    k1_pay7 v62 v63 (k1_pay5 v36 v37 v42 v53 v59) (k1_pay6 v36 v37 v42 v53 v59) v86 v88 (ix2 b j)
      = lnorm (l.ff x) fg fo j := by
  have hp := ffPre2_apply l x v36 v37 v42 v53 v59 b h36 h37 h42 h53 h59
  unfold k1_pay7 k1_pay5 k1_pay6 k1_pay4
  generalize k1_pay3 v36 v37 v42 v53 v59 = P at hp ⊢
  pointwise
  simp only [hp, h62, h63, h86, h88]
  refine Eq.trans ?_ (lnorm_of (l.ff x) fg fo j)
  have e : ∀ j, l.ff x j = (l.ffPre x j - mean (l.ffPre x)) * Ideal.rsqrt (var (l.ffPre x) + Ideal.ofBits .f32 0x3727C5AC#32) * l.g2 j + l.o2 j :=
    fun j => (lnorm_of _ _ _ j).symm
  simp only [e, mean, var]

/-! ## The experts -/

/-- One expert's output from its arrays. -/
theorem expert_first (zf : Fin 512 → EReal) (e1 : Fin 1024 → Fin 512 → EReal) (b1 : Fin 1024 → EReal)
    (e2 : Fin 512 → Fin 1024 → EReal) (b2 : Fin 512 → EReal) (Z : FVec Ideal S4x512 .f32)
    (u1 : Vec Ideal S1x1024x512 .f32) (c1 : Vec Ideal S1x1x1024 .f32) (u2 : Vec Ideal S1x512x1024 .f32) (c2 : Vec Ideal S1x1x512 .f32)
    (b : Fin 4) (hZ : ∀ j, Z (ix2 b j) = zf j) (h1 : ∀ i k, u1 (ix3 0 i k) = e1 i k) (g1 : ∀ i, c1 (ix3 0 0 i) = b1 i)
    (h2 : ∀ i k, u2 (ix3 0 i k) = e2 i k) (g2 : ∀ i, c2 (ix3 0 0 i) = b2 i)
    (p q : IVec S4x1 1) (w : FVec Ideal S4x1 .f32) (A : FVec Ideal S4x512 .f32) (j : Fin 512) :
    k1_pay31 Z p q w A u1 c1 u2 c2 (ix2 b j)
      = A (ix2 b j) + (w (ix2 b 0) * FloatOps.sitofp FTy.f32 (BitVec.setWidth 32 (p (ix2 b 0)))
          + (1 - w (ix2 b 0)) * FloatOps.sitofp FTy.f32 (BitVec.setWidth 32 (q (ix2 b 0))))
        * lin (fun k => max (lin zf e1 b1 k) 0) e2 b2 j
    ∧ k1_pay34 p q w A (k1_pay32 Z u1) (k1_pay33 c1) u2 c2 (ix2 b j)
      = A (ix2 b j) + (w (ix2 b 0) * FloatOps.sitofp FTy.f32 (BitVec.setWidth 32 (p (ix2 b 0)))
          + (1 - w (ix2 b 0)) * FloatOps.sitofp FTy.f32 (BitVec.setWidth 32 (q (ix2 b 0))))
        * lin (fun k => max (lin zf e1 b1 k) 0) e2 b2 j
    ∧ k1_pay37 p q w A (k1_pay35 Z u1 c1) (k1_pay36 u2) c2 (ix2 b j)
      = A (ix2 b j) + (w (ix2 b 0) * FloatOps.sitofp FTy.f32 (BitVec.setWidth 32 (p (ix2 b 0)))
          + (1 - w (ix2 b 0)) * FloatOps.sitofp FTy.f32 (BitVec.setWidth 32 (q (ix2 b 0))))
        * lin (fun k => max (lin zf e1 b1 k) 0) e2 b2 j
    ∧ k1_pay38 Z u1 c1 u2 c2 (ix2 b j) = lin (fun k => max (lin zf e1 b1 k) 0) e2 b2 j := by
  refine ⟨?_, ?_, ?_, ?_⟩
  · unfold k1_pay31
    pointwise
    simp only [hZ, h1, h2, g1, g2, lin]
  · unfold k1_pay34 k1_pay32 k1_pay33
    pointwise
    simp only [hZ, h1, h2, g1, g2, lin]
  · unfold k1_pay37 k1_pay35 k1_pay36
    pointwise
    simp only [hZ, h1, h2, g1, g2, lin]
  · unfold k1_pay38
    pointwise
    simp only [hZ, h1, h2, g1, g2, lin]

/-- The last normalization, of the four experts' sum with the rows. -/
theorem moe_apply (y mg mo : Fin 512 → EReal) (Z : FVec Ideal S4x512 .f32) (q p : IVec S4x1 1) (w : FVec Ideal S4x1 .f32)
    (A E : FVec Ideal S4x512 .f32) (v296 v298 : Vec Ideal S1x512 .f32) (b : Fin 4)
    (hy : ∀ j, A (ix2 b j) + (w (ix2 b 0) * FloatOps.sitofp FTy.f32 (BitVec.setWidth 32 (p (ix2 b 0)))
          + (1 - w (ix2 b 0)) * FloatOps.sitofp FTy.f32 (BitVec.setWidth 32 (q (ix2 b 0)))) * E (ix2 b j) + Z (ix2 b j) = y j)
    (hg : ∀ j, v296 (ix2 0 j) = mg j) (ho : ∀ j, v298 (ix2 0 j) = mo j) (j : Fin 512) :
    k1_pay40 Z q w A E (k1_pay39 p w) v296 v298 (ix2 b j) = lnorm y mg mo j := by
  unfold k1_pay40 k1_pay39
  pointwise
  simp only [hy, hg, ho]
  exact lnorm_of y mg mo j

/-- The head and the trend. -/
theorem head_apply (y : Fin 512 → EReal) (wd : Fin 256 → Fin 512 → EReal) (bd : Fin 256 → EReal) (x : Fin 512 → Fin 256 → EReal)
    (Y : FVec Ideal S4x512 .f32) (v337 : Vec Ideal S256x512 .f32) (v341 : Vec Ideal S1x256 .f32) (v322 : Vec Ideal S4x4x256 .f32)
    (b : Fin 4) (hY : ∀ j, Y (ix2 b j) = y j) (hw : ∀ i k, v337 (ix2 i k) = wd i k) (hb : ∀ i, v341 (ix2 0 i) = bd i)
    (hx : ∀ (i : Fin 4) f, v322 (ix3 b i f) = x ⟨508 + i.val, by omega⟩ f) (f : Fin 256) :
    k1_pay1 Y (k1_pay42 v322) (k1_pay43 v322) v337 v341 (ix2 b f) = lin y wd bd f + trend (fun s => x s f) 511 := by
  unfold k1_pay1 k1_pay42 k1_pay43 k1_pay41
  pointwise
  rw [seventh]
  simp only [hY, hw, hb, hx]
  refine congrArg (fun s => lin y wd bd f + s * ((1 / 7 : ℝ) : EReal)) ?_
  unfold window padded
  simp

/-! ## The whole call -/

/-- The call's result is the network's. -/
theorem out25_apply (n : Net) (b : Fin 4) (x0 : Vec Ideal S4x512 .f32) (x1 : Vec Ideal S4x512 .f32) (x2 : Vec Ideal S1x512x512 .f32) (x3 : Vec Ideal S2x512 .f32) (x4 : Vec Ideal S2x512 .f32) (x5 : Vec Ideal S2x512 .f32) (x6 : Vec Ideal S1x2048x512 .f32) (x7 : Vec Ideal S2x2048 .f32) (x8 : Vec Ideal S1x512x2048 .f32) (x9 : Vec Ideal S2x512 .f32) (x10 : Vec Ideal S2x512 .f32) (x11 : Vec Ideal S2x512 .f32) (x12 : Vec Ideal S1x512 .f32) (x13 : Vec Ideal S1x512 .f32) (x14 : Vec Ideal S4x512 .f32) (x15 : Vec Ideal S1x4 .f32) (x16 : Vec Ideal S4x1024x512 .f32) (x17 : Vec Ideal S4x1x1024 .f32) (x18 : Vec Ideal S4x512x1024 .f32) (x19 : Vec Ideal S4x1x512 .f32) (x20 : Vec Ideal S1x512 .f32) (x21 : Vec Ideal S1x512 .f32) (x22 : Vec Ideal S256x512 .f32) (x23 : Vec Ideal S1x256 .f32) (x24 : Vec Ideal S4x4x256 .f32)
    (e0 : ∀ j, x0 (ix2 b j) = n.z1 b 511 j)
    (e1 : ∀ j, x1 (ix2 b j) = n.l1.ctx (n.z1 b) 511 j)
    (e2 : ∀ i k, x2 (ix3 0 i k) = n.l1.wo i k)
    (e3 : ∀ j, x3 (ix2 1 j) = n.l1.bo j)
    (e4 : ∀ j, x4 (ix2 1 j) = n.l1.g1 j)
    (e5 : ∀ j, x5 (ix2 1 j) = n.l1.o1 j)
    (e6 : ∀ i k, x6 (ix3 0 i k) = n.l1.w1 i k)
    (e7 : ∀ j, x7 (ix2 1 j) = n.l1.b1 j)
    (e8 : ∀ i k, x8 (ix3 0 i k) = n.l1.w2 i k)
    (e9 : ∀ j, x9 (ix2 1 j) = n.l1.b2 j)
    (e10 : ∀ j, x10 (ix2 1 j) = n.l1.g2 j)
    (e11 : ∀ j, x11 (ix2 1 j) = n.l1.o2 j)
    (e12 : ∀ j, x12 (ix2 0 j) = n.fg j)
    (e13 : ∀ j, x13 (ix2 0 j) = n.fo j)
    (e14 : ∀ e k, x14 (ix2 e k) = n.gw e k)
    (e15 : ∀ e, x15 (ix2 0 e) = n.gb e)
    (e16 : ∀ e i k, x16 (ix3 e i k) = n.ew1 e i k)
    (e17 : ∀ e i, x17 (ix3 e 0 i) = n.eb1 e i)
    (e18 : ∀ e i k, x18 (ix3 e i k) = n.ew2 e i k)
    (e19 : ∀ e i, x19 (ix3 e 0 i) = n.eb2 e i)
    (e20 : ∀ j, x20 (ix2 0 j) = n.mg j)
    (e21 : ∀ j, x21 (ix2 0 j) = n.mo j)
    (e22 : ∀ i k, x22 (ix2 i k) = n.wd i k)
    (e23 : ∀ i, x23 (ix2 0 i) = n.bd i)
    (e24 : ∀ (i : Fin 4) f, x24 (ix3 b i f) = n.x b ⟨508 + i.val, by omega⟩ f)
    (hr : ∀ e, IsReal (n.logit b e)) (f : Fin 256) :
    out1_25 x0 x1 x2 x3 x4 x5 x6 x7 x8 x9 x10 x11 x12 x13 x14 x15 x16 x17 x18 x19 x20 x21 x22 x23 x24 (ix2 b f) = n.result b f := by
  have hm : ∀ j, k1_pay44 x0 x1 x2 x3 x4 x5 x6 x7 x8 x9 x10 x11 x12 x13 x14 x15 x16 x17 x18 x19 x20 x21 x22 x23 x24 (ix2 b j) = n.l1.mid (n.z1 b 511) (n.l1.ctx (n.z1 b) 511) j := by
    unfold k1_pay44
    exact mid2_apply n.l1 _ _ _ _ _ _ _ _ b (fun j => (ld2_all x0 _ b j).trans (e0 j)) (fun j => (ld2_all x1 _ b j).trans (e1 j))
      (fun i k => (ld3_all x2 _ 0 i k).trans (e2 i k)) (fun j => (ld2_row x3 1 (by decide) _ j).trans (e3 j))
      (fun j => (ld2_row x4 1 (by decide) _ j).trans (e4 j)) (fun j => (ld2_row x5 1 (by decide) _ j).trans (e5 j))
  have hZ : ∀ j, k1_pay47 x0 x1 x2 x3 x4 x5 x6 x7 x8 x9 x10 x11 x12 x13 x14 x15 x16 x17 x18 x19 x20 x21 x22 x23 x24 (ix2 b j) = n.zf b j := by
    unfold k1_pay47 k1_pay45 k1_pay46
    generalize k1_pay44 x0 x1 x2 x3 x4 x5 x6 x7 x8 x9 x10 x11 x12 x13 x14 x15 x16 x17 x18 x19 x20 x21 x22 x23 x24 = M at hm ⊢
    exact final2_apply n.l1 _ n.fg n.fo M _ _ _ _ _ _ _ _ b hm
      (fun i k => (ld3_all x6 _ 0 i k).trans (e6 i k)) (fun j => (ld2_row x7 1 (by decide) _ j).trans (e7 j))
      (fun i k => (ld3_all x8 _ 0 i k).trans (e8 i k)) (fun j => (ld2_row x9 1 (by decide) _ j).trans (e9 j))
      (fun j => (ld2_row x10 1 (by decide) _ j).trans (e10 j)) (fun j => (ld2_row x11 1 (by decide) _ j).trans (e11 j))
      (fun j => (ld2_all x12 _ 0 j).trans (e12 j)) (fun j => (ld2_all x13 _ 0 j).trans (e13 j))
  have gw : ∀ e k, View.ld x14 r1_0 (ix2 e k) = n.gw e k := fun e k => (ld2_all x14 _ e k).trans (e14 e k)
  have gb : ∀ e, View.ld x15 r1_7 (ix2 0 e) = n.gb e := fun e => (ld2_all x15 _ 0 e).trans (e15 e)
  have a0 : k1_pay48 x0 x1 x2 x3 x4 x5 x6 x7 x8 x9 x10 x11 x12 x13 x14 x15 x16 x17 x18 x19 x20 x21 x22 x23 x24 (ix2 b 0) = n.logit b 0 := by
    unfold k1_pay48 k1_pay9 k1_pay8
    change _ at hZ
    unfold k1_pay47 at hZ
    generalize View.ld x14 r1_0 = G at gw ⊢
    generalize View.ld x15 r1_7 = H at gb ⊢
    generalize k1_pay7 (F := Ideal) (View.ld x10 r1_2) _ _ _ _ _ = Z at hZ ⊢
    pointwise
    simp only [hZ, gw, gb]
    rfl
  have a1 : k1_pay49 x0 x1 x2 x3 x4 x5 x6 x7 x8 x9 x10 x11 x12 x13 x14 x15 x16 x17 x18 x19 x20 x21 x22 x23 x24 (ix2 b 0) = n.logit b 1 := by
    unfold k1_pay49 k1_pay10 k1_pay8
    change _ at hZ
    unfold k1_pay47 at hZ
    generalize View.ld x14 r1_0 = G at gw ⊢
    generalize View.ld x15 r1_7 = H at gb ⊢
    generalize k1_pay7 (F := Ideal) (View.ld x10 r1_2) _ _ _ _ _ = Z at hZ ⊢
    pointwise
    simp only [hZ, gw, gb]
    rfl
  have a2 : k1_pay50 x0 x1 x2 x3 x4 x5 x6 x7 x8 x9 x10 x11 x12 x13 x14 x15 x16 x17 x18 x19 x20 x21 x22 x23 x24 (ix2 b 0) = n.logit b 2 := by
    unfold k1_pay50 k1_pay11 k1_pay8
    change _ at hZ
    unfold k1_pay47 at hZ
    generalize View.ld x14 r1_0 = G at gw ⊢
    generalize View.ld x15 r1_7 = H at gb ⊢
    generalize k1_pay7 (F := Ideal) (View.ld x10 r1_2) _ _ _ _ _ = Z at hZ ⊢
    pointwise
    simp only [hZ, gw, gb]
    rfl
  have a3 : k1_pay51 x0 x1 x2 x3 x4 x5 x6 x7 x8 x9 x10 x11 x12 x13 x14 x15 x16 x17 x18 x19 x20 x21 x22 x23 x24 (ix2 b 0) = n.logit b 3 := by
    unfold k1_pay51 k1_pay12 k1_pay8
    change _ at hZ
    unfold k1_pay47 at hZ
    generalize View.ld x14 r1_0 = G at gw ⊢
    generalize View.ld x15 r1_7 = H at gb ⊢
    generalize k1_pay7 (F := Ideal) (View.ld x10 r1_2) _ _ _ _ _ = Z at hZ ⊢
    pointwise
    simp only [hZ, gw, gb]
    rfl
  unfold out1_25
  rw [View.canon_cons_unit_lit' _ _ _ (by decide)]
  unfold k1_pay52
  generalize k1_pay47 x0 x1 x2 x3 x4 x5 x6 x7 x8 x9 x10 x11 x12 x13 x14 x15 x16 x17 x18 x19 x20 x21 x22 x23 x24 = Z at hZ ⊢
  generalize k1_pay48 x0 x1 x2 x3 x4 x5 x6 x7 x8 x9 x10 x11 x12 x13 x14 x15 x16 x17 x18 x19 x20 x21 x22 x23 x24 = A0 at a0 ⊢
  generalize k1_pay49 x0 x1 x2 x3 x4 x5 x6 x7 x8 x9 x10 x11 x12 x13 x14 x15 x16 x17 x18 x19 x20 x21 x22 x23 x24 = A1 at a1 ⊢
  generalize k1_pay50 x0 x1 x2 x3 x4 x5 x6 x7 x8 x9 x10 x11 x12 x13 x14 x15 x16 x17 x18 x19 x20 x21 x22 x23 x24 = A2 at a2 ⊢
  generalize k1_pay51 x0 x1 x2 x3 x4 x5 x6 x7 x8 x9 x10 x11 x12 x13 x14 x15 x16 x17 x18 x19 x20 x21 x22 x23 x24 = A3 at a3 ⊢
  have fl := first_apply A0 A1 A2 A3 b (n.logit b) a0 a1 a2 a3
  have sl := second_apply A0 A1 A2 A3 b (n.logit b) a0 a1 a2 a3 hr
  have wl := share_apply A0 A1 A2 A3 b (n.logit b) a0 a1 a2 a3
  refine head_apply _ n.wd n.bd (n.x b) _ _ _ _ b (fun j => ?_) (fun i k => (ld2_all x22 _ i k).trans (e22 i k))
    (fun i => (ld2_all x23 _ 0 i).trans (e23 i)) (fun i f => (ld3_all x24 _ b i f).trans (e24 i f)) f
  refine moe_apply _ n.mg n.mo _ _ _ _ _ _ _ _ b (fun j => ?_) (fun j => (ld2_all x20 _ 0 j).trans (e20 j))
    (fun j => (ld2_all x21 _ 0 j).trans (e21 j)) j
  have y0 := fun p q w A => (expert_first (n.zf b) (n.ew1 0) (n.eb1 0) (n.ew2 0) (n.eb2 0) Z (View.ld x16 r1_8) (View.ld x17 r1_9) (View.ld x18 r1_10) (View.ld x19 r1_11) b hZ
    (fun i k => (ld3_slab x16 0 (by decide) _ i k).trans (e16 0 i k)) (fun i => (ld3_slab x17 0 (by decide) _ 0 i).trans (e17 0 i))
    (fun i k => (ld3_slab x18 0 (by decide) _ i k).trans (e18 0 i k)) (fun i => (ld3_slab x19 0 (by decide) _ 0 i).trans (e19 0 i)) p q w A j).1
  have y1 := fun p q w A => (expert_first (n.zf b) (n.ew1 1) (n.eb1 1) (n.ew2 1) (n.eb2 1) Z (View.ld x16 r1_12) (View.ld x17 r1_13) (View.ld x18 r1_14) (View.ld x19 r1_15) b hZ
    (fun i k => (ld3_slab x16 1 (by decide) _ i k).trans (e16 1 i k)) (fun i => (ld3_slab x17 1 (by decide) _ 0 i).trans (e17 1 i))
    (fun i k => (ld3_slab x18 1 (by decide) _ i k).trans (e18 1 i k)) (fun i => (ld3_slab x19 1 (by decide) _ 0 i).trans (e19 1 i)) p q w A j).2.1
  have y2 := fun p q w A => (expert_first (n.zf b) (n.ew1 2) (n.eb1 2) (n.ew2 2) (n.eb2 2) Z (View.ld x16 r1_16) (View.ld x17 r1_17) (View.ld x18 r1_18) (View.ld x19 r1_19) b hZ
    (fun i k => (ld3_slab x16 2 (by decide) _ i k).trans (e16 2 i k)) (fun i => (ld3_slab x17 2 (by decide) _ 0 i).trans (e17 2 i))
    (fun i k => (ld3_slab x18 2 (by decide) _ i k).trans (e18 2 i k)) (fun i => (ld3_slab x19 2 (by decide) _ 0 i).trans (e19 2 i)) p q w A j).2.2.1
  have y3 := fun p q w A => (expert_first (n.zf b) (n.ew1 3) (n.eb1 3) (n.ew2 3) (n.eb2 3) Z (View.ld x16 r1_20) (View.ld x17 r1_21) (View.ld x18 r1_22) (View.ld x19 r1_23) b hZ
    (fun i k => (ld3_slab x16 3 (by decide) _ i k).trans (e16 3 i k)) (fun i => (ld3_slab x17 3 (by decide) _ 0 i).trans (e17 3 i))
    (fun i k => (ld3_slab x18 3 (by decide) _ i k).trans (e18 3 i k)) (fun i => (ld3_slab x19 3 (by decide) _ 0 i).trans (e19 3 i)) p q w A j).2.2.2
  rw [y2, y1, y0, y3 (k1_pay18 A0 A1 A2 A3) (k1_pay28 A0 A1 A2 A3) A0 Z]
  simp only [fl.1, fl.2.1, fl.2.2.1, fl.2.2.2, sl.1, sl.2.1, sl.2.2.1, sl.2.2.2, wl, hZ, flag_number]
  rw [show (k1_pay30 (F := Ideal)) (ix2 b j) = 0 by unfold k1_pay30; pointwise]
  exact congrArg (fun s => s + n.zf b j) (sum_flags (n.logit b) (fun e => n.expert b e j))

end Cert.Tie
-- ==== Proof.KernelValue.lean ====
/-
  What the kernel's program leaves in its result array: the network's result at the arguments it was launched with.
-/
module

public import proofs.«01_k».proof.Proof.KernelBlocks
public import proofs.«01_k».proof.Proof.FirstCallText
public import proofs.«01_k».proof.Proof.FirstCallLast
public import proofs.«01_k».proof.Proof.SecondCall

@[expose] public section

noncomputable section

namespace Cert.Tie

open Idealize.ShloMosaic Idealize.ShloMosaic.Pointwise
open Cert.KernelIdeal Cert.KernelIdeal.Gen
open scoped BigOperators

variable (m : (ℓ : Loc nD τ sig) → Buf (Elt Ideal) ℓ) (ρ : Dev nD → PrngReg) (c : Dev nD)

/-- The kernel's arrays as launched, read as functions of coordinates. -/
def kerNet : Net where
  x b t f := m ((c.tc : Thread nD τ).loc main_arg0) (ix3 b t f)
  wp i k := m ((c.tc : Thread nD τ).loc main_arg1) (ix2 i k)
  bp i := m ((c.tc : Thread nD τ).loc main_arg2) (ix1 i)
  pe t k := m ((c.tc : Thread nD τ).loc main_arg3) (ix2 t k)
  l0 := {
    wqkv := fun i k => m ((c.tc : Thread nD τ).loc main_arg4) (ix3 0 i k)
    bqkv := fun i => m ((c.tc : Thread nD τ).loc main_arg5) (ix2 0 i)
    wo := fun i k => m ((c.tc : Thread nD τ).loc main_arg6) (ix3 0 i k)
    bo := fun i => m ((c.tc : Thread nD τ).loc main_arg7) (ix2 0 i)
    g1 := fun i => m ((c.tc : Thread nD τ).loc main_arg8) (ix2 0 i)
    o1 := fun i => m ((c.tc : Thread nD τ).loc main_arg9) (ix2 0 i)
    g2 := fun i => m ((c.tc : Thread nD τ).loc main_arg10) (ix2 0 i)
    o2 := fun i => m ((c.tc : Thread nD τ).loc main_arg11) (ix2 0 i)
    w1 := fun i k => m ((c.tc : Thread nD τ).loc main_arg12) (ix3 0 i k)
    b1 := fun i => m ((c.tc : Thread nD τ).loc main_arg13) (ix2 0 i)
    w2 := fun i k => m ((c.tc : Thread nD τ).loc main_arg14) (ix3 0 i k)
    b2 := fun i => m ((c.tc : Thread nD τ).loc main_arg15) (ix2 0 i) }
  l1 := {
    wqkv := fun i k => m ((c.tc : Thread nD τ).loc main_arg4) (ix3 1 i k)
    bqkv := fun i => m ((c.tc : Thread nD τ).loc main_arg5) (ix2 1 i)
    wo := fun i k => m ((c.tc : Thread nD τ).loc main_arg6) (ix3 1 i k)
    bo := fun i => m ((c.tc : Thread nD τ).loc main_arg7) (ix2 1 i)
    g1 := fun i => m ((c.tc : Thread nD τ).loc main_arg8) (ix2 1 i)
    o1 := fun i => m ((c.tc : Thread nD τ).loc main_arg9) (ix2 1 i)
    g2 := fun i => m ((c.tc : Thread nD τ).loc main_arg10) (ix2 1 i)
    o2 := fun i => m ((c.tc : Thread nD τ).loc main_arg11) (ix2 1 i)
    w1 := fun i k => m ((c.tc : Thread nD τ).loc main_arg12) (ix3 1 i k)
    b1 := fun i => m ((c.tc : Thread nD τ).loc main_arg13) (ix2 1 i)
    w2 := fun i k => m ((c.tc : Thread nD τ).loc main_arg14) (ix3 1 i k)
    b2 := fun i => m ((c.tc : Thread nD τ).loc main_arg15) (ix2 1 i) }
  fg i := m ((c.tc : Thread nD τ).loc main_arg16) (ix1 i)
  fo i := m ((c.tc : Thread nD τ).loc main_arg17) (ix1 i)
  gw i k := m ((c.tc : Thread nD τ).loc main_arg18) (ix2 i k)
  gb i := m ((c.tc : Thread nD τ).loc main_arg19) (ix1 i)
  ew1 e i k := m ((c.tc : Thread nD τ).loc main_arg20) (ix3 e i k)
  eb1 e i := m ((c.tc : Thread nD τ).loc main_arg21) (ix2 e i)
  ew2 e i k := m ((c.tc : Thread nD τ).loc main_arg22) (ix3 e i k)
  eb2 e i := m ((c.tc : Thread nD τ).loc main_arg23) (ix2 e i)
  mg i := m ((c.tc : Thread nD τ).loc main_arg24) (ix1 i)
  mo i := m ((c.tc : Thread nD τ).loc main_arg25) (ix1 i)
  wd i k := m ((c.tc : Thread nD τ).loc main_arg26) (ix2 i k)
  bd i := m ((c.tc : Thread nD τ).loc main_arg27) (ix1 i)

/-- The rows that enter the first call, and its layer. -/
theorem entry_blocks (b : Fin 4) : blockEntry (iblk0 (V1 m ρ) c 0 t0_0) (iblk0 (V1 m ρ) c 1 t0_0) (iblk0 (V1 m ρ) c 2 t0_0) (iblk0 (V1 m ρ) c 3 t0_0) b = (kerNet m c).z0 b := by
  funext t j
  unfold blockEntry
  simp only [blk0_0, blk0_1, blk0_2, blk0_3]
  rfl

theorem layer_blocks : blockLayer (iblk0 (V1 m ρ) c 4 t0_0) (iblk0 (V1 m ρ) c 5 t0_0) (iblk0 (V1 m ρ) c 6 t0_0) (iblk0 (V1 m ρ) c 7 t0_0) (iblk0 (V1 m ρ) c 8 t0_0) (iblk0 (V1 m ρ) c 9 t0_0) (iblk0 (V1 m ρ) c 10 t0_0) (iblk0 (V1 m ρ) c 11 t0_0) (iblk0 (V1 m ρ) c 12 t0_0) (iblk0 (V1 m ρ) c 13 t0_0) (iblk0 (V1 m ρ) c 14 t0_0) (iblk0 (V1 m ρ) c 15 t0_0) = (kerNet m c).l0 := by
  unfold blockLayer
  simp only [blk0_4, blk0_5, blk0_6, blk0_7, blk0_8, blk0_9, blk0_10, blk0_11, blk0_12, blk0_13, blk0_14, blk0_15]
  rfl

/-- The first call's first output: the last row of each sequence after the first layer. -/
theorem first_out (hn : (kerNet m c).Real) (b : Fin 4) (j : Fin 512) :
    (outsAt0 (V1 m ρ) c t0_0).1 (ix2 b j) = (kerNet m c).z1 b 511 j := by
  unfold outsAt0
  rw [out16_eq]
  refine (out16_apply (iblk0 (V1 m ρ) c 0 t0_0) (iblk0 (V1 m ρ) c 1 t0_0) (iblk0 (V1 m ρ) c 2 t0_0) (iblk0 (V1 m ρ) c 3 t0_0) (iblk0 (V1 m ρ) c 4 t0_0) (iblk0 (V1 m ρ) c 5 t0_0) (iblk0 (V1 m ρ) c 6 t0_0) (iblk0 (V1 m ρ) c 7 t0_0) (iblk0 (V1 m ρ) c 8 t0_0) (iblk0 (V1 m ρ) c 9 t0_0) (iblk0 (V1 m ρ) c 10 t0_0) (iblk0 (V1 m ρ) c 11 t0_0) (iblk0 (V1 m ρ) c 12 t0_0) (iblk0 (V1 m ρ) c 13 t0_0) (iblk0 (V1 m ρ) c 14 t0_0) (iblk0 (V1 m ρ) c 15 t0_0) (fun b t j => ?_) (fun i k => ?_) (fun i => ?_) b j).trans ?_
  · rw [entry_blocks]; exact hn.z0 b t j
  · rw [blk0_4]; exact hn.l0.wqkv i k
  · rw [blk0_5]; exact hn.l0.bqkv i
  · rw [layer_blocks, entry_blocks]; rfl

/-- The first call's second output: the attention of the last rows in the second layer. -/
theorem second_out (hn : (kerNet m c).Real) (b : Fin 4) (j : Fin 512) :
    (outsAt0 (V1 m ρ) c t0_0).2 (ix2 b j) = (kerNet m c).l1.ctx ((kerNet m c).z1 b) 511 j := by
  unfold outsAt0
  rw [out17_eq]
  refine (out17_apply (iblk0 (V1 m ρ) c 0 t0_0) (iblk0 (V1 m ρ) c 1 t0_0) (iblk0 (V1 m ρ) c 2 t0_0) (iblk0 (V1 m ρ) c 3 t0_0) (iblk0 (V1 m ρ) c 4 t0_0) (iblk0 (V1 m ρ) c 5 t0_0) (iblk0 (V1 m ρ) c 6 t0_0) (iblk0 (V1 m ρ) c 7 t0_0) (iblk0 (V1 m ρ) c 8 t0_0) (iblk0 (V1 m ρ) c 9 t0_0) (iblk0 (V1 m ρ) c 10 t0_0) (iblk0 (V1 m ρ) c 11 t0_0) (iblk0 (V1 m ρ) c 12 t0_0) (iblk0 (V1 m ρ) c 13 t0_0) (iblk0 (V1 m ρ) c 14 t0_0) (iblk0 (V1 m ρ) c 15 t0_0) (fun b t j => ?_) (fun l i k => ?_) (fun l i => ?_) ?_ (kerNet m c).l1
    (fun i k => ?_) (fun i => ?_) b j).trans ?_
  · rw [entry_blocks]; exact hn.z0 b t j
  · rw [blk0_4]
    rcases (show l = 0 ∨ l = 1 by omega) with rfl | rfl
    · exact hn.l0.wqkv i k
    · exact hn.l1.wqkv i k
  · rw [blk0_5]
    rcases (show l = 0 ∨ l = 1 by omega) with rfl | rfl
    · exact hn.l0.bqkv i
    · exact hn.l1.bqkv i
  · rw [layer_blocks]; exact hn.l0
  · rw [blk0_4]; rfl
  · rw [blk0_5]; rfl
  · rw [layer_blocks, entry_blocks]; rfl

/-- THE KERNEL'S RESULT at an index. -/
theorem kernel_value (hn : (kerNet m c).Real) (b : Fin 4) (f : Fin 256) :
    W4 m ρ c (Proc.devRef .tc main_v11) (ix2 b f) = (kerNet m c).result b f := by
  rw [W4_main_v11, after1_25]
  exact out25_apply (kerNet m c) b (iblk1 (V3 m ρ) c 0 t1_0) (iblk1 (V3 m ρ) c 1 t1_0) (iblk1 (V3 m ρ) c 2 t1_0) (iblk1 (V3 m ρ) c 3 t1_0) (iblk1 (V3 m ρ) c 4 t1_0) (iblk1 (V3 m ρ) c 5 t1_0) (iblk1 (V3 m ρ) c 6 t1_0) (iblk1 (V3 m ρ) c 7 t1_0) (iblk1 (V3 m ρ) c 8 t1_0) (iblk1 (V3 m ρ) c 9 t1_0) (iblk1 (V3 m ρ) c 10 t1_0) (iblk1 (V3 m ρ) c 11 t1_0) (iblk1 (V3 m ρ) c 12 t1_0) (iblk1 (V3 m ρ) c 13 t1_0) (iblk1 (V3 m ρ) c 14 t1_0) (iblk1 (V3 m ρ) c 15 t1_0) (iblk1 (V3 m ρ) c 16 t1_0) (iblk1 (V3 m ρ) c 17 t1_0) (iblk1 (V3 m ρ) c 18 t1_0) (iblk1 (V3 m ρ) c 19 t1_0) (iblk1 (V3 m ρ) c 20 t1_0) (iblk1 (V3 m ρ) c 21 t1_0) (iblk1 (V3 m ρ) c 22 t1_0) (iblk1 (V3 m ρ) c 23 t1_0) (iblk1 (V3 m ρ) c 24 t1_0)
    (fun j => (blk1_0 m ρ c b j).trans (first_out m ρ c hn b j))
    (fun j => (blk1_1 m ρ c b j).trans (second_out m ρ c hn b j))
    (fun i k => blk1_2 m ρ c i k) (fun j => blk1_3 m ρ c 1 j) (fun j => blk1_4 m ρ c 1 j) (fun j => blk1_5 m ρ c 1 j)
    (fun i k => blk1_6 m ρ c i k) (fun j => blk1_7 m ρ c 1 j) (fun i k => blk1_8 m ρ c i k) (fun j => blk1_9 m ρ c 1 j)
    (fun j => blk1_10 m ρ c 1 j) (fun j => blk1_11 m ρ c 1 j) (fun j => blk1_12 m ρ c j) (fun j => blk1_13 m ρ c j)
    (fun e k => blk1_14 m ρ c e k) (fun e => blk1_15 m ρ c e) (fun e i k => blk1_16 m ρ c e i k) (fun e i => blk1_17 m ρ c e i)
    (fun e i k => blk1_18 m ρ c e i k) (fun e i => blk1_19 m ρ c e i) (fun j => blk1_20 m ρ c j) (fun j => blk1_21 m ρ c j)
    (fun i k => blk1_22 m ρ c i k) (fun i => blk1_23 m ρ c i) (fun i f => blk1_24 m ρ c b i f)
    (fun e => hn.logit b e) f

end Cert.Tie
-- ==== Proof.RefNet.lean ====
/-
  The reference's arrays as functions of coordinates, and its first values read at an index: the trend and the rows that
  enter the encoder.
-/
module

public import proofs.«01_k».proof.Proof.Spec
public import proofs.«01_k».proof.Proof.Gen.ReferenceIdeal.Run
public import Idealize.ShloMosaic.Lib.Tactic.CleanTypes

@[expose] public section

set_option maxRecDepth 16384

noncomputable section

namespace Cert.Tie

open Idealize.ShloMosaic Idealize.ShloMosaic.Pointwise
open Cert.ReferenceIdeal Cert.ReferenceIdeal.Gen Cert.ReferenceIdeal.Value
open scoped BigOperators

/-- The contents of the reference's buffers at the extended reals. -/
abbrev RefVal := Valuation τ sig (Elt Ideal)

variable (V : RefVal)

/-- The reference's arrays, read as functions of coordinates. -/
def refNet : Net where
  x b t f := V (Proc.devRef .tc main_arg0) (ix3 b t f)
  wp i k := V (Proc.devRef .tc main_arg1) (ix2 i k)
  bp i := V (Proc.devRef .tc main_arg2) (ix1 i)
  pe t k := V (Proc.devRef .tc main_arg3) (ix2 t k)
  l0 := {
    wqkv := fun i k => V (Proc.devRef .tc main_arg4) (ix3 0 i k)
    bqkv := fun i => V (Proc.devRef .tc main_arg5) (ix2 0 i)
    wo := fun i k => V (Proc.devRef .tc main_arg6) (ix3 0 i k)
    bo := fun i => V (Proc.devRef .tc main_arg7) (ix2 0 i)
    g1 := fun i => V (Proc.devRef .tc main_arg8) (ix2 0 i)
    o1 := fun i => V (Proc.devRef .tc main_arg9) (ix2 0 i)
    g2 := fun i => V (Proc.devRef .tc main_arg10) (ix2 0 i)
    o2 := fun i => V (Proc.devRef .tc main_arg11) (ix2 0 i)
    w1 := fun i k => V (Proc.devRef .tc main_arg12) (ix3 0 i k)
    b1 := fun i => V (Proc.devRef .tc main_arg13) (ix2 0 i)
    w2 := fun i k => V (Proc.devRef .tc main_arg14) (ix3 0 i k)
    b2 := fun i => V (Proc.devRef .tc main_arg15) (ix2 0 i) }
  l1 := {
    wqkv := fun i k => V (Proc.devRef .tc main_arg4) (ix3 1 i k)
    bqkv := fun i => V (Proc.devRef .tc main_arg5) (ix2 1 i)
    wo := fun i k => V (Proc.devRef .tc main_arg6) (ix3 1 i k)
    bo := fun i => V (Proc.devRef .tc main_arg7) (ix2 1 i)
    g1 := fun i => V (Proc.devRef .tc main_arg8) (ix2 1 i)
    o1 := fun i => V (Proc.devRef .tc main_arg9) (ix2 1 i)
    g2 := fun i => V (Proc.devRef .tc main_arg10) (ix2 1 i)
    o2 := fun i => V (Proc.devRef .tc main_arg11) (ix2 1 i)
    w1 := fun i k => V (Proc.devRef .tc main_arg12) (ix3 1 i k)
    b1 := fun i => V (Proc.devRef .tc main_arg13) (ix2 1 i)
    w2 := fun i k => V (Proc.devRef .tc main_arg14) (ix3 1 i k)
    b2 := fun i => V (Proc.devRef .tc main_arg15) (ix2 1 i) }
  fg i := V (Proc.devRef .tc main_arg16) (ix1 i)
  fo i := V (Proc.devRef .tc main_arg17) (ix1 i)
  gw i k := V (Proc.devRef .tc main_arg18) (ix2 i k)
  gb i := V (Proc.devRef .tc main_arg19) (ix1 i)
  ew1 e i k := V (Proc.devRef .tc main_arg20) (ix3 e i k)
  eb1 e i := V (Proc.devRef .tc main_arg21) (ix2 e i)
  ew2 e i k := V (Proc.devRef .tc main_arg22) (ix3 e i k)
  eb2 e i := V (Proc.devRef .tc main_arg23) (ix2 e i)
  mg i := V (Proc.devRef .tc main_arg24) (ix1 i)
  mo i := V (Proc.devRef .tc main_arg25) (ix1 i)
  wd i k := V (Proc.devRef .tc main_arg26) (ix2 i k)
  bd i := V (Proc.devRef .tc main_arg27) (ix1 i)

/-- The padded series. -/
theorem ref_padded (b : Fin 4) (i : Fin 518) (f : Fin 256) :
    res_main_v0 V (ix3 b i f) = padded (fun s => (refNet V).x b s f) i.val := by
  unfold res_main_v0
  clean_types
  pointwise
  unfold padded
  have e : (3 ≤ i.val ∧ i.val - 3 < 512) ↔ (3 ≤ i.val ∧ i.val < 515) := by omega
  have z : (FloatOps.sitofp FTy.f32 (0#32) : Ideal .f32) = 0 := by
    show ((((0#32 : BitVec 32).toInt : ℤ) : ℝ) : EReal) = 0
    simp
  by_cases h : 3 ≤ i.val ∧ i.val < 515
  · rw [dif_pos h, dif_pos (e.mpr h)]; rfl
  · rw [dif_neg h, dif_neg (fun q => h (e.mp q))]; exact z

/-- The trend. -/
theorem ref_trend (b : Fin 4) (t : Fin 512) (f : Fin 256) :
    res_main_v17 V (ix3 b t f) = trend (fun s => (refNet V).x b s f) t.val := by
  unfold res_main_v17
  clean_types
  pointwise
  rw [lit_7, Ideal.div_coe (by norm_num)]
  simp only [ref_padded, zero_add]
  generalize (refNet V).x b = X
  simp only [trend, window, Nat.add_comm]

/-- The rows that enter the encoder. -/
theorem ref_z0 (b : Fin 4) (t j : Fin 512) : res_main_v26 V (ix3 b t j) = (refNet V).z0 b t j := by
  unfold res_main_v26
  clean_types
  pointwise
  simp only [ref_trend]
  generalize res_main_v17 V = Z
  rfl

end Cert.Tie
-- ==== Proof.HostMax.lean ====
/-
  The maximum over the last of four axes, stated at any sizes, so that its use at the printed sizes is one step.
-/
module

public import Idealize.ShloMosaic.Lib.Pointwise
public import Idealize.ShloMosaic.PureOps.Ideal.Laws

@[expose] public section

open Idealize Idealize.ShloMosaic Idealize.ShloMosaic.Pointwise

namespace Cert.Tie

/-- A maximum over the last axis of four, of any sizes. -/
theorem hostMax_last {n0 n1 n2 n3 : Nat} {u : Shape} (X : FVec Ideal ⟨4, ![n0, n1, n2, n3]⟩ .f32) (w : BitVec 32)
    (h : (⟨4, ![n0, n1, n2, n3]⟩ : Shape).ReducesTo [3] ⟨3, ![n0, n1, n2]⟩) (hu : 0 < u.numel) (M : FVec Ideal ⟨3, ![n0, n1, n2]⟩ .f32)
    (hM : Host.reduce (FloatOps.maximumf (F := Ideal) (φ := .f32)) X (constant (F := Ideal) u .f32 w) h hu = M)
    (i : Fin n0) (j : Fin n1) (k : Fin n2) :
    M (ix3 i j k) = Finset.univ.fold max (Ideal.ofBits .f32 w) fun l => X (ix4 i j k l) :=
  hM ▸ (Host.reduce_eq_fold _ X _ h hu (ix3 i j k)).trans (h.fold_fiber_r4_a3 (ix3 i j k) _ _ X)

/-- The exponential of an array less its maximum over the last axis, at an index, of any sizes. -/
theorem expLess_last {n0 n1 n2 n3 : Nat} {u : Shape} {d : Fin u.rank → Fin 3} (X : FVec Ideal ⟨4, ![n0, n1, n2, n3]⟩ .f32) (w : BitVec 32)
    (h1 : (⟨4, ![n0, n1, n2, 1]⟩ : Shape).BroadcastsInDim ⟨4, ![n0, n1, n2, n3]⟩ ![0, 1, 2, 3])
    (h2 : (⟨3, ![n0, n1, n2]⟩ : Shape).BroadcastsInDim ⟨4, ![n0, n1, n2, 1]⟩ ![0, 1, 2])
    (h3 : u.BroadcastsInDim ⟨3, ![n0, n1, n2]⟩ d) (M : FVec Ideal ⟨3, ![n0, n1, n2]⟩ .f32)
    (i : Fin n0) (j : Fin n1) (k : Fin n2) (l : Fin n3) :
    Host.exp (subf X (broadcastInDim ⟨4, ![n0, n1, n2, n3]⟩ ![0, 1, 2, 3] h1 (broadcastInDim ⟨4, ![n0, n1, n2, 1]⟩ ![0, 1, 2] h2
      (maximumf (broadcastInDim ⟨3, ![n0, n1, n2]⟩ d h3 (constant (F := Ideal) u .f32 w)) M)))) (ix4 i j k l)
      = Ideal.exp (X (ix4 i j k l) - max (Ideal.ofBits .f32 w) (M (ix3 i j k))) := by
  refine congrArg (fun q => Ideal.exp (X (ix4 i j k l) - max (Ideal.ofBits .f32 w) (M q))) (funext fun a => Fin.ext ?_)
  have := i.isLt
  have := j.isLt
  have := k.isLt
  fin_cases a
  · show (if h : n0 = 1 then (⟨0, _⟩ : Fin n0) else ⟨(if h : n0 = 1 then (⟨0, _⟩ : Fin n0) else ⟨i.val, _⟩).val, _⟩).val = i.val
    split_ifs <;> simp <;> omega
  · show (if h : n1 = 1 then (⟨0, _⟩ : Fin n1) else ⟨(if h : n1 = 1 then (⟨0, _⟩ : Fin n1) else ⟨j.val, _⟩).val, _⟩).val = j.val
    split_ifs <;> simp <;> omega
  · show (if h : n2 = 1 then (⟨0, _⟩ : Fin n2) else ⟨(if h : n2 = 1 then (⟨0, _⟩ : Fin n2) else ⟨k.val, _⟩).val, _⟩).val = k.val
    split_ifs <;> simp <;> omega

end Cert.Tie
-- ==== Proof.RefLayer0.lean ====
/-
  Layer 0 of the reference's encoder read at an index.
-/
module

public import proofs.«01_k».proof.Proof.RefNet
public import proofs.«01_k».proof.Proof.HostMax

@[expose] public section

set_option maxRecDepth 16384

noncomputable section

namespace Cert.Tie

open Idealize.ShloMosaic Idealize.ShloMosaic.Pointwise
open Cert.ReferenceIdeal Cert.ReferenceIdeal.Gen Cert.ReferenceIdeal.Value
open scoped BigOperators

variable (V : RefVal)

/-! ### Layer 0 -/

/-- Queries, keys and values. -/
theorem ref_qkv0 (b : Fin 4) (t : Fin 512) (j : Fin 1536) :
    res_main_v35 V (ix3 b t j) = (refNet V).l0.qkv (fun t j => res_main_v26 V (ix3 b t j)) t j := by
  unfold res_main_v35
  clean_types
  pointwise
  generalize res_main_v26 V = Z
  rfl

/-- The scores of a head. -/
theorem ref_score0 (b : Fin 4) (h : Fin 8) (t s : Fin 512) :
    res_main_v50 V (ix4 b h t s) = score (fun e => res_main_v35 V (ix3 b t (qcol h e)))
      (fun s e => res_main_v35 V (ix3 b s (kcol h e))) s := by
  unfold res_main_v50
  clean_types
  pointwise
  generalize res_main_v35 V = Q
  rfl

/-- The weights of a head before their division by their sum. -/
theorem ref_weight0 (b : Fin 4) (h : Fin 8) (t s : Fin 512) :
    res_main_v57 V (ix4 b h t s) = weight (fun s => res_main_v50 V (ix4 b h t s)) s := by
  unfold res_main_v57
  generalize (res_main_v50 V : FVec Ideal S4x8x512x512 .f32) = S
  clean_types
  generalize hM : Host.reduce (FloatOps.maximumf (F := Ideal) (φ := .f32)) S _ _ _ = M
  have hm := hostMax_last S _ _ _ M hM
  clear hM
  rw [expLess_last, hm, lit_bot, max_eq_right bot_le]
  unfold weight top
  rfl

/-- The rows after the attention's projection, before the normalization, of the weights and the values. -/
theorem ref_mix0 (b : Fin 4) (t j : Fin 512) :
    (res_main_v74 V (ix3 b t j) : EReal) = (show EReal from res_main_v26 V (ix3 b t j))
      + (∑ k, (∑ s, Ideal.div (res_main_v57 V (ix4 b (hd k) t s) : EReal) (∑ i, (res_main_v57 V (ix4 b (hd k) t i) : EReal))
        * (res_main_v35 V (ix3 b s (vcol (hd k) (ln k))) : EReal)) * (refNet V).l0.wo j k)
      + (refNet V).l0.bo j := by
  unfold res_main_v74
  generalize (res_main_v26 V : FVec Ideal S4x512x512 .f32) = Z
  generalize (res_main_v57 V : FVec Ideal S4x8x512x512 .f32) = W
  generalize (res_main_v35 V : FVec Ideal S4x512x1536 .f32) = Q
  clean_types
  pointwise
  simp only [vcol_hd]
  rfl

/-- The rows after the attention's projection, before the normalization. -/
theorem ref_attn0 (b : Fin 4) (t j : Fin 512) :
    res_main_v74 V (ix3 b t j) = (refNet V).l0.midPre (fun j => res_main_v26 V (ix3 b t j))
      ((refNet V).l0.ctx (fun t j => res_main_v26 V (ix3 b t j)) t) j := by
  have hm := ref_mix0 V b t j
  have hw := ref_weight0 V
  have hs := ref_score0 V
  have hq := ref_qkv0 V
  generalize (res_main_v74 V : FVec Ideal S4x512x512 .f32) = A at hm ⊢
  generalize (res_main_v57 V : FVec Ideal S4x8x512x512 .f32) = W at hm hw
  generalize (res_main_v50 V : FVec Ideal S4x8x512x512 .f32) = S at hw hs
  generalize (res_main_v35 V : FVec Ideal S4x512x1536 .f32) = Q at hm hs hq
  generalize (res_main_v26 V : FVec Ideal S4x512x512 .f32) = Z at hm hq ⊢
  refine hm.trans ?_
  simp only [hw, hs, hq]
  generalize (refNet V).l0 = L
  unfold Layer.midPre Layer.ctx Layer.head attend
  rfl

/-- The mean of such a row. -/
theorem ref_mean0 (b : Fin 4) (t : Fin 512) :
    res_main_v82 V (ix3 b t 0) = mean fun j => res_main_v74 V (ix3 b t j) := by
  unfold res_main_v82
  clean_types
  pointwise
  generalize res_main_v74 V = Z
  rfl

/-- The row about its mean. -/
theorem ref_dev0 (b : Fin 4) (t j : Fin 512) :
    res_main_v84 V (ix3 b t j) = dev (fun j => res_main_v74 V (ix3 b t j)) j := by
  unfold res_main_v84
  clean_types
  pointwise
  rw [ref_mean0]
  generalize res_main_v74 V = Z
  rfl

/-- The rows after the attention. -/
theorem ref_mid0 (b : Fin 4) (t j : Fin 512) :
    res_main_v102 V (ix3 b t j) = (refNet V).l0.mid (fun j => res_main_v26 V (ix3 b t j))
      ((refNet V).l0.ctx (fun t j => res_main_v26 V (ix3 b t j)) t) j := by
  unfold res_main_v102
  clean_types
  pointwise
  simp only [ref_mean0, ref_dev0, ref_attn0]
  generalize res_main_v26 V = Z
  rfl

/-- The perceptron's hidden values before the gelu. -/
theorem ref_hid0 (b : Fin 4) (t : Fin 512) (k : Fin 2048) :
    res_main_v111 V (ix3 b t k)
      = lin (fun j => res_main_v102 V (ix3 b t j)) (refNet V).l0.w1 (refNet V).l0.b1 k := by
  unfold res_main_v111
  clean_types
  pointwise
  generalize res_main_v102 V = Z
  rfl

/-- The rows after the perceptron, before the normalization. -/
theorem ref_ff0 (b : Fin 4) (t j : Fin 512) :
    res_main_v131 V (ix3 b t j) = (refNet V).l0.ffPre (fun j => res_main_v102 V (ix3 b t j)) j := by
  unfold res_main_v131
  clean_types
  pointwise
  simp only [ref_hid0]
  generalize res_main_v102 V = Z
  rfl

/-- The mean of such a row. -/
theorem ref_mean0' (b : Fin 4) (t : Fin 512) :
    res_main_v139 V (ix3 b t 0) = mean fun j => res_main_v131 V (ix3 b t j) := by
  unfold res_main_v139
  clean_types
  pointwise
  generalize res_main_v131 V = Z
  rfl

/-- The row about its mean. -/
theorem ref_dev0' (b : Fin 4) (t j : Fin 512) :
    res_main_v141 V (ix3 b t j) = dev (fun j => res_main_v131 V (ix3 b t j)) j := by
  unfold res_main_v141
  clean_types
  pointwise
  rw [ref_mean0']
  generalize res_main_v131 V = Z
  rfl

/-- The rows after the layer. -/
theorem ref_out0 (b : Fin 4) (t j : Fin 512) :
    res_main_v159 V (ix3 b t j) = (refNet V).l0.out (fun t j => res_main_v26 V (ix3 b t j)) t j := by
  unfold res_main_v159
  clean_types
  pointwise
  simp only [ref_mean0', ref_dev0', ref_ff0, ref_mid0]
  generalize res_main_v26 V = Z
  rfl

end Cert.Tie
-- ==== Proof.RefLayer1.lean ====
/-
  Layer 1 of the reference's encoder read at an index.
-/
module

public import proofs.«01_k».proof.Proof.RefNet
public import proofs.«01_k».proof.Proof.HostMax

@[expose] public section

set_option maxRecDepth 16384

noncomputable section

namespace Cert.Tie

open Idealize.ShloMosaic Idealize.ShloMosaic.Pointwise
open Cert.ReferenceIdeal Cert.ReferenceIdeal.Gen Cert.ReferenceIdeal.Value
open scoped BigOperators

variable (V : RefVal)

/-! ### Layer 1 -/

/-- Queries, keys and values. -/
theorem ref_qkv1 (b : Fin 4) (t : Fin 512) (j : Fin 1536) :
    res_main_v168 V (ix3 b t j) = (refNet V).l1.qkv (fun t j => res_main_v159 V (ix3 b t j)) t j := by
  unfold res_main_v168
  clean_types
  pointwise
  generalize res_main_v159 V = Z
  rfl

/-- The scores of a head. -/
theorem ref_score1 (b : Fin 4) (h : Fin 8) (t s : Fin 512) :
    res_main_v183 V (ix4 b h t s) = score (fun e => res_main_v168 V (ix3 b t (qcol h e)))
      (fun s e => res_main_v168 V (ix3 b s (kcol h e))) s := by
  unfold res_main_v183
  clean_types
  pointwise
  generalize res_main_v168 V = Q
  rfl

/-- The weights of a head before their division by their sum. -/
theorem ref_weight1 (b : Fin 4) (h : Fin 8) (t s : Fin 512) :
    res_main_v190 V (ix4 b h t s) = weight (fun s => res_main_v183 V (ix4 b h t s)) s := by
  unfold res_main_v190
  generalize (res_main_v183 V : FVec Ideal S4x8x512x512 .f32) = S
  clean_types
  generalize hM : Host.reduce (FloatOps.maximumf (F := Ideal) (φ := .f32)) S _ _ _ = M
  have hm := hostMax_last S _ _ _ M hM
  clear hM
  rw [expLess_last, hm, lit_bot, max_eq_right bot_le]
  unfold weight top
  rfl

/-- The rows after the attention's projection, before the normalization, of the weights and the values. -/
theorem ref_mix1 (b : Fin 4) (t j : Fin 512) :
    (res_main_v207 V (ix3 b t j) : EReal) = (show EReal from res_main_v159 V (ix3 b t j))
      + (∑ k, (∑ s, Ideal.div (res_main_v190 V (ix4 b (hd k) t s) : EReal) (∑ i, (res_main_v190 V (ix4 b (hd k) t i) : EReal))
        * (res_main_v168 V (ix3 b s (vcol (hd k) (ln k))) : EReal)) * (refNet V).l1.wo j k)
      + (refNet V).l1.bo j := by
  unfold res_main_v207
  generalize (res_main_v159 V : FVec Ideal S4x512x512 .f32) = Z
  generalize (res_main_v190 V : FVec Ideal S4x8x512x512 .f32) = W
  generalize (res_main_v168 V : FVec Ideal S4x512x1536 .f32) = Q
  clean_types
  pointwise
  simp only [vcol_hd]
  rfl

/-- The rows after the attention's projection, before the normalization. -/
theorem ref_attn1 (b : Fin 4) (t j : Fin 512) :
    res_main_v207 V (ix3 b t j) = (refNet V).l1.midPre (fun j => res_main_v159 V (ix3 b t j))
      ((refNet V).l1.ctx (fun t j => res_main_v159 V (ix3 b t j)) t) j := by
  have hm := ref_mix1 V b t j
  have hw := ref_weight1 V
  have hs := ref_score1 V
  have hq := ref_qkv1 V
  generalize (res_main_v207 V : FVec Ideal S4x512x512 .f32) = A at hm ⊢
  generalize (res_main_v190 V : FVec Ideal S4x8x512x512 .f32) = W at hm hw
  generalize (res_main_v183 V : FVec Ideal S4x8x512x512 .f32) = S at hw hs
  generalize (res_main_v168 V : FVec Ideal S4x512x1536 .f32) = Q at hm hs hq
  generalize (res_main_v159 V : FVec Ideal S4x512x512 .f32) = Z at hm hq ⊢
  refine hm.trans ?_
  simp only [hw, hs, hq]
  generalize (refNet V).l1 = L
  unfold Layer.midPre Layer.ctx Layer.head attend
  rfl

/-- The mean of such a row. -/
theorem ref_mean1 (b : Fin 4) (t : Fin 512) :
    res_main_v215 V (ix3 b t 0) = mean fun j => res_main_v207 V (ix3 b t j) := by
  unfold res_main_v215
  clean_types
  pointwise
  generalize res_main_v207 V = Z
  rfl

/-- The row about its mean. -/
theorem ref_dev1 (b : Fin 4) (t j : Fin 512) :
    res_main_v217 V (ix3 b t j) = dev (fun j => res_main_v207 V (ix3 b t j)) j := by
  unfold res_main_v217
  clean_types
  pointwise
  rw [ref_mean1]
  generalize res_main_v207 V = Z
  rfl

/-- The rows after the attention. -/
theorem ref_mid1 (b : Fin 4) (t j : Fin 512) :
    res_main_v235 V (ix3 b t j) = (refNet V).l1.mid (fun j => res_main_v159 V (ix3 b t j))
      ((refNet V).l1.ctx (fun t j => res_main_v159 V (ix3 b t j)) t) j := by
  unfold res_main_v235
  clean_types
  pointwise
  simp only [ref_mean1, ref_dev1, ref_attn1]
  generalize res_main_v159 V = Z
  rfl

/-- The perceptron's hidden values before the gelu. -/
theorem ref_hid1 (b : Fin 4) (t : Fin 512) (k : Fin 2048) :
    res_main_v244 V (ix3 b t k)
      = lin (fun j => res_main_v235 V (ix3 b t j)) (refNet V).l1.w1 (refNet V).l1.b1 k := by
  unfold res_main_v244
  clean_types
  pointwise
  generalize res_main_v235 V = Z
  rfl

/-- The rows after the perceptron, before the normalization. -/
theorem ref_ff1 (b : Fin 4) (t j : Fin 512) :
    res_main_v264 V (ix3 b t j) = (refNet V).l1.ffPre (fun j => res_main_v235 V (ix3 b t j)) j := by
  unfold res_main_v264
  clean_types
  pointwise
  simp only [ref_hid1]
  generalize res_main_v235 V = Z
  rfl

/-- The mean of such a row. -/
theorem ref_mean1' (b : Fin 4) (t : Fin 512) :
    res_main_v272 V (ix3 b t 0) = mean fun j => res_main_v264 V (ix3 b t j) := by
  unfold res_main_v272
  clean_types
  pointwise
  generalize res_main_v264 V = Z
  rfl

/-- The row about its mean. -/
theorem ref_dev1' (b : Fin 4) (t j : Fin 512) :
    res_main_v274 V (ix3 b t j) = dev (fun j => res_main_v264 V (ix3 b t j)) j := by
  unfold res_main_v274
  clean_types
  pointwise
  rw [ref_mean1']
  generalize res_main_v264 V = Z
  rfl

/-- The rows after the layer. -/
theorem ref_out1 (b : Fin 4) (t j : Fin 512) :
    res_main_v292 V (ix3 b t j) = (refNet V).l1.out (fun t j => res_main_v159 V (ix3 b t j)) t j := by
  unfold res_main_v292
  clean_types
  pointwise
  simp only [ref_mean1', ref_dev1', ref_ff1, ref_mid1]
  generalize res_main_v159 V = Z
  rfl

end Cert.Tie
-- ==== Proof.RefEncoder.lean ====
/-
  The rows of the reference after each of its two layers.
-/
module

public import proofs.«01_k».proof.Proof.RefLayer0
public import proofs.«01_k».proof.Proof.RefLayer1

@[expose] public section

set_option maxRecDepth 16384

noncomputable section

namespace Cert.Tie

open Idealize.ShloMosaic Idealize.ShloMosaic.Pointwise
open Cert.ReferenceIdeal Cert.ReferenceIdeal.Gen Cert.ReferenceIdeal.Value
open scoped BigOperators

variable (V : RefVal)

/-- The rows after the first layer. -/
theorem ref_z1 (b : Fin 4) (t j : Fin 512) : res_main_v159 V (ix3 b t j) = (refNet V).z1 b t j := by
  rw [ref_out0]
  simp only [ref_z0]
  rfl

/-- The rows after both layers. -/
theorem ref_z2 (b : Fin 4) (t j : Fin 512) : res_main_v292 V (ix3 b t j) = (refNet V).z2 b t j := by
  rw [ref_out1]
  simp only [ref_z1]
  rfl

end Cert.Tie
-- ==== Proof.RefPick.lean ====
/-
  The reference's top-k and gather read at an index.
-/
module

public import proofs.«01_k».proof.Proof.RefEncoder
public import proofs.«01_k».proof.Proof.Mixture

@[expose] public section

set_option maxRecDepth 16384

noncomputable section

namespace Cert.Tie

open Idealize.ShloMosaic Idealize.ShloMosaic.Pointwise
open Cert.ReferenceIdeal Cert.ReferenceIdeal.Gen Cert.ReferenceIdeal.Value
open scoped BigOperators

/-- An index of rank three with its last coordinate replaced. -/
theorem along_last {m n k : Nat} (a : Fin m) (b : Fin n) (c e : Fin k) :
    (ix3 a b c).along 2 e = ix3 a b e := by
  funext i; fin_cases i <;> rfl

/-- The top-k's compare as a truth value. -/
theorem greater_bit (a b : Ideal .f32) : (FloatOps.cmpfTotal .gt a b == 1#1) = decide (b < a) := by
  change (Ideal.cmp .ogt a b == 1#1) = _
  unfold Ideal.cmp
  by_cases h : b < a <;> simp [h]

/-- The two greatest values along the last axis. -/
theorem topK_value (x : FVec Ideal S4x512x4 .f32) (h) (b : Fin 4) (t : Fin 512) (r : Fin 2) :
    (Host.topK S4x512x2 2 (FloatOps.cmpfTotal .gt) x h).1 (ix3 b t r)
      = x (ix3 b t (order (fun e => x (ix3 b t e)) (r.castLE (by decide)))) := by
  unfold Host.topK Host.sort2
  pointwise
  simp only [along_last, greater_bit]
  rfl

/-- Their positions. -/
theorem topK_index (x : FVec Ideal S4x512x4 .f32) (h) (b : Fin 4) (t : Fin 512) (r : Fin 2) :
    (Host.topK S4x512x2 2 (FloatOps.cmpfTotal .gt) x h).2 (ix3 b t r)
      = BitVec.ofNat 32 (order (fun e => x (ix3 b t e)) (r.castLE (by decide))).val := by
  unfold Host.topK Host.sort2
  pointwise
  simp only [along_last, greater_bit]
  rfl

/-- The gather of one row per position: the row the index names. -/
theorem gather_pick (X : FVec Ideal S2048x4x512 .f32) (idx : IVec S2048x2x1 32) (r : Fin 2048) (k : Fin 2) (j : Fin 512)
    (e : Fin 4) (he : idx (ix3 r k 0) = BitVec.ofNat 32 e.val) :
    Host.gather gather_S2048x4x512_S2048x2x1_S2048x2x512_2_1_0_0_1_2_11512 X idx (ix3 r k j) = X (ix3 r e j) := by
  unfold Host.gather
  refine congrArg X (funext fun a => Fin.ext ?_)
  generalize hD : gather_S2048x4x512_S2048x2x1_S2048x2x512_2_1_0_0_1_2_11512 = D
  show D.start (ix3 r k j) idx a + D.batchCoord (ix3 r k j) a + D.offCoord (ix3 r k j) a = _
  subst hD
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S2048x4x512_S2048x2x1_S2048x2x512_2_1_0_0_1_2_11512.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S2048x4x512_S2048x2x1_S2048x2x512_2_1_0_0_1_2_11512.startIndexMap from List.mem_singleton.mpr rfl)]
    have hsi : ∀ c, gather_S2048x4x512_S2048x2x1_S2048x2x512_2_1_0_0_1_2_11512.siIdx (ix3 r k j) c = ix3 r k 0 := by
      intro c
      funext b; refine Fin.ext ?_
      match b with
      | ⟨0, _⟩ => rfl
      | ⟨1, _⟩ => rfl
      | ⟨2, _⟩ => exact Nat.lt_one_iff.mp c.isLt
    rw [hsi, he]
    show min (BitVec.ofNat 32 e.val).toInt.toNat 3 = e.val
    fin_cases e <;> rfl
  · rw [GatherDims.batchCoord_eq_zero _ _ _ (fun h => absurd (List.mem_singleton.mp h) (by decide))]
    unfold GatherDims.start
    rw [dif_neg (show ¬ (2 : Fin 3) ∈ gather_S2048x4x512_S2048x2x1_S2048x2x512_2_1_0_0_1_2_11512.startIndexMap from fun h => absurd (List.mem_singleton.mp h) (by decide))]
    simp only [Nat.zero_add]
    unfold GatherDims.offCoord
    rw [dif_pos (show (2 : Fin 3) ∈ gather_S2048x4x512_S2048x2x1_S2048x2x512_2_1_0_0_1_2_11512.sKept from (GatherDims.mem_sKept _ _).mpr ⟨fun h => absurd (List.mem_singleton.mp h) (by decide), fun h => absurd (List.mem_singleton.mp h) (by decide)⟩)]
    rfl

end Cert.Tie
-- ==== Proof.RefFinal.lean ====
/-
  The reference's last rows: the final normalization, the router's logits, the mean of the mixed rows.
-/
module

public import proofs.«01_k».proof.Proof.RefEncoder
public import proofs.«01_k».proof.Proof.Mixture

@[expose] public section

set_option maxRecDepth 16384

noncomputable section

namespace Cert.Tie

open Idealize.ShloMosaic Idealize.ShloMosaic.Pointwise
open Cert.ReferenceIdeal Cert.ReferenceIdeal.Gen Cert.ReferenceIdeal.Value
open scoped BigOperators

variable (V : RefVal)

/-- The mean of a row of the encoder. -/
theorem ref_mean2 (b : Fin 4) (t : Fin 512) :
    res_main_v296 V (ix3 b t 0) = mean fun j => res_main_v292 V (ix3 b t j) := by
  unfold res_main_v296
  clean_types
  pointwise
  generalize res_main_v292 V = Z
  rfl

/-- A row about its mean. -/
theorem ref_dev2 (b : Fin 4) (t j : Fin 512) :
    res_main_v298 V (ix3 b t j) = dev (fun j => res_main_v292 V (ix3 b t j)) j := by
  unfold res_main_v298
  clean_types
  pointwise
  rw [ref_mean2]
  generalize res_main_v292 V = Z
  rfl

/-- The rows after the final normalization. -/
theorem ref_final (b : Fin 4) (t j : Fin 512) :
    res_main_v316 V (ix3 b t j) = lnorm (fun j => res_main_v292 V (ix3 b t j)) (refNet V).fg (refNet V).fo j := by
  unfold res_main_v316
  clean_types
  pointwise
  simp only [ref_mean2, ref_dev2]
  generalize res_main_v292 V = Z
  rfl

/-- The last row after the final normalization. -/
theorem ref_zf (b : Fin 4) (j : Fin 512) : res_main_v316 V (ix3 b 511 j) = (refNet V).zf b j := by
  rw [ref_final]
  simp only [ref_z2]
  rfl

/-- The router's logits at the last row. -/
theorem ref_logit (b : Fin 4) (e : Fin 4) : res_main_v321 V (ix3 b 511 e) = (refNet V).logit b e := by
  unfold res_main_v321
  clean_types
  pointwise
  simp only [ref_zf]
  rfl

/-- The mean of a mixed row. -/
theorem ref_mean3 (b : Fin 4) (t : Fin 512) :
    res_main_v357 V (ix3 b t 0) = mean fun j => res_main_v353 V (ix3 b t j) := by
  unfold res_main_v357
  clean_types
  pointwise
  generalize res_main_v353 V = Z
  rfl

/-- A mixed row about its mean. -/
theorem ref_dev3 (b : Fin 4) (t j : Fin 512) :
    res_main_v359 V (ix3 b t j) = dev (fun j => res_main_v353 V (ix3 b t j)) j := by
  unfold res_main_v359
  clean_types
  pointwise
  rw [ref_mean3]
  generalize res_main_v353 V = Z
  rfl

end Cert.Tie
-- ==== Proof.RefMixed.lean ====
/-
  The reference's mixture of two experts at the last row.
-/
module

public import proofs.«01_k».proof.Proof.RefEncoder
public import proofs.«01_k».proof.Proof.Mixture
public import proofs.«01_k».proof.Proof.RefPick
public import proofs.«01_k».proof.Proof.RefFinal

@[expose] public section

set_option maxRecDepth 16384

noncomputable section

namespace Cert.Tie

open Idealize.ShloMosaic Idealize.ShloMosaic.Pointwise
open Cert.ReferenceIdeal Cert.ReferenceIdeal.Gen Cert.ReferenceIdeal.Value
open scoped BigOperators

variable (V : RefVal)

/-- The last row of a sequence among all rows. -/
def lastRow (b : Fin 4) : Fin 2048 := ⟨b.val * 512 + 511, by omega⟩

/-- The logits of the two experts. -/
theorem ref_values (b : Fin 4) (k : Fin 2) :
    res_main_values V (ix3 b 511 k)
      = (show EReal from (refNet V).logit b (order ((refNet V).logit b) (k.castLE (by decide)))) := by
  unfold res_main_values
  have h := ref_logit V b
  generalize (res_main_v321 V : FVec Ideal S4x512x4 .f32) = X at h ⊢
  clean_types
  rw [topK_value]
  simp only [h]

/-- The exponentials of the two logits about the greater. -/
theorem ref_exp (b : Fin 4) (k : Fin 2) :
    res_main_v328 V (ix3 b 511 k)
      = (show EReal from Ideal.exp ((refNet V).logit b (order ((refNet V).logit b) (k.castLE (by decide)))
        - (refNet V).logit b (order ((refNet V).logit b) 0))) := by
  unfold res_main_v328
  have h := ref_values V b
  generalize (res_main_values V : FVec Ideal S4x512x2 .f32) = X at h ⊢
  clean_types
  pointwise
  simp only [h]
  generalize (refNet V).logit b = g
  rw [lit_bot, max_eq_right bot_le]
  refine congrArg (fun m => Ideal.exp (g (order g (k.castLE (by decide))) - m)) ?_
  have A := (order_spec g).2.1
  rw [Fin.univ_succ]
  simp
  exact A _

/-- The positions of the two experts. -/
theorem ref_index (b : Fin 4) (k : Fin 2) :
    res_main_call2_v4 V (ix3 (lastRow b) k 0)
      = BitVec.ofNat 32 (order ((refNet V).logit b) (k.castLE (by decide))).val := by
  unfold res_main_call2_v4 res_main_v346
  have h := ref_logit V b
  generalize (res_main_v321 V : FVec Ideal S4x512x4 .f32) = X at h ⊢
  have hI := fun hs => topK_index X hs b 511 k
  simp only [h] at hI
  have hI := hI sliceFits_S4x512x4_S4x512x2
  generalize (refNet V).logit b = g at hI
  clean_types
  generalize (Host.topK S4x512x2 2 _ X _).2 = I at hI ⊢
  unfold lastRow
  pointwise
  have e : ∀ hp, (⟨(b.val * 512 + 511) % 512, hp⟩ : Fin 512) = 511 := fun hp =>
    Fin.ext (by show (b.val * 512 + 511) % 512 = 511; omega)
  rw [e, hI]
  generalize order g _ = f
  fin_cases f <;> rfl

/-- The word of a position is in range. -/
theorem in_range (e : Fin 4) :
    IntOp.andi (IntOp.cmpi .sge (BitVec.ofNat 32 e.val) 0#32) (IntOp.cmpi .sle (BitVec.ofNat 32 e.val) 3#32) = 1#1 := by
  fin_cases e <;> rfl

/-- The mixture added to the last row. -/
theorem ref_mixed (hg : ∀ b e, IsReal ((refNet V).logit b e)) (b : Fin 4) (j : Fin 512) :
    res_main_v353 V (ix3 b 511 j) = (show EReal from mixture ((refNet V).logit b) (fun e => (refNet V).expert b e j)
      + (refNet V).zf b j) := by
  have hX := ref_exp V b
  have hI := ref_index V b
  have hZ := ref_zf V b
  unfold res_main_v353
  generalize (res_main_v328 V : FVec Ideal S4x512x2 .f32) = X at hX ⊢
  generalize (res_main_call2_v4 V : IVec S2048x2x1 32) = I at hI ⊢
  generalize (res_main_v316 V : FVec Ideal S4x512x512 .f32) = Z at hZ ⊢
  clean_types
  pointwise
  have e : ∀ hp, (⟨(b.val * 512 + 511) % 512, hp⟩ : Fin 512) = 511 := fun hp =>
    Fin.ext (by show (b.val * 512 + 511) % 512 = 511; omega)
  have r : ∀ hp, (⟨b.val * 512 + 511, hp⟩ : Fin 2048) = lastRow b := fun _ => rfl
  simp only [e, r]
  have hG : ∀ Y (k : Fin 2), Host.gather gather_S2048x4x512_S2048x2x1_S2048x2x512_2_1_0_0_1_2_11512 Y I (ix3 (lastRow b) k j)
      = Y (ix3 (lastRow b) (order ((refNet V).logit b) (k.castLE (by decide))) j) :=
    fun Y k => gather_pick Y I (lastRow b) k j _ (hI k)
  have hs := share_softmax ((refNet V).logit b) (hg b)
  simp only [hG, Finset.univ_unique, Finset.fold_singleton, Fin.default_eq_zero, hI, in_range, Fin.sum_univ_two, hX, hZ]
  pointwise
  have d : ∀ hp, (⟨(lastRow b).val / 512, hp⟩ : Fin 4) = b := fun hp =>
    Fin.ext (by show (b.val * 512 + 511) / 512 = b.val; omega)
  have m : ∀ hp, (⟨(lastRow b).val % 512, hp⟩ : Fin 512) = 511 := fun hp =>
    Fin.ext (by show (b.val * 512 + 511) % 512 = 511; omega)
  have c0 : ∀ hp, Fin.castLE hp (0 : Fin 2) = (0 : Fin 4) := fun _ => rfl
  have c1 : ∀ hp, Fin.castLE hp (1 : Fin 2) = (1 : Fin 4) := fun _ => rfl
  have a1 : IntOp.andi 1#1 1#1 = 1#1 := rfl
  have sel : ∀ x y : EReal, Scalar.select 1#1 x y = x := fun _ _ => rfl
  have hE : ∀ o : Fin 4, (∑ x, (refNet V).ew2 o j x *
        max (∑ y, (refNet V).zf b y * (refNet V).ew1 o x y + (refNet V).eb1 o x) 0 + (refNet V).eb2 o j)
          = (refNet V).expert b o j := fun o =>
    congrArg (fun s : EReal => s + (refNet V).eb2 o j) (Finset.sum_congr rfl fun k _ => mul_comm _ _)
  simp only [d, m, c0, c1, a1, hZ]
  rw [hs.1, hs.2]
  refine congrArg (fun s : EReal => s + (refNet V).zf b j) ?_
  refine (congrArg₂ (fun s u : EReal => s + u) ?_ ?_)
  · rw [mul_comm]
    exact congrArg (fun s : EReal => share ((refNet V).logit b) * s) (hE _)
  · rw [mul_comm]
    exact congrArg (fun s : EReal => (1 - share ((refNet V).logit b)) * s) (hE _)

end Cert.Tie
-- ==== Proof.RefResult.lean ====
/-
  The reference's result at an index is the network's.
-/
module

public import proofs.«01_k».proof.Proof.RefMixed

@[expose] public section

set_option maxRecDepth 16384

noncomputable section

namespace Cert.Tie

open Idealize.ShloMosaic Idealize.ShloMosaic.Pointwise
open Cert.ReferenceIdeal Cert.ReferenceIdeal.Gen Cert.ReferenceIdeal.Value
open scoped BigOperators

variable (V : RefVal)

/-- The reference's result as a term of its arguments. -/
def refResult {F : FTy → Type} [FloatOps F] [Named F] (V : Valuation τ sig (Elt F)) :
    (Proc.devRef .tc main_v387 : DevRef τ sig).ty.Contents (Elt F) :=
  addf (addf (Host.dotGeneral dot_S4x512_S512x256_S4x256_1_0_0_1_n_n none (shapeCast _ (extractStridedSlice S4x1x512 ![0, 511, 0] (addf (mulf (Host.divf (subf (res_main_v353 V) (broadcastInDim S4x512x512 ![0, 1, 2] bcast_S4x512x1_S4x512x512_0_1_2 (res_main_v357 V))) (broadcastInDim S4x512x512 ![0, 1, 2] bcast_S4x512x1_S4x512x512_0_1_2 (Host.sqrt (addf (Host.divf (broadcastInDim S4x512x1 ![0, 1] bcast_S4x512_S4x512x1_0_1 (Host.reduceAdd (mulf (res_main_v359 V) (res_main_v359 V)) (constant S_ .f32 0x00000000#32) reducesTo_S4x512x512_S4x512_d2 h_S_)) (broadcastInDim S4x512x1 ![] bcast_S_S4x512x1 (constant S_ .f32 0x44000000#32))) (broadcastInDim S4x512x1 ![] bcast_S_S4x512x1 (constant S_ .f32 0x3727C5AC#32)))))) (broadcastInDim S4x512x512 ![0, 1, 2] bcast_S1x1x512_S4x512x512_0_1_2 (broadcastInDim S1x1x512 ![2] bcast_S512_S1x1x512_2 (V (Proc.devRef .tc main_arg24))))) (broadcastInDim S4x512x512 ![0, 1, 2] bcast_S1x1x512_S4x512x512_0_1_2 (broadcastInDim S1x1x512 ![2] bcast_S512_S1x1x512_2 (V (Proc.devRef .tc main_arg25))))) slices_S4x512x512_S4x1x512_0_511_0) shapeCasts_S4x1x512_S4x512) (transpose S512x256 [1, 0] (V (Proc.devRef .tc main_arg26)) transposes_S256x512_S512x256_1_0)) (broadcastInDim S4x256 ![0, 1] bcast_S1x256_S4x256_0_1 (broadcastInDim S1x256 ![1] bcast_S256_S1x256_1 (V (Proc.devRef .tc main_arg27))))) (shapeCast _ (extractStridedSlice S4x1x256 ![0, 511, 0] (res_main_v17 V) slices_S4x512x256_S4x1x256_0_511_0) shapeCasts_S4x1x256_S4x256)

/-- The reference's result at an index. -/
theorem refResult_apply (hg : ∀ b e, IsReal ((refNet V).logit b e)) (b : Fin 4) (f : Fin 256) :
    refResult (F := Ideal) V (ix2 b f) = (refNet V).result b f := by
  unfold refResult
  clean_types
  pointwise
  simp only [ref_mean3, ref_dev3, ref_mixed V hg, ref_trend]
  rfl

end Cert.Tie
-- ==== Proof.Tie.lean ====
/-
  The equation: launched with the same arguments, the kernel's program and the reference leave the same result.
-/
module

public import proofs.«01_k».proof.Defs
public import proofs.«01_k».proof.Proof.Finite
public import proofs.«01_k».proof.Proof.KernelValue
public import proofs.«01_k».proof.Proof.RefResult

@[expose] public section

noncomputable section

namespace Cert.Tie

open Idealize.ShloMosaic Idealize.ShloMosaic.Pointwise Idealize.ShloMosaic.StableHlo Idealize.SL.Sem

/-- Under the precondition the kernel's arrays from which scores and logits are computed hold real numbers. -/
theorem kerNet_real [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) : (kerNet m c).Real := by
  obtain ⟨e0, e1, e2, e3, e4, e5, e6, e7, e8, e9, e10, e11, e12, e13, e14, e15, e16, e17, e18, e19⟩ := real_of_finite _ _ _ _ _ _ _ _ _ _ _ _ _ _ _ _ _ _ _ _ _ _ _ _ _ _ _ _ (h c)
  exact {
    x := fun _ _ _ => e0 _, wp := fun _ _ => e1 _, bp := fun _ => e2 _, pe := fun _ _ => e3 _
    l0 := { wqkv := fun _ _ => e4 _, bqkv := fun _ => e5 _, wo := fun _ _ => e6 _, bo := fun _ => e7 _, g1 := fun _ => e8 _, o1 := fun _ => e9 _, g2 := fun _ => e10 _, o2 := fun _ => e11 _, w1 := fun _ _ => e12 _, b1 := fun _ => e13 _, w2 := fun _ _ => e14 _, b2 := fun _ => e15 _ }
    l1 := { wqkv := fun _ _ => e4 _, bqkv := fun _ => e5 _, wo := fun _ _ => e6 _, bo := fun _ => e7 _, g1 := fun _ => e8 _, o1 := fun _ => e9 _, g2 := fun _ => e10 _, o2 := fun _ => e11 _, w1 := fun _ _ => e12 _, b1 := fun _ => e13 _, w2 := fun _ _ => e14 _, b2 := fun _ => e15 _ }
    fg := fun _ => e16 _, fo := fun _ => e17 _, gw := fun _ _ => e18 _, gb := fun _ => e19 _ }

/-- The two programs' arguments agree on core `c`. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)

/-- Then both are launched with one network. -/
theorem nets_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (h : Agree m m' c) : kerNet m c = refNet (launchContents m' c) := by
  obtain ⟨h0, h1, h2, h3, h4, h5, h6, h7, h8, h9, h10, h11, h12, h13, h14, h15, h16, h17, h18, h19, h20, h21, h22, h23, h24, h25, h26, h27⟩ := h
  simp only [kerNet, refNet, Net.mk.injEq, Layer.mk.injEq]
  exact ⟨funext fun _ => funext fun _ => funext fun _ => (congrFun h0 _).symm,
    funext fun _ => funext fun _ => (congrFun h1 _).symm,
    funext fun _ => (congrFun h2 _).symm,
    funext fun _ => funext fun _ => (congrFun h3 _).symm,
    ⟨funext fun _ => funext fun _ => (congrFun h4 _).symm, funext fun _ => (congrFun h5 _).symm, funext fun _ => funext fun _ => (congrFun h6 _).symm, funext fun _ => (congrFun h7 _).symm, funext fun _ => (congrFun h8 _).symm, funext fun _ => (congrFun h9 _).symm, funext fun _ => (congrFun h10 _).symm, funext fun _ => (congrFun h11 _).symm, funext fun _ => funext fun _ => (congrFun h12 _).symm, funext fun _ => (congrFun h13 _).symm, funext fun _ => funext fun _ => (congrFun h14 _).symm, funext fun _ => (congrFun h15 _).symm⟩,
    ⟨funext fun _ => funext fun _ => (congrFun h4 _).symm, funext fun _ => (congrFun h5 _).symm, funext fun _ => funext fun _ => (congrFun h6 _).symm, funext fun _ => (congrFun h7 _).symm, funext fun _ => (congrFun h8 _).symm, funext fun _ => (congrFun h9 _).symm, funext fun _ => (congrFun h10 _).symm, funext fun _ => (congrFun h11 _).symm, funext fun _ => funext fun _ => (congrFun h12 _).symm, funext fun _ => (congrFun h13 _).symm, funext fun _ => funext fun _ => (congrFun h14 _).symm, funext fun _ => (congrFun h15 _).symm⟩,
    funext fun _ => (congrFun h16 _).symm,
    funext fun _ => (congrFun h17 _).symm,
    funext fun _ => funext fun _ => (congrFun h18 _).symm,
    funext fun _ => (congrFun h19 _).symm,
    funext fun _ => funext fun _ => funext fun _ => (congrFun h20 _).symm,
    funext fun _ => funext fun _ => (congrFun h21 _).symm,
    funext fun _ => funext fun _ => funext fun _ => (congrFun h22 _).symm,
    funext fun _ => funext fun _ => (congrFun h23 _).symm,
    funext fun _ => (congrFun h24 _).symm,
    funext fun _ => (congrFun h25 _).symm,
    funext fun _ => funext fun _ => (congrFun h26 _).symm,
    funext fun _ => (congrFun h27 _).symm⟩

/-- The reference's result array is the kernel's. -/
theorem results_agree [Cert.Pre_finite.Facts] (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hp : Cert.Pre_KernelIdeal_finite m) (c : Dev Cert.KernelIdeal.nD) (h : Agree m m' c) :
    refResult (F := Ideal) (launchContents m' c)
      = Cert.KernelIdeal.Gen.W4 m ρ c (Proc.devRef .tc Cert.KernelIdeal.main_v11) := by
  have hn := kerNet_real m hp c
  have hv := kernel_value m ρ c hn
  rw [nets_agree m m' c h] at hn hv
  funext i
  have hi : i = ix2 (i 0) (i 1) := eq_ix2 i
  rw [hi]
  exact (refResult_apply _ hn.logit (i 0) (i 1)).trans (hv (i 0) (i 1)).symm

end Cert.Tie
-- ==== Proof.lean ====
module

public import proofs.«01_k».proof.Defs
public import proofs.«01_k».proof.Proof.KernelRun
public import proofs.«01_k».proof.Proof.KernelIdealRun
public import proofs.«01_k».proof.Proof.Tie
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments as they were and has no semaphore to leave above zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each named constant of the kernel reads as the number that it stands for. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

/-- Launched with the same arguments, the precondition holding of them, the kernel's program and the reference both end with one result. -/
theorem algebraic [Cert.Pre_finite.Facts] : Cert.algebraic_KernelIdeal_ReferenceIdeal_pre_finite := by
  intro m ρ m' ρ' hp hag
  refine ⟨fun c => Cert.KernelIdeal.Gen.W4 m ρ c (Proc.devRef .tc Cert.KernelIdeal.main_v11),
    (θ_run Cert.KernelIdeal.defs _ _).mono (fun r h c => ⟨h.1 c _ (Cert.KernelIdeal.Gen.mem_uc Cert.KernelIdeal.main_v11 (by decide)),
        (h.1 c _ (Cert.KernelIdeal.Gen.mem_uc Cert.KernelIdeal.main_arg0 (by decide))).trans (Cert.KernelIdeal.Gen.W4_main_arg0 m ρ c),
        (h.1 c _ (Cert.KernelIdeal.Gen.mem_uc Cert.KernelIdeal.main_arg1 (by decide))).trans (Cert.KernelIdeal.Gen.W4_main_arg1 m ρ c),
        (h.1 c _ (Cert.KernelIdeal.Gen.mem_uc Cert.KernelIdeal.main_arg2 (by decide))).trans (Cert.KernelIdeal.Gen.W4_main_arg2 m ρ c),
        (h.1 c _ (Cert.KernelIdeal.Gen.mem_uc Cert.KernelIdeal.main_arg3 (by decide))).trans (Cert.KernelIdeal.Gen.W4_main_arg3 m ρ c),
        (h.1 c _ (Cert.KernelIdeal.Gen.mem_uc Cert.KernelIdeal.main_arg4 (by decide))).trans (Cert.KernelIdeal.Gen.W4_main_arg4 m ρ c),
        (h.1 c _ (Cert.KernelIdeal.Gen.mem_uc Cert.KernelIdeal.main_arg5 (by decide))).trans (Cert.KernelIdeal.Gen.W4_main_arg5 m ρ c),
        (h.1 c _ (Cert.KernelIdeal.Gen.mem_uc Cert.KernelIdeal.main_arg6 (by decide))).trans (Cert.KernelIdeal.Gen.W4_main_arg6 m ρ c),
        (h.1 c _ (Cert.KernelIdeal.Gen.mem_uc Cert.KernelIdeal.main_arg7 (by decide))).trans (Cert.KernelIdeal.Gen.W4_main_arg7 m ρ c),
        (h.1 c _ (Cert.KernelIdeal.Gen.mem_uc Cert.KernelIdeal.main_arg8 (by decide))).trans (Cert.KernelIdeal.Gen.W4_main_arg8 m ρ c),
        (h.1 c _ (Cert.KernelIdeal.Gen.mem_uc Cert.KernelIdeal.main_arg9 (by decide))).trans (Cert.KernelIdeal.Gen.W4_main_arg9 m ρ c),
        (h.1 c _ (Cert.KernelIdeal.Gen.mem_uc Cert.KernelIdeal.main_arg10 (by decide))).trans (Cert.KernelIdeal.Gen.W4_main_arg10 m ρ c),
        (h.1 c _ (Cert.KernelIdeal.Gen.mem_uc Cert.KernelIdeal.main_arg11 (by decide))).trans (Cert.KernelIdeal.Gen.W4_main_arg11 m ρ c),
        (h.1 c _ (Cert.KernelIdeal.Gen.mem_uc Cert.KernelIdeal.main_arg12 (by decide))).trans (Cert.KernelIdeal.Gen.W4_main_arg12 m ρ c),
        (h.1 c _ (Cert.KernelIdeal.Gen.mem_uc Cert.KernelIdeal.main_arg13 (by decide))).trans (Cert.KernelIdeal.Gen.W4_main_arg13 m ρ c),
        (h.1 c _ (Cert.KernelIdeal.Gen.mem_uc Cert.KernelIdeal.main_arg14 (by decide))).trans (Cert.KernelIdeal.Gen.W4_main_arg14 m ρ c),
        (h.1 c _ (Cert.KernelIdeal.Gen.mem_uc Cert.KernelIdeal.main_arg15 (by decide))).trans (Cert.KernelIdeal.Gen.W4_main_arg15 m ρ c),
        (h.1 c _ (Cert.KernelIdeal.Gen.mem_uc Cert.KernelIdeal.main_arg16 (by decide))).trans (Cert.KernelIdeal.Gen.W4_main_arg16 m ρ c),
        (h.1 c _ (Cert.KernelIdeal.Gen.mem_uc Cert.KernelIdeal.main_arg17 (by decide))).trans (Cert.KernelIdeal.Gen.W4_main_arg17 m ρ c),
        (h.1 c _ (Cert.KernelIdeal.Gen.mem_uc Cert.KernelIdeal.main_arg18 (by decide))).trans (Cert.KernelIdeal.Gen.W4_main_arg18 m ρ c),
        (h.1 c _ (Cert.KernelIdeal.Gen.mem_uc Cert.KernelIdeal.main_arg19 (by decide))).trans (Cert.KernelIdeal.Gen.W4_main_arg19 m ρ c),
        (h.1 c _ (Cert.KernelIdeal.Gen.mem_uc Cert.KernelIdeal.main_arg20 (by decide))).trans (Cert.KernelIdeal.Gen.W4_main_arg20 m ρ c),
        (h.1 c _ (Cert.KernelIdeal.Gen.mem_uc Cert.KernelIdeal.main_arg21 (by decide))).trans (Cert.KernelIdeal.Gen.W4_main_arg21 m ρ c),
        (h.1 c _ (Cert.KernelIdeal.Gen.mem_uc Cert.KernelIdeal.main_arg22 (by decide))).trans (Cert.KernelIdeal.Gen.W4_main_arg22 m ρ c),
        (h.1 c _ (Cert.KernelIdeal.Gen.mem_uc Cert.KernelIdeal.main_arg23 (by decide))).trans (Cert.KernelIdeal.Gen.W4_main_arg23 m ρ c),
        (h.1 c _ (Cert.KernelIdeal.Gen.mem_uc Cert.KernelIdeal.main_arg24 (by decide))).trans (Cert.KernelIdeal.Gen.W4_main_arg24 m ρ c),
        (h.1 c _ (Cert.KernelIdeal.Gen.mem_uc Cert.KernelIdeal.main_arg25 (by decide))).trans (Cert.KernelIdeal.Gen.W4_main_arg25 m ρ c),
        (h.1 c _ (Cert.KernelIdeal.Gen.mem_uc Cert.KernelIdeal.main_arg26 (by decide))).trans (Cert.KernelIdeal.Gen.W4_main_arg26 m ρ c),
        (h.1 c _ (Cert.KernelIdeal.Gen.mem_uc Cert.KernelIdeal.main_arg27 (by decide))).trans (Cert.KernelIdeal.Gen.W4_main_arg27 m ρ c)⟩)
      (Cert.KernelIdeal.Gen.run_all m ρ),
    (θ_run Cert.ReferenceIdeal.defs _ _).mono (fun r h c => ⟨(h c).1.trans (Cert.Tie.results_agree m ρ m' hp c (hag c)), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Tie.finiteFacts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    preserves,
    letI := Cert.Tie.finiteFacts
    algebraic⟩

end Cert.Proof

end
